-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_ReferenceExpertsIdeal_in_range [hPre_in_range : Cert.Pre_in_range.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_in_range.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5)) (m ((c.tc : Thread Cert.ReferenceExpertsIdeal.nD Cert.ReferenceExpertsIdeal.τ).loc Cert.ReferenceExpertsIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4)
      ∧ r.2.mem ((c.tc : Thread Cert.ReferenceInprojIdeal.nD Cert.ReferenceInprojIdeal.τ).loc Cert.ReferenceInprojIdeal.main_arg5) = m ((c.tc : Thread Cert.ReferenceInprojIdeal.nD Cert.ReferenceInprojIdeal.τ).loc Cert.ReferenceInprojIdeal.main_arg5))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6))
      ∧ r.2.sem = fun _ => 0)

def quiescent_ReferenceExpertsIdeal_pre_in_range [hReferenceExpertsIdeal : Cert.ReferenceExpertsIdeal.Facts] [hPre_in_range : Cert.Pre_in_range.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_in_range m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5)
      ∧ r.2.mem ((c.tc : Thread Cert.ReferenceExpertsIdeal.nD Cert.ReferenceExpertsIdeal.τ).loc Cert.ReferenceExpertsIdeal.main_arg6) = m ((c.tc : Thread Cert.ReferenceExpertsIdeal.nD Cert.ReferenceExpertsIdeal.τ).loc Cert.ReferenceExpertsIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Inproj_InprojIdeal : Prop :=
  True

def algebraic_InprojIdeal_ReferenceInprojIdeal [hInprojIdeal : Cert.InprojIdeal.Facts] [hReferenceInprojIdeal : Cert.ReferenceInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_InprojIdeal m →
    (∀ c : Dev Cert.InprojIdeal.nD,
      m' ((c.tc : Thread Cert.ReferenceInprojIdeal.nD Cert.ReferenceInprojIdeal.τ).loc Cert.ReferenceInprojIdeal.main_arg0) = m ((c.tc : Thread Cert.InprojIdeal.nD Cert.InprojIdeal.τ).loc Cert.InprojIdeal.main_arg0)
      ∧ m' ((c.tc : Thread Cert.ReferenceInprojIdeal.nD Cert.ReferenceInprojIdeal.τ).loc Cert.ReferenceInprojIdeal.main_arg1) = m ((c.tc : Thread Cert.InprojIdeal.nD Cert.InprojIdeal.τ).loc Cert.InprojIdeal.main_arg1)
      ∧ m' ((c.tc : Thread Cert.ReferenceInprojIdeal.nD Cert.ReferenceInprojIdeal.τ).loc Cert.ReferenceInprojIdeal.main_arg2) = m ((c.tc : Thread Cert.InprojIdeal.nD Cert.InprojIdeal.τ).loc Cert.InprojIdeal.main_arg2)
      ∧ m' ((c.tc : Thread Cert.ReferenceInprojIdeal.nD Cert.ReferenceInprojIdeal.τ).loc Cert.ReferenceInprojIdeal.main_arg3) = m ((c.tc : Thread Cert.InprojIdeal.nD Cert.InprojIdeal.τ).loc Cert.InprojIdeal.main_arg3)
      ∧ m' ((c.tc : Thread Cert.ReferenceInprojIdeal.nD Cert.ReferenceInprojIdeal.τ).loc Cert.ReferenceInprojIdeal.main_arg4) = m ((c.tc : Thread Cert.InprojIdeal.nD Cert.InprojIdeal.τ).loc Cert.InprojIdeal.main_arg4)
      ∧ m' ((c.tc : Thread Cert.ReferenceInprojIdeal.nD Cert.ReferenceInprojIdeal.τ).loc Cert.ReferenceInprojIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)) (v2 : (c : Dev Cert.InprojIdeal.nD) → Buf (Elt Ideal) ((c.tc : Thread Cert.InprojIdeal.nD Cert.InprojIdeal.τ).loc Cert.InprojIdeal.main_v19_2)) (v3 : (c : Dev Cert.InprojIdeal.nD) → Buf (Elt Ideal) ((c.tc : Thread Cert.InprojIdeal.nD Cert.InprojIdeal.τ).loc Cert.InprojIdeal.main_v19_3)) (v4 : (c : Dev Cert.InprojIdeal.nD) → Buf (Elt Ideal) ((c.tc : Thread Cert.InprojIdeal.nD Cert.InprojIdeal.τ).loc Cert.InprojIdeal.main_v19_4)) (v5 : (c : Dev Cert.InprojIdeal.nD) → Buf (Elt Ideal) ((c.tc : Thread Cert.InprojIdeal.nD Cert.InprojIdeal.τ).loc Cert.InprojIdeal.main_v19_5)) (v6 : (c : Dev Cert.InprojIdeal.nD) → Buf (Elt Ideal) ((c.tc : Thread Cert.InprojIdeal.nD Cert.InprojIdeal.τ).loc Cert.InprojIdeal.main_v19_6)) (v7 : (c : Dev Cert.InprojIdeal.nD) → Buf (Elt Ideal) ((c.tc : Thread Cert.InprojIdeal.nD Cert.InprojIdeal.τ).loc Cert.InprojIdeal.main_v19_7)) (v8 : (c : Dev Cert.InprojIdeal.nD) → Buf (Elt Ideal) ((c.tc : Thread Cert.InprojIdeal.nD Cert.InprojIdeal.τ).loc Cert.InprojIdeal.main_v19_8)) (v9 : (c : Dev Cert.InprojIdeal.nD) → Buf (Elt Ideal) ((c.tc : Thread Cert.InprojIdeal.nD Cert.InprojIdeal.τ).loc Cert.InprojIdeal.main_v19_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_v19_2) = v2 c
          ∧ r.2.mem ((c.tc : Thread Cert.InprojIdeal.nD Cert.InprojIdeal.τ).loc Cert.InprojIdeal.main_v19_3) = v3 c
          ∧ r.2.mem ((c.tc : Thread Cert.InprojIdeal.nD Cert.InprojIdeal.τ).loc Cert.InprojIdeal.main_v19_4) = v4 c
          ∧ r.2.mem ((c.tc : Thread Cert.InprojIdeal.nD Cert.InprojIdeal.τ).loc Cert.InprojIdeal.main_v19_5) = v5 c
          ∧ r.2.mem ((c.tc : Thread Cert.InprojIdeal.nD Cert.InprojIdeal.τ).loc Cert.InprojIdeal.main_v19_6) = v6 c
          ∧ r.2.mem ((c.tc : Thread Cert.InprojIdeal.nD Cert.InprojIdeal.τ).loc Cert.InprojIdeal.main_v19_7) = v7 c
          ∧ r.2.mem ((c.tc : Thread Cert.InprojIdeal.nD Cert.InprojIdeal.τ).loc Cert.InprojIdeal.main_v19_8) = v8 c
          ∧ r.2.mem ((c.tc : Thread Cert.InprojIdeal.nD Cert.InprojIdeal.τ).loc Cert.InprojIdeal.main_v19_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v91) = v0 c
          ∧ r.2.mem ((c.tc : Thread Cert.ReferenceInprojIdeal.nD Cert.ReferenceInprojIdeal.τ).loc Cert.ReferenceInprojIdeal.main_v92) = v1 c
          ∧ r.2.mem ((c.tc : Thread Cert.ReferenceInprojIdeal.nD Cert.ReferenceInprojIdeal.τ).loc Cert.ReferenceInprojIdeal.main_v93) = v2 c
          ∧ r.2.mem ((c.tc : Thread Cert.ReferenceInprojIdeal.nD Cert.ReferenceInprojIdeal.τ).loc Cert.ReferenceInprojIdeal.main_v94) = v3 c
          ∧ r.2.mem ((c.tc : Thread Cert.ReferenceInprojIdeal.nD Cert.ReferenceInprojIdeal.τ).loc Cert.ReferenceInprojIdeal.main_v88) = v4 c
          ∧ r.2.mem ((c.tc : Thread Cert.ReferenceInprojIdeal.nD Cert.ReferenceInprojIdeal.τ).loc Cert.ReferenceInprojIdeal.main_v90) = v5 c
          ∧ r.2.mem ((c.tc : Thread Cert.ReferenceInprojIdeal.nD Cert.ReferenceInprojIdeal.τ).loc Cert.ReferenceInprojIdeal.main_v34) = v6 c
          ∧ r.2.mem ((c.tc : Thread Cert.ReferenceInprojIdeal.nD Cert.ReferenceInprojIdeal.τ).loc Cert.ReferenceInprojIdeal.main_v35) = v7 c
          ∧ r.2.mem ((c.tc : Thread Cert.ReferenceInprojIdeal.nD Cert.ReferenceInprojIdeal.τ).loc Cert.ReferenceInprojIdeal.main_v37) = v8 c
          ∧ r.2.mem ((c.tc : Thread Cert.ReferenceInprojIdeal.nD Cert.ReferenceInprojIdeal.τ).loc Cert.ReferenceInprojIdeal.main_v38) = v9 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3)
          ∧ r.2.mem ((c.tc : Thread Cert.ReferenceInprojIdeal.nD Cert.ReferenceInprojIdeal.τ).loc Cert.ReferenceInprojIdeal.main_arg4) = m' ((c.tc : Thread Cert.ReferenceInprojIdeal.nD Cert.ReferenceInprojIdeal.τ).loc Cert.ReferenceInprojIdeal.main_arg4)
          ∧ r.2.mem ((c.tc : Thread Cert.ReferenceInprojIdeal.nD Cert.ReferenceInprojIdeal.τ).loc Cert.ReferenceInprojIdeal.main_arg5) = m' ((c.tc : Thread Cert.ReferenceInprojIdeal.nD Cert.ReferenceInprojIdeal.τ).loc Cert.ReferenceInprojIdeal.main_arg5))

def preserves_Experts_ExpertsIdeal : Prop :=
  True

def algebraic_ExpertsIdeal_ReferenceExpertsIdeal [hExpertsIdeal : Cert.ExpertsIdeal.Facts] [hReferenceExpertsIdeal : Cert.ReferenceExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_ExpertsIdeal m →
    (∀ c : Dev Cert.ExpertsIdeal.nD,
      m' ((c.tc : Thread Cert.ReferenceExpertsIdeal.nD Cert.ReferenceExpertsIdeal.τ).loc Cert.ReferenceExpertsIdeal.main_arg0) = m ((c.tc : Thread Cert.ExpertsIdeal.nD Cert.ExpertsIdeal.τ).loc Cert.ExpertsIdeal.main_arg0)
      ∧ m' ((c.tc : Thread Cert.ReferenceExpertsIdeal.nD Cert.ReferenceExpertsIdeal.τ).loc Cert.ReferenceExpertsIdeal.main_arg1) = m ((c.tc : Thread Cert.ExpertsIdeal.nD Cert.ExpertsIdeal.τ).loc Cert.ExpertsIdeal.main_arg1)
      ∧ m' ((c.tc : Thread Cert.ReferenceExpertsIdeal.nD Cert.ReferenceExpertsIdeal.τ).loc Cert.ReferenceExpertsIdeal.main_arg2) = m ((c.tc : Thread Cert.ExpertsIdeal.nD Cert.ExpertsIdeal.τ).loc Cert.ExpertsIdeal.main_arg2)
      ∧ m' ((c.tc : Thread Cert.ReferenceExpertsIdeal.nD Cert.ReferenceExpertsIdeal.τ).loc Cert.ReferenceExpertsIdeal.main_arg3) = m ((c.tc : Thread Cert.ExpertsIdeal.nD Cert.ExpertsIdeal.τ).loc Cert.ExpertsIdeal.main_arg3)
      ∧ m' ((c.tc : Thread Cert.ReferenceExpertsIdeal.nD Cert.ReferenceExpertsIdeal.τ).loc Cert.ReferenceExpertsIdeal.main_arg4) = m ((c.tc : Thread Cert.ExpertsIdeal.nD Cert.ExpertsIdeal.τ).loc Cert.ExpertsIdeal.main_arg4)
      ∧ m' ((c.tc : Thread Cert.ReferenceExpertsIdeal.nD Cert.ReferenceExpertsIdeal.τ).loc Cert.ReferenceExpertsIdeal.main_arg5) = m ((c.tc : Thread Cert.ExpertsIdeal.nD Cert.ExpertsIdeal.τ).loc Cert.ExpertsIdeal.main_arg5)
      ∧ m' ((c.tc : Thread Cert.ReferenceExpertsIdeal.nD Cert.ReferenceExpertsIdeal.τ).loc Cert.ReferenceExpertsIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v60) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4)
          ∧ r.2.mem ((c.tc : Thread Cert.ReferenceExpertsIdeal.nD Cert.ReferenceExpertsIdeal.τ).loc Cert.ReferenceExpertsIdeal.main_arg5) = m' ((c.tc : Thread Cert.ReferenceExpertsIdeal.nD Cert.ReferenceExpertsIdeal.τ).loc Cert.ReferenceExpertsIdeal.main_arg5)
          ∧ r.2.mem ((c.tc : Thread Cert.ReferenceExpertsIdeal.nD Cert.ReferenceExpertsIdeal.τ).loc Cert.ReferenceExpertsIdeal.main_arg6) = m' ((c.tc : Thread Cert.ReferenceExpertsIdeal.nD Cert.ReferenceExpertsIdeal.τ).loc Cert.ReferenceExpertsIdeal.main_arg6))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hReferenceInprojIdeal : Cert.ReferenceInprojIdeal.Facts) (hExperts : Cert.Experts.Facts) (hExpertsIdeal : Cert.ExpertsIdeal.Facts) (hReferenceExpertsIdeal : Cert.ReferenceExpertsIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_ReferenceInprojIdeal (hReferenceInprojIdeal := hReferenceInprojIdeal)
    ∧ quiescent_Experts (hExperts := hExperts) (hPre_in_range := hPre_in_range)
    ∧ quiescent_ExpertsIdeal (hExpertsIdeal := hExpertsIdeal) (hPre_in_range := hPre_in_range)
    ∧ quiescent_ReferenceExpertsIdeal (hReferenceExpertsIdeal := hReferenceExpertsIdeal)
    ∧ quiescent_ReferenceExpertsIdeal_pre_in_range (hReferenceExpertsIdeal := hReferenceExpertsIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_ReferenceInprojIdeal (hInprojIdeal := hInprojIdeal) (hReferenceInprojIdeal := hReferenceInprojIdeal)
    ∧ preserves_Experts_ExpertsIdeal
    ∧ algebraic_ExpertsIdeal_ReferenceExpertsIdeal (hExpertsIdeal := hExpertsIdeal) (hReferenceExpertsIdeal := hReferenceExpertsIdeal) (hPre_in_range := hPre_in_range)
-- ==== Pre_finite.lean ====
abbrev S65536x1024 : Shape := ⟨2, ![65536, 1024]⟩
abbrev S65536x2048 : Shape := ⟨2, ![65536, 2048]⟩
abbrev S65536x128 : Shape := ⟨2, ![65536, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S65536x16 : Shape := ⟨2, ![65536, 16]⟩
abbrev S_ : Shape := ⟨0, ![]⟩

class Facts : Prop where
  slices_S65536x128_S65536x16_0_80 : S65536x128.Slices ![0, 80] S65536x16
  bcast_S_S65536x2048 : S_.BroadcastsInDim S65536x2048 (![] : Fin 0 → Fin S65536x2048.rank)
  bcast_S_S65536x16 : S_.BroadcastsInDim S65536x16 (![] : Fin 0 → Fin S65536x16.rank)
  bcast_S_S4x2048 : S_.BroadcastsInDim S4x2048 (![] : Fin 0 → Fin S4x2048.rank)
  bcast_S_S2048 : S_.BroadcastsInDim S2048 (![] : Fin 0 → Fin S2048.rank)
  bcast_S_S16 : S_.BroadcastsInDim S16 (![] : Fin 0 → Fin S16.rank)

variable [Facts]

def fn_part1 {F : FTy → Type} [FloatOps F] (main_v3 : IVec S65536x2048 1) (main_v6 : IVec S65536x16 1) (main_v9 : IVec S4x2048 1) (main_v12 : IVec S2048 1) (main_v15 : IVec S16 1) (main_v16 : FVec F S16 .f32) (main_v17 : FVec F S16 .f32) : IVec S65536x2048 1 × IVec S65536x16 1 × IVec S4x2048 1 × IVec S2048 1 × IVec S16 1 × IVec S16 1 :=
  let main_v18 : IVec S16 1 := cmpf .olt main_v16 main_v17
  (main_v3, main_v6, main_v9, main_v12, main_v15, main_v18)

def fn {F : FTy → Type} [FloatOps F] (main_arg0 : FVec F S65536x1024 .f32) (main_arg1 : FVec F S65536x2048 .f32) (main_arg2 : FVec F S65536x128 .f32) (main_arg3 : FVec F S4x2048 .f32) (main_arg4 : FVec F S2048 .f32) (main_arg5 : FVec F S16 .f32) (main_arg6 : FVec F S16 .f32) (main_arg7 : FVec F S16 .f32) (main_arg8 : FVec F S1024 .f32) : IVec S65536x2048 1 × IVec S65536x16 1 × IVec S4x2048 1 × IVec S2048 1 × IVec S16 1 × IVec S16 1 :=
  let main_v0 : FVec F S65536x16 .f32 := (extractStridedSlice S65536x16 ![0, 80] · slices_S65536x128_S65536x16_0_80) main_arg2
  let main_v1 : FVec F S65536x2048 .f32 := Host.absf main_arg1
  let main_cst : FVec F S_ .f32 := constant S_ .f32 0x7F800000#32
  let main_v2 : FVec F S65536x2048 .f32 := broadcastInDim S65536x2048 ![] bcast_S_S65536x2048 main_cst
  let main_v3 : IVec S65536x2048 1 := cmpf .olt main_v1 main_v2
  let main_v4 : FVec F S65536x16 .f32 := Host.absf main_v0
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_v7 : FVec F S4x2048 .f32 := Host.absf main_arg3
  let main_cst_1 : FVec F S_ .f32 := constant S_ .f32 0x7F800000#32
  let main_v8 : FVec F S4x2048 .f32 := broadcastInDim S4x2048 ![] bcast_S_S4x2048 main_cst_1
  let main_v9 : IVec S4x2048 1 := cmpf .olt main_v7 main_v8
  let main_v10 : FVec F S2048 .f32 := Host.absf main_arg4
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_v13 : FVec F S16 .f32 := Host.absf main_arg5
  let main_cst_3 : FVec F S_ .f32 := constant S_ .f32 0x7F800000#32
  let main_v14 : FVec F S16 .f32 := broadcastInDim S16 ![] bcast_S_S16 main_cst_3
  let main_v15 : IVec S16 1 := cmpf .olt main_v13 main_v14
  let main_v16 : FVec F S16 .f32 := Host.absf main_arg6
  let main_cst_4 : FVec F S_ .f32 := constant S_ .f32 0x7F800000#32
  let main_v17 : FVec F S16 .f32 := broadcastInDim S16 ![] bcast_S_S16 main_cst_4
  fn_part1 (F := F) main_v3 main_v6 main_v9 main_v12 main_v15 main_v16 main_v17
-- ==== Pre_in_range.lean ====
abbrev S544 : Shape := ⟨1, ![544]⟩
abbrev S1 : Shape := ⟨1, ![1]⟩
abbrev S278528x1024 : Shape := ⟨2, ![278528, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : IVec S544 32) (main_arg1 : IVec S1 32) (main_arg2 : FVec F S278528x1024 .f32) (main_arg3 : FVec F S32x1024x2048 .f32) (main_arg4 : FVec F S32x2048 .f32) (main_arg5 : FVec F S32x1024x1024 .f32) (main_arg6 : FVec F S32x1024 .f32) : IVec S544 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 31#32
  let main_v2 : IVec S544 32 := broadcastInDim S544 ![] bcast_S_S544 main_c_0
  let main_v3 : IVec S544 1 := cmpi .sle main_arg0 main_v2
  let main_v4 : IVec S544 1 := andi main_v1 main_v3
  main_v4
-- ==== Kernel.lean ====
abbrev S65536x1024 : Shape := ⟨2, ![65536, 1024]⟩
abbrev S65536x2048 : Shape := ⟨2, ![65536, 2048]⟩
abbrev S65536x128 : Shape := ⟨2, ![65536, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S32x2048x128 : Shape := ⟨3, ![32, 2048, 128]⟩
abbrev S32x128x2048 : Shape := ⟨3, ![32, 128, 2048]⟩
abbrev S1x2048 : Shape := ⟨2, ![1, 2048]⟩
abbrev S1x16 : Shape := ⟨2, ![1, 16]⟩
abbrev S16x1 : Shape := ⟨2, ![16, 1]⟩
abbrev S16x64 : Shape := ⟨2, ![16, 64]⟩
abbrev S1x1024 : Shape := ⟨2, ![1, 1024]⟩
abbrev S256x1024 : Shape := ⟨2, ![256, 1024]⟩
abbrev S256x2048 : Shape := ⟨2, ![256, 2048]⟩
abbrev S256x128 : Shape := ⟨2, ![256, 128]⟩
abbrev S1x16x256 : Shape := ⟨3, ![1, 16, 256]⟩
abbrev S264x2048 : Shape := ⟨2, ![264, 2048]⟩
abbrev S8x128x128 : Shape := ⟨3, ![8, 128, 128]⟩
abbrev S8x2048 : Shape := ⟨2, ![8, 2048]⟩
abbrev S256x16 : Shape := ⟨2, ![256, 16]⟩
abbrev S16x256 : Shape := ⟨2, ![16, 256]⟩
abbrev S256x256 : Shape := ⟨2, ![256, 256]⟩
abbrev S1x128 : Shape := ⟨2, ![1, 128]⟩
abbrev S128x1 : Shape := ⟨2, ![128, 1]⟩
abbrev S256x1 : Shape := ⟨2, ![256, 1]⟩
abbrev S1x1 : Shape := ⟨2, ![1, 1]⟩
abbrev S1x256 : Shape := ⟨2, ![1, 256]⟩
abbrev S1x128x128 : Shape := ⟨3, ![1, 128, 128]⟩
abbrev S128x128 : Shape := ⟨2, ![128, 128]⟩
abbrev S256 : Shape := ⟨1, ![256]⟩

abbrev nBuf : Space → Nat
  | .hbm => 21
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536x2048, .f32⟩
  | .hbm, ⟨2, _⟩ => ⟨S65536x128, .f32⟩
  | .hbm, ⟨3, _⟩ => ⟨S4x2048, .f32⟩
  | .hbm, ⟨4, _⟩ => ⟨S2048, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S32x2048x128, .f32⟩
  | .hbm, ⟨10, _⟩ => ⟨S32x128x2048, .f32⟩
  | .hbm, ⟨11, _⟩ => ⟨S1x2048, .f32⟩
  | .hbm, ⟨12, _⟩ => ⟨S1x16, .f32⟩
  | .hbm, ⟨13, _⟩ => ⟨S16x1, .f32⟩
  | .hbm, ⟨14, _⟩ => ⟨S1x16, .f32⟩
  | .hbm, ⟨15, _⟩ => ⟨S16x1, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S65536x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S1x16x256, .f32⟩
  | .local _ .vmem, ⟨7, _⟩ => ⟨S1x16x256, .f32⟩
  | .local _ .vmem, ⟨8, _⟩ => ⟨S4x2048, .f32⟩
  | .local _ .vmem, ⟨9, _⟩ => ⟨S1x2048, .f32⟩
  | .local _ .vmem, ⟨10, _⟩ => ⟨S1x16, .f32⟩
  | .local _ .vmem, ⟨11, _⟩ => ⟨S16x1, .f32⟩
  | .local _ .vmem, ⟨12, _⟩ => ⟨S1x16, .f32⟩
  | .local _ .vmem, ⟨13, _⟩ => ⟨S16x1, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S264x2048, .f32⟩
  | .local _ .vmem, ⟨19, _⟩ => ⟨S8x128x128, .f32⟩
  | .local _ .vmem, ⟨20, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S65536x1024 : Shape := ⟨2, ![65536, 1024]⟩
abbrev S65536x2048 : Shape := ⟨2, ![65536, 2048]⟩
abbrev S65536x128 : Shape := ⟨2, ![65536, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S32x2048x1024 : Shape := ⟨3, ![32, 2048, 1024]⟩
abbrev S65536x16 : Shape := ⟨2, ![65536, 16]⟩
abbrev S32x2048x16 : Shape := ⟨3, ![32, 2048, 16]⟩
abbrev S32x2048x2048 : Shape := ⟨3, ![32, 2048, 2048]⟩
abbrev S_ : Shape := ⟨0, ![]⟩
abbrev S32x2051x2048 : Shape := ⟨3, ![32, 2051, 2048]⟩
abbrev S1x2048 : Shape := ⟨2, ![1, 2048]⟩
abbrev S1x1x2048 : Shape := ⟨3, ![1, 1, 2048]⟩
abbrev S32x2048x512 : Shape := ⟨3, ![32, 2048, 512]⟩
abbrev S32x2048x4x4x64 : Shape := ⟨5, ![32, 2048, 4, 4, 64]⟩
abbrev S32x2048x4x128 : Shape := ⟨4, ![32, 2048, 4, 128]⟩
abbrev S1x1x16 : Shape := ⟨3, ![1, 1, 16]⟩
abbrev S32x2048x4x4 : Shape := ⟨4, ![32, 2048, 4, 4]⟩
abbrev S4x4 : Shape := ⟨2, ![4, 4]⟩
abbrev S1x1x4x4 : Shape := ⟨4, ![1, 1, 4, 4]⟩
abbrev S32x4x4x2048 : Shape := ⟨4, ![32, 4, 4, 2048]⟩
abbrev S32x2048x4x4x1 : Shape := ⟨5, ![32, 2048, 4, 4, 1]⟩
abbrev S32x4x4x2048x1 : Shape := ⟨5, ![32, 4, 4, 2048, 1]⟩
abbrev S32x4x4x1x2048 : Shape := ⟨5, ![32, 4, 4, 1, 2048]⟩
abbrev S32x4x4x2048x2048 : Shape := ⟨5, ![32, 4, 4, 2048, 2048]⟩
abbrev S2048x2048 : Shape := ⟨2, ![2048, 2048]⟩
abbrev S32x4x2048x2048 : Shape := ⟨4, ![32, 4, 2048, 2048]⟩
abbrev S32x4x1x2048x2048 : Shape := ⟨5, ![32, 4, 1, 2048, 2048]⟩
abbrev S32x4x4x64x2048 : Shape := ⟨5, ![32, 4, 4, 64, 2048]⟩
abbrev S4x4x1 : Shape := ⟨3, ![4, 4, 1]⟩
abbrev S1x1x4x4x1 : Shape := ⟨5, ![1, 1, 4, 4, 1]⟩
abbrev S32x2048x4x256 : Shape := ⟨4, ![32, 2048, 4, 256]⟩
abbrev S32x2048x4 : Shape := ⟨3, ![32, 2048, 4]⟩
abbrev S32x2048x4x1 : Shape := ⟨4, ![32, 2048, 4, 1]⟩
abbrev S1x1x1024 : Shape := ⟨3, ![1, 1, 1024]⟩

abbrev nBuf : Space → Nat
  | .hbm => 160
  | .vmem => 0
  | .smem => 0
  | _ => 0

abbrev hbmTy0_0 (i : Nat) : BufTy := match i % 128 with
  | 0 => ⟨S65536x1024, .f32⟩
  | 1 => ⟨S65536x2048, .f32⟩
  | 2 => ⟨S65536x128, .f32⟩
  | 3 => ⟨S4x2048, .f32⟩
  | 4 => ⟨S2048, .f32⟩
  | 5 => ⟨S16, .f32⟩
  | 6 => ⟨S16, .f32⟩
  | 7 => ⟨S16, .f32⟩
  | 8 => ⟨S1024, .f32⟩
  | 9 => ⟨S32x2048x1024, .f32⟩
  | 10 => ⟨S65536x16, .f32⟩
  | 11 => ⟨S32x2048x16, .f32⟩
  | 12 => ⟨S32x2048x2048, .f32⟩
  | 13 => ⟨S_, .i32⟩
  | 14 => ⟨S_, .f32⟩
  | 15 => ⟨S32x2051x2048, .f32⟩
  | 16 => ⟨S32x2048x2048, .f32⟩
  | 17 => ⟨S1x2048, .f32⟩
  | 18 => ⟨S2048, .f32⟩
  | 19 => ⟨S1x1x2048, .f32⟩
  | 20 => ⟨S32x2048x2048, .f32⟩
  | 21 => ⟨S32x2048x2048, .f32⟩
  | 22 => ⟨S_, .f32⟩
  | 23 => ⟨S32x2048x2048, .f32⟩
  | 24 => ⟨S32x2048x2048, .f32⟩
  | 25 => ⟨S32x2048x2048, .f32⟩
  | 26 => ⟨S1x2048, .f32⟩
  | 27 => ⟨S2048, .f32⟩
  | 28 => ⟨S1x1x2048, .f32⟩
  | 29 => ⟨S32x2048x2048, .f32⟩
  | 30 => ⟨S32x2048x2048, .f32⟩
  | 31 => ⟨S32x2048x2048, .f32⟩
  | 32 => ⟨S32x2048x2048, .f32⟩
  | 33 => ⟨S1x2048, .f32⟩
  | 34 => ⟨S2048, .f32⟩
  | 35 => ⟨S1x1x2048, .f32⟩
  | 36 => ⟨S32x2048x2048, .f32⟩
  | 37 => ⟨S32x2048x2048, .f32⟩
  | 38 => ⟨S32x2048x2048, .f32⟩
  | 39 => ⟨S32x2048x2048, .f32⟩
  | 40 => ⟨S1x2048, .f32⟩
  | 41 => ⟨S2048, .f32⟩
  | 42 => ⟨S1x1x2048, .f32⟩
  | 43 => ⟨S32x2048x2048, .f32⟩
  | 44 => ⟨S32x2048x2048, .f32⟩
  | 45 => ⟨S32x2048x2048, .f32⟩
  | 46 => ⟨S1x1x2048, .f32⟩
  | 47 => ⟨S32x2048x2048, .f32⟩
  | 48 => ⟨S32x2048x2048, .f32⟩
  | 49 => ⟨S32x2048x2048, .f32⟩
  | 50 => ⟨S32x2048x2048, .f32⟩
  | 51 => ⟨S_, .f32⟩
  | 52 => ⟨S32x2048x2048, .f32⟩
  | 53 => ⟨S32x2048x2048, .f32⟩
  | 54 => ⟨S_, .f32⟩
  | 55 => ⟨S32x2048x2048, .f32⟩
  | 56 => ⟨S32x2048x2048, .f32⟩
  | 57 => ⟨S32x2048x2048, .f32⟩
  | 58 => ⟨S32x2048x1024, .f32⟩
  | 59 => ⟨S32x2048x512, .f32⟩
  | 60 => ⟨S32x2048x512, .f32⟩
  | 61 => ⟨S32x2048x4x4x64, .f32⟩
  | 62 => ⟨S32x2048x4x128, .f32⟩
  | 63 => ⟨S32x2048x4x128, .f32⟩
  | 64 => ⟨S1x1x16, .f32⟩
  | 65 => ⟨S32x2048x16, .f32⟩
  | 66 => ⟨S32x2048x16, .f32⟩
  | 67 => ⟨S_, .f32⟩
  | 68 => ⟨S32x2048x16, .f32⟩
  | 69 => ⟨S32x2048x16, .f32⟩
  | 70 => ⟨S32x2048x16, .f32⟩
  | 71 => ⟨S32x2048x16, .f32⟩
  | 72 => ⟨S32x2048x16, .i1⟩
  | 73 => ⟨S32x2048x16, .f32⟩
  | 74 => ⟨S32x2048x16, .f32⟩
  | 75 => ⟨S32x2048x16, .f32⟩
  | 76 => ⟨S32x2048x16, .f32⟩
  | 77 => ⟨S32x2048x16, .f32⟩
  | 78 => ⟨S32x2048x16, .f32⟩
  | 79 => ⟨S32x2048x16, .f32⟩
  | 80 => ⟨S32x2048x16, .f32⟩
  | 81 => ⟨S16, .f32⟩
  | 82 => ⟨S16, .f32⟩
  | 83 => ⟨S32x2048x4x4, .f32⟩
  | 84 => ⟨S4x4, .f32⟩
  | 85 => ⟨S1x1x4x4, .f32⟩
  | 86 => ⟨S32x2048x4x4, .f32⟩
  | 87 => ⟨S32x2048x4x4, .f32⟩
  | 88 => ⟨S32x4x4x2048, .f32⟩
  | 89 => ⟨S32x2048x4x4x1, .f32⟩
  | 90 => ⟨S32x2048x4x4x64, .f32⟩
  | 91 => ⟨S32x2048x4x4x64, .f32⟩
  | 92 => ⟨S_, .f32⟩
  | 93 => ⟨S_, .f32⟩
  | 94 => ⟨S32x4x4x2048, .f32⟩
  | 95 => ⟨S32x4x4x2048x1, .f32⟩
  | 96 => ⟨S32x4x4x1x2048, .f32⟩
  | 97 => ⟨S32x4x4x2048x2048, .f32⟩
  | 98 => ⟨S32x4x4x2048x2048, .f32⟩
  | 99 => ⟨S32x4x4x2048x2048, .f32⟩
  | 100 => ⟨S_, .i1⟩
  | 101 => ⟨S2048x2048, .i1⟩
  | 102 => ⟨S2048x2048, .i32⟩
  | 103 => ⟨S_, .i32⟩
  | 104 => ⟨S2048x2048, .i32⟩
  | 105 => ⟨S2048x2048, .i32⟩
  | 106 => ⟨S2048x2048, .i32⟩
  | 107 => ⟨S2048x2048, .i1⟩
  | 108 => ⟨S_, .i1⟩
  | 109 => ⟨S2048x2048, .i1⟩
  | 110 => ⟨S2048x2048, .i1⟩
  | 111 => ⟨S_, .f32⟩
  | 112 => ⟨S_, .f32⟩
  | 113 => ⟨S32x4x4x2048x2048, .i1⟩
  | 114 => ⟨S32x4x4x2048x2048, .f32⟩
  | 115 => ⟨S32x4x4x2048x2048, .f32⟩
  | 116 => ⟨S32x4x4x2048x2048, .f32⟩
  | 117 => ⟨S32x4x2048x2048, .f32⟩
  | 118 => ⟨S32x4x1x2048x2048, .f32⟩
  | 119 => ⟨S32x4x4x2048x2048, .f32⟩
  | 120 => ⟨S32x4x4x2048x2048, .f32⟩
  | 121 => ⟨S32x4x4x64x2048, .f32⟩
  | 122 => ⟨S32x2048x4x4x64, .f32⟩
  | 123 => ⟨S4x4, .f32⟩
  | 124 => ⟨S4x4x1, .f32⟩
  | 125 => ⟨S1x1x4x4x1, .f32⟩
  | 126 => ⟨S32x2048x4x4x64, .f32⟩
  | 127 => ⟨S32x2048x4x4x64, .f32⟩
  | _ => ⟨S65536x1024, .f32⟩

abbrev hbmTy0_1 (i : Nat) : BufTy := match i % 128 with
  | 0 => ⟨S32x2048x4x4x64, .f32⟩
  | 1 => ⟨S32x2048x1024, .f32⟩
  | 2 => ⟨S32x2048x1024, .f32⟩
  | 3 => ⟨S32x2048x1024, .f32⟩
  | 4 => ⟨S_, .f32⟩
  | 5 => ⟨S32x2048x1024, .f32⟩
  | 6 => ⟨S32x2048x1024, .f32⟩
  | 7 => ⟨S_, .f32⟩
  | 8 => ⟨S32x2048x1024, .f32⟩
  | 9 => ⟨S32x2048x1024, .f32⟩
  | 10 => ⟨S32x2048x1024, .f32⟩
  | 11 => ⟨S32x2048x1024, .f32⟩
  | 12 => ⟨S32x2048x4x256, .f32⟩
  | 13 => ⟨S32x2048x4x256, .f32⟩
  | 14 => ⟨S_, .f32⟩
  | 15 => ⟨S32x2048x4, .f32⟩
  | 16 => ⟨S32x2048x4x1, .f32⟩
  | 17 => ⟨S_, .f32⟩
  | 18 => ⟨S32x2048x4x1, .f32⟩
  | 19 => ⟨S32x2048x4x1, .f32⟩
  | 20 => ⟨S_, .f32⟩
  | 21 => ⟨S32x2048x4x1, .f32⟩
  | 22 => ⟨S32x2048x4x1, .f32⟩
  | 23 => ⟨S32x2048x4x1, .f32⟩
  | 24 => ⟨S32x2048x4x256, .f32⟩
  | 25 => ⟨S32x2048x4x256, .f32⟩
  | 26 => ⟨S32x2048x1024, .f32⟩
  | 27 => ⟨S1x1x1024, .f32⟩
  | 28 => ⟨S32x2048x1024, .f32⟩
  | 29 => ⟨S32x2048x1024, .f32⟩
  | 30 => ⟨S65536x1024, .f32⟩
  | 31 => ⟨S65536x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_call0_cst : Ref sig .tc := ⟨.hbm, 92, rfl⟩
abbrev main_call3_call0_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_0 : Ref sig .tc := ⟨.hbm, 100, rfl⟩
abbrev main_v65 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_0 : Ref sig .tc := ⟨.hbm, 108, rfl⟩
abbrev main_call4_v5 : Ref sig .tc := ⟨.hbm, 109, rfl⟩
abbrev main_v66 : Ref sig .tc := ⟨.hbm, 110, rfl⟩
abbrev main_cst_1 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call6_v0 : Ref sig .tc := ⟨.hbm, 130, rfl⟩
abbrev main_call6_v1 : Ref sig .tc := ⟨.hbm, 131, rfl⟩
abbrev main_call6_cst : Ref sig .tc := ⟨.hbm, 132, rfl⟩
abbrev main_call6_v2 : Ref sig .tc := ⟨.hbm, 133, rfl⟩
abbrev main_call6_v3 : Ref sig .tc := ⟨.hbm, 134, rfl⟩
abbrev main_call6_cst_0 : Ref sig .tc := ⟨.hbm, 135, rfl⟩
abbrev main_call6_v4 : Ref sig .tc := ⟨.hbm, 136, rfl⟩
abbrev main_call6_v5 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_2 : Ref sig .tc := ⟨.hbm, 142, rfl⟩
abbrev main_v86 : Ref sig .tc := ⟨.hbm, 143, rfl⟩
abbrev main_v87 : Ref sig .tc := ⟨.hbm, 144, rfl⟩
abbrev main_cst_3 : Ref sig .tc := ⟨.hbm, 145, rfl⟩
abbrev main_v88 : Ref sig .tc := ⟨.hbm, 146, rfl⟩
abbrev main_v89 : Ref sig .tc := ⟨.hbm, 147, rfl⟩
abbrev main_cst_4 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩

abbrev nD : Nat := 1
abbrev τ : Topo := Topo.v7x

variable {F : FTy → Type} [FloatOps F]
-- ==== Inproj.lean ====
abbrev S65536x1024 : Shape := ⟨2, ![65536, 1024]⟩
abbrev S32x6x1024 : Shape := ⟨3, ![32, 6, 1024]⟩
abbrev S1024x6872 : Shape := ⟨2, ![1024, 6872]⟩
abbrev S128 : Shape := ⟨1, ![128]⟩
abbrev S64 : Shape := ⟨1, ![64]⟩
abbrev S1024x1024 : Shape := ⟨2, ![1024, 1024]⟩
abbrev S1024x128 : Shape := ⟨2, ![1024, 128]⟩
abbrev S1024x512 : Shape := ⟨2, ![1024, 512]⟩
abbrev S1024x64 : Shape := ⟨2, ![1024, 64]⟩
abbrev S1024x8 : Shape := ⟨2, ![1024, 8]⟩
abbrev S1024x2048 : Shape := ⟨2, ![1024, 2048]⟩
abbrev S1024x16 : Shape := ⟨2, ![1024, 16]⟩
abbrev S_ : Shape := ⟨0, ![]⟩
abbrev S1024x32 : Shape := ⟨2, ![1024, 32]⟩
abbrev S1024x6912 : Shape := ⟨2, ![1024, 6912]⟩
abbrev S1x128 : Shape := ⟨2, ![1, 128]⟩
abbrev S1x64 : Shape := ⟨2, ![1, 64]⟩
abbrev S65536x128 : Shape := ⟨2, ![65536, 128]⟩
abbrev S65536x512 : Shape := ⟨2, ![65536, 512]⟩
abbrev S2x65536x128 : Shape := ⟨3, ![2, 65536, 128]⟩
abbrev S32x128x2048 : Shape := ⟨3, ![32, 128, 2048]⟩
abbrev S65536x2048 : Shape := ⟨2, ![65536, 2048]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S2x512x128 : Shape := ⟨3, ![2, 512, 128]⟩
abbrev S1x128x512 : Shape := ⟨3, ![1, 128, 512]⟩
abbrev S512x2048 : Shape := ⟨2, ![512, 2048]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S1x512x128 : Shape := ⟨3, ![1, 512, 128]⟩
abbrev S128x512 : Shape := ⟨2, ![128, 512]⟩

abbrev nBuf : Space → Nat
  | .hbm => 41
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S32x6x1024, .f32⟩
  | .hbm, ⟨2, _⟩ => ⟨S1024x6872, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S1024x1024, .f32⟩
  | .hbm, ⟨7, _⟩ => ⟨S1024x128, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x1024, .f32⟩
  | .hbm, ⟨12, _⟩ => ⟨S1024x2048, .f32⟩
  | .hbm, ⟨13, _⟩ => ⟨S1024x16, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x8, .f32⟩
  | .hbm, ⟨18, _⟩ => ⟨S_, .f32⟩
  | .hbm, ⟨19, _⟩ => ⟨S1024x32, .f32⟩
  | .hbm, ⟨20, _⟩ => ⟨S1024x6912, .f32⟩
  | .hbm, ⟨21, _⟩ => ⟨S1024x6912, .bf16⟩
  | .hbm, ⟨22, _⟩ => ⟨S1x128, .f32⟩
  | .hbm, ⟨23, _⟩ => ⟨S1x64, .f32⟩
  | .hbm, ⟨24, _⟩ => ⟨S_, .f32⟩
  | .hbm, ⟨25, _⟩ => ⟨S_, .f32⟩
  | .hbm, ⟨26, _⟩ => ⟨S1x128, .f32⟩
  | .hbm, ⟨27, _⟩ => ⟨S1x64, .f32⟩
  | .hbm, ⟨28, _⟩ => ⟨S_, .f32⟩
  | .hbm, ⟨29, _⟩ => ⟨S_, .f32⟩
  | .hbm, ⟨30, _⟩ => ⟨S1x128, .f32⟩
  | .hbm, ⟨31, _⟩ => ⟨S65536x1024, .bf16⟩
  | .hbm, ⟨32, _⟩ => ⟨S65536x128, .bf16⟩
  | .hbm, ⟨33, _⟩ => ⟨S65536x512, .bf16⟩
  | .hbm, ⟨34, _⟩ => ⟨S2x65536x128, .bf16⟩
  | .hbm, ⟨35, _⟩ => ⟨S65536x128, .f32⟩
  | .hbm, ⟨36, _⟩ => ⟨S32x128x2048, .f32⟩
  | .hbm, ⟨37, _⟩ => ⟨S65536x1024, .f32⟩
  | .hbm, ⟨38, _⟩ => ⟨S65536x2048, .f32⟩
  | .hbm, ⟨39, _⟩ => ⟨S65536x1024, .f32⟩
  | .hbm, ⟨40, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x6912, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S512x512, .bf16⟩
  | .local _ .vmem, ⟨13, _⟩ => ⟨S512x512, .bf16⟩
  | .local _ .vmem, ⟨14, _⟩ => ⟨S2x512x128, .bf16⟩
  | .local _ .vmem, ⟨15, _⟩ => ⟨S2x512x128, .bf16⟩
  | .local _ .vmem, ⟨16, _⟩ => ⟨S512x128, .f32⟩
  | .local _ .vmem, ⟨17, _⟩ => ⟨S512x128, .f32⟩
  | .local _ .vmem, ⟨18, _⟩ => ⟨S1x128x512, .f32⟩
  | .local _ .vmem, ⟨19, _⟩ => ⟨S1x128x512, .f32⟩
  | .local _ .vmem, ⟨20, _⟩ => ⟨S512x1024, .f32⟩
  | .local _ .vmem, ⟨21, _⟩ => ⟨S512x1024, .f32⟩
  | .local _ .vmem, ⟨22, _⟩ => ⟨S512x2048, .f32⟩
  | .local _ .vmem, ⟨23, _⟩ => ⟨S512x2048, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call1_v0 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev main_v19_7 : Ref sig .tc := ⟨.hbm, 38, rfl⟩
abbrev main_v19_8 : Ref sig .tc := ⟨.hbm, 39, rfl⟩
abbrev main_v19_9 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceInprojIdeal.lean ====
abbrev S65536x1024 : Shape := ⟨2, ![65536, 1024]⟩
abbrev S32x6x1024 : Shape := ⟨3, ![32, 6, 1024]⟩
abbrev S1024x6872 : Shape := ⟨2, ![1024, 6872]⟩
abbrev S128 : Shape := ⟨1, ![128]⟩
abbrev S64 : Shape := ⟨1, ![64]⟩
abbrev S_ : Shape := ⟨0, ![]⟩
abbrev S65536 : Shape := ⟨1, ![65536]⟩
abbrev S65536x1 : Shape := ⟨2, ![65536, 1]⟩
abbrev S32x2048x1024 : Shape := ⟨3, ![32, 2048, 1024]⟩
abbrev S32x1x1024 : Shape := ⟨3, ![32, 1, 1024]⟩
abbrev S65536x6872 : Shape := ⟨2, ![65536, 6872]⟩
abbrev S65536x128 : Shape := ⟨2, ![65536, 128]⟩
abbrev S65536x512 : Shape := ⟨2, ![65536, 512]⟩
abbrev S65536x64 : Shape := ⟨2, ![65536, 64]⟩
abbrev S65536x8 : Shape := ⟨2, ![65536, 8]⟩
abbrev S65536x2048 : Shape := ⟨2, ![65536, 2048]⟩
abbrev S65536x16 : Shape := ⟨2, ![65536, 16]⟩
abbrev S1x128 : Shape := ⟨2, ![1, 128]⟩
abbrev S1x64 : Shape := ⟨2, ![1, 64]⟩
abbrev S1x65536x128 : Shape := ⟨3, ![1, 65536, 128]⟩
abbrev S2x65536x128 : Shape := ⟨3, ![2, 65536, 128]⟩
abbrev S65536x32 : Shape := ⟨2, ![65536, 32]⟩
abbrev S32x2048x128 : Shape := ⟨3, ![32, 2048, 128]⟩
abbrev S32x128x2048 : Shape := ⟨3, ![32, 128, 2048]⟩

abbrev nBuf : Space → Nat
  | .hbm => 118
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x6x1024, .f32⟩
  | .hbm, ⟨2, _⟩ => ⟨S1024x6872, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1, .f32⟩
  | .hbm, ⟨27, _⟩ => ⟨S65536x1024, .f32⟩
  | .hbm, ⟨28, _⟩ => ⟨S65536x1024, .f32⟩
  | .hbm, ⟨29, _⟩ => ⟨S32x2048x1024, .f32⟩
  | .hbm, ⟨30, _⟩ => ⟨S32x1x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x2048x1024, .f32⟩
  | .hbm, ⟨35, _⟩ => ⟨S32x2048x1024, .f32⟩
  | .hbm, ⟨36, _⟩ => ⟨S32x1x1024, .f32⟩
  | .hbm, ⟨37, _⟩ => ⟨S32x2048x1024, .f32⟩
  | .hbm, ⟨38, _⟩ => ⟨S32x2048x1024, .f32⟩
  | .hbm, ⟨39, _⟩ => ⟨S65536x1024, .f32⟩
  | .hbm, ⟨40, _⟩ => ⟨S65536x6872, .f32⟩
  | .hbm, ⟨41, _⟩ => ⟨S65536x1024, .f32⟩
  | .hbm, ⟨42, _⟩ => ⟨S65536x128, .f32⟩
  | .hbm, ⟨43, _⟩ => ⟨S65536x512, .f32⟩
  | .hbm, ⟨44, _⟩ => ⟨S65536x64, .f32⟩
  | .hbm, ⟨45, _⟩ => ⟨S65536x8, .f32⟩
  | .hbm, ⟨46, _⟩ => ⟨S65536x1024, .f32⟩
  | .hbm, ⟨47, _⟩ => ⟨S65536x2048, .f32⟩
  | .hbm, ⟨48, _⟩ => ⟨S65536x16, .f32⟩
  | .hbm, ⟨49, _⟩ => ⟨S65536x1024, .f32⟩
  | .hbm, ⟨50, _⟩ => ⟨S65536x1024, .f32⟩
  | .hbm, ⟨51, _⟩ => ⟨S65536x128, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1, .f32⟩
  | .hbm, ⟨62, _⟩ => ⟨S65536x128, .f32⟩
  | .hbm, ⟨63, _⟩ => ⟨S65536x128, .f32⟩
  | .hbm, ⟨64, _⟩ => ⟨S1x128, .f32⟩
  | .hbm, ⟨65, _⟩ => ⟨S65536x128, .f32⟩
  | .hbm, ⟨66, _⟩ => ⟨S65536x128, .f32⟩
  | .hbm, ⟨67, _⟩ => ⟨S_, .f32⟩
  | .hbm, ⟨68, _⟩ => ⟨S65536, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S65536x64, .f32⟩
  | .hbm, ⟨74, _⟩ => ⟨S65536x64, .f32⟩
  | .hbm, ⟨75, _⟩ => ⟨S65536x64, .f32⟩
  | .hbm, ⟨76, _⟩ => ⟨S_, .f32⟩
  | .hbm, ⟨77, _⟩ => ⟨S65536, .f32⟩
  | .hbm, ⟨78, _⟩ => ⟨S65536x1, .f32⟩
  | .hbm, ⟨79, _⟩ => ⟨S_, .f32⟩
  | .hbm, ⟨80, _⟩ => ⟨S65536x1, .f32⟩
  | .hbm, ⟨81, _⟩ => ⟨S65536x1, .f32⟩
  | .hbm, ⟨82, _⟩ => ⟨S65536x64, .f32⟩
  | .hbm, ⟨83, _⟩ => ⟨S65536x64, .f32⟩
  | .hbm, ⟨84, _⟩ => ⟨S_, .f32⟩
  | .hbm, ⟨85, _⟩ => ⟨S65536x1, .f32⟩
  | .hbm, ⟨86, _⟩ => ⟨S65536x1, .f32⟩
  | .hbm, ⟨87, _⟩ => ⟨S65536x1, .f32⟩
  | .hbm, ⟨88, _⟩ => ⟨S65536x64, .f32⟩
  | .hbm, ⟨89, _⟩ => ⟨S65536x64, .f32⟩
  | .hbm, ⟨90, _⟩ => ⟨S1x64, .f32⟩
  | .hbm, ⟨91, _⟩ => ⟨S65536x64, .f32⟩
  | .hbm, ⟨92, _⟩ => ⟨S65536x64, .f32⟩
  | .hbm, ⟨93, _⟩ => ⟨S1x64, .f32⟩
  | .hbm, ⟨94, _⟩ => ⟨S65536x64, .f32⟩
  | .hbm, ⟨95, _⟩ => ⟨S65536x64, .f32⟩
  | .hbm, ⟨96, _⟩ => ⟨S_, .f32⟩
  | .hbm, ⟨97, _⟩ => ⟨S65536x64, .f32⟩
  | .hbm, ⟨98, _⟩ => ⟨S65536x128, .f32⟩
  | .hbm, ⟨99, _⟩ => ⟨S65536x128, .f32⟩
  | .hbm, ⟨100, _⟩ => ⟨S1x65536x128, .f32⟩
  | .hbm, ⟨101, _⟩ => ⟨S1x65536x128, .f32⟩
  | .hbm, ⟨102, _⟩ => ⟨S2x65536x128, .f32⟩
  | .hbm, ⟨103, _⟩ => ⟨S_, .f32⟩
  | .hbm, ⟨104, _⟩ => ⟨S65536x64, .f32⟩
  | .hbm, ⟨105, _⟩ => ⟨S65536x64, .f32⟩
  | .hbm, ⟨106, _⟩ => ⟨S_, .f32⟩
  | .hbm, ⟨107, _⟩ => ⟨S65536x8, .f32⟩
  | .hbm, ⟨108, _⟩ => ⟨S65536x8, .f32⟩
  | .hbm, ⟨109, _⟩ => ⟨S65536x8, .f32⟩
  | .hbm, ⟨110, _⟩ => ⟨S65536x32, .f32⟩
  | .hbm, ⟨111, _⟩ => ⟨S65536x128, .f32⟩
  | .hbm, ⟨112, _⟩ => ⟨S32x2048x128, .f32⟩
  | .hbm, ⟨113, _⟩ => ⟨S32x128x2048, .f32⟩
  | .hbm, ⟨114, _⟩ => ⟨S65536x1024, .bf16⟩
  | .hbm, ⟨115, _⟩ => ⟨S65536x128, .bf16⟩
  | .hbm, ⟨116, _⟩ => ⟨S65536x512, .bf16⟩
  | .hbm, ⟨117, _⟩ => ⟨S2x65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_cst_15 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== Experts.lean ====
abbrev S544 : Shape := ⟨1, ![544]⟩
abbrev S1 : Shape := ⟨1, ![1]⟩
abbrev S278528x1024 : Shape := ⟨2, ![278528, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S278528x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S278528x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S1, .i32⟩
  | _, _ => ⟨S278528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceExpertsIdeal.lean ====
abbrev S544 : Shape := ⟨1, ![544]⟩
abbrev S1 : Shape := ⟨1, ![1]⟩
abbrev S278528x1024 : Shape := ⟨2, ![278528, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x512x1024 : Shape := ⟨3, ![544, 512, 1024]⟩
abbrev S_ : Shape := ⟨0, ![]⟩
abbrev S544x1 : Shape := ⟨2, ![544, 1]⟩
abbrev S544x1024x2048 : Shape := ⟨3, ![544, 1024, 2048]⟩
abbrev S544x512x2048 : Shape := ⟨3, ![544, 512, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S278528x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x512x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x512x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x512x2048, .f32⟩
  | .hbm, ⟨29, _⟩ => ⟨S544x512x2048, .f32⟩
  | .hbm, ⟨30, _⟩ => ⟨S544x512x1024, .f32⟩
  | .hbm, ⟨31, _⟩ => ⟨S544x512x1024, .f32⟩
  | .hbm, ⟨32, _⟩ => ⟨S_, .f32⟩
  | .hbm, ⟨33, _⟩ => ⟨S544x512x1024, .f32⟩
  | .hbm, ⟨34, _⟩ => ⟨S544x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x512x1024, .f32⟩
  | .hbm, ⟨39, _⟩ => ⟨S544x512x1024, .f32⟩
  | .hbm, ⟨40, _⟩ => ⟨S_, .f32⟩
  | .hbm, ⟨41, _⟩ => ⟨S544x512x1024, .f32⟩
  | .hbm, ⟨42, _⟩ => ⟨S544x512x1024, .f32⟩
  | .hbm, ⟨43, _⟩ => ⟨S_, .f32⟩
  | .hbm, ⟨44, _⟩ => ⟨S544x512x1024, .f32⟩
  | .hbm, ⟨45, _⟩ => ⟨S544x512x1024, .f32⟩
  | .hbm, ⟨46, _⟩ => ⟨S544x512x1024, .f32⟩
  | .hbm, ⟨47, _⟩ => ⟨S_, .f32⟩
  | .hbm, ⟨48, _⟩ => ⟨S544x512x1024, .f32⟩
  | .hbm, ⟨49, _⟩ => ⟨S544x512x1024, .f32⟩
  | .hbm, ⟨50, _⟩ => ⟨S544x512x1024, .f32⟩
  | .hbm, ⟨51, _⟩ => ⟨S544x512x1024, .f32⟩
  | .hbm, ⟨52, _⟩ => ⟨S_, .f32⟩
  | .hbm, ⟨53, _⟩ => ⟨S544x512x1024, .f32⟩
  | .hbm, ⟨54, _⟩ => ⟨S544x512x1024, .f32⟩
  | .hbm, ⟨55, _⟩ => ⟨S_, .f32⟩
  | .hbm, ⟨56, _⟩ => ⟨S544x512x1024, .f32⟩
  | .hbm, ⟨57, _⟩ => ⟨S544x512x1024, .f32⟩
  | .hbm, ⟨58, _⟩ => ⟨S544x512x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x512x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x512x1024, .f32⟩
  | .hbm, ⟨80, _⟩ => ⟨S544x512x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S_, .f32⟩
  | .hbm, ⟨87, _⟩ => ⟨S_, .f32⟩
  | .hbm, ⟨88, _⟩ => ⟨S544x512x1024, .i1⟩
  | .hbm, ⟨89, _⟩ => ⟨S544x512x1024, .f32⟩
  | .hbm, ⟨90, _⟩ => ⟨S544x512x1024, .f32⟩
  | .hbm, ⟨91, _⟩ => ⟨S278528x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.Pair.lean ====
/- The kernel's body in a uniform vocabulary: what one pair of heads, and one group of channels, computes over the slices it reads.
   The printed body states these eight (and four) times over different offsets. -/
module

public import proofs.«01_k».proof.Proof.Gen.KernelIdeal.Skeleton

@[expose] public section

set_option maxRecDepth 16384

noncomputable section

namespace Cert.KernelIdeal.Ssd

open Cert.KernelIdeal Cert.KernelIdeal.Gen Idealize.ShloMosaic Idealize.SL.Sem

variable {F : FTy → Type} [FloatOps F]

/-- A column per head of the pair, spread over the 128 lanes: the first head's on the low 64, the second's on the rest. -/
def spread (lo hi : FVec F S256x1 .f32) : FVec F S256x128 .f32 :=
  select (broadcastTo S256x128 (shapeCast S1x128 k0_pay15 shapeCasts_S1x128_S1x128) broadcasts_S1x128_S256x128)
    (broadcastTo S256x128 (shapeCast S256x1 lo shapeCasts_S256x1_S256x1) broadcasts_S256x1_S256x128)
    (broadcastTo S256x128 (shapeCast S256x1 hi shapeCasts_S256x1_S256x1) broadcasts_S256x1_S256x128)

/-- The same of the pair's last sums. -/
def spreadRow (lo hi : FVec F S1x1 .f32) : FVec F S1x128 .f32 :=
  select k0_pay15
    (broadcastTo S1x128 (shapeCast S1x1 lo shapeCasts_S1x1_S1x1) broadcasts_S1x1_S1x128)
    (broadcastTo S1x128 (shapeCast S1x1 hi shapeCasts_S1x1_S1x1) broadcasts_S1x1_S1x128)

/-- One head's decay-weighted scores: the scores times the exponentials of the sums' differences, zero above the diagonal. -/
def gate (cb : FVec F S256x256 .f32) (c : FVec F S256x1 .f32) (r : FVec F S1x256 .f32) : FVec F S256x256 .bf16 :=
  truncf .bf16 (mulf cb (exp (select k0_pay11
    (subf (broadcastTo S256x256 c broadcasts_S256x1_S256x256) (broadcastTo S256x256 r broadcasts_S1x256_S256x256))
    (broadcast S256x256 (Scalar.ofBits .f32 0xFF800000#32))))) bitsLt_bf16_f32

/-- The input scaled by the steps, kept on the low lanes only. -/
def keepLo (xdt : FVec F S256x128 .f32) : FVec F S256x128 .bf16 :=
  truncf .bf16 (select (broadcastTo S256x128 (shapeCast S1x128 k0_pay15 shapeCasts_S1x128_S1x128) broadcasts_S1x128_S256x128)
    xdt (broadcast S256x128 (Scalar.ofBits .f32 0x00000000#32))) bitsLt_bf16_f32

/-- And on the high lanes only. -/
def keepHi (xdt : FVec F S256x128 .f32) : FVec F S256x128 .bf16 :=
  truncf .bf16 (select (broadcastTo S256x128 (shapeCast S1x128 (xori k0_pay15 (constantI S1x128 1 1#1)) shapeCasts_S1x128_S1x128)
    broadcasts_S1x128_S256x128) xdt (broadcast S256x128 (Scalar.ofBits .f32 0x00000000#32))) bitsLt_bf16_f32

/-- The pair's rows of output before the gate: within the chunk, from the state, and the skip. -/
def pairY (x : FVec F S256x128 .f32) (d0 d1 c0 c1 : FVec F S256x1 .f32) (r0 r1 : FVec F S1x256 .f32)
    (cb : FVec F S256x256 .f32) (cm : FVec F S256x128 .bf16) (st : FVec F S1x128x128 .f32) (dsk : FVec F S1x128 .f32) : FVec F S256x128 .f32 :=
  shapeCast S256x128 (addf (addf (addf (addf (broadcast S256x128 (Scalar.ofBits .f32 0x00000000#32))
      (matmul dot_S256x256_S256x128_S256x128_1_0_0_1_n_n none (gate cb c0 r0) (keepLo (mulf x (spread d0 d1))) (constant S256x128 .f32 0x00000000#32)))
      (matmul dot_S256x256_S256x128_S256x128_1_0_0_1_n_n none (gate cb c1 r1) (keepHi (mulf x (spread d0 d1))) (constant S256x128 .f32 0x00000000#32)))
      (mulf (matmul dot_S256x128_S128x128_S256x128_1_1_0_0_n_n none cm
          (truncf .bf16 (shapeCast S128x128 st shapeCasts_S1x128x128_S128x128) bitsLt_bf16_f32) (constant S256x128 .f32 0x00000000#32))
        (exp (spread c0 c1))))
    (mulf x (broadcastTo S256x128 (shapeCast S1x128 dsk shapeCasts_S1x128_S1x128) broadcasts_S1x128_S256x128))) shapeCasts_S256x128_S256x128

/-- The pair's state after the chunk. -/
def pairS (x : FVec F S256x128 .f32) (d0 d1 c0 c1 : FVec F S256x1 .f32) (l0 l1 : FVec F S1x1 .f32)
    (bm : FVec F S256x128 .bf16) (st : FVec F S1x128x128 .f32) : FVec F S1x128x128 .f32 :=
  shapeCast S1x128x128 (addf
    (mulf (shapeCast S128x128 st shapeCasts_S1x128x128_S128x128)
      (broadcastTo S128x128 (select (cmpi .slt (iota .tc S128x1 32 [0] iota_S128x1_d0_w32) (broadcast S128x1 64#32))
        (broadcastTo S128x1 (shapeCast S1x1 (exp l0) shapeCasts_S1x1_S1x1) broadcasts_S1x1_S128x1)
        (broadcastTo S128x1 (shapeCast S1x1 (exp l1) shapeCasts_S1x1_S1x1) broadcasts_S1x1_S128x1)) broadcasts_S128x1_S128x128))
    (matmul dot_S256x128_S256x128_S128x128_0_0_1_1_n_n none
      (truncf .bf16 (mulf (mulf x (spread d0 d1))
        (exp (subf (broadcastTo S256x128 (spreadRow l0 l1) broadcasts_S1x128_S256x128) (spread c0 c1)))) bitsLt_bf16_f32)
      bm (constant S128x128 .f32 0x00000000#32))) shapeCasts_S128x128_S1x128x128

/-- One group's 256 channels: divided by the root of their mean square, and scaled. -/
def groupOut (g : FVec F S256x256 .f32) (w : FVec F S1x256 .f32) : FVec F S256x256 .bf16 :=
  truncf .bf16 (mulf (mulf g (broadcastTo S256x256 (rsqrt (addf (divf (shapeCast S256x1
      (multiReduction .add [1] S256 (mulf g g) 0x00000000#32 reduces_S256x256_S256 (.inl rfl) rfl) shapeCasts_S256_S256x1)
      (broadcast S256x1 (Scalar.ofBits .f32 0x43800000#32))) (broadcast S256x1 (Scalar.ofBits .f32 0x3727C5AC#32))))
      broadcasts_S256x1_S256x256))
    (broadcastTo S256x256 (shapeCast S1x256 w shapeCasts_S1x256_S1x256) broadcasts_S1x256_S256x256)) bitsLt_bf16_f32

end Cert.KernelIdeal.Ssd
end
-- ==== Proof.Body.lean ====
/- What one grid point leaves, in the uniform vocabulary: the output block, the rows carried for the convolution, and the
   states of the eight pairs of heads, over the point's input blocks and what the point before left. -/
module

public import proofs.«01_k».proof.Proof.Pair
public import Idealize.ShloMosaic.Lib.Pipeline.FrameBody
public import Idealize.ShloMosaic.Lib.Pointwise.Index

@[expose] public section

set_option maxRecDepth 16384

noncomputable section

namespace Cert.KernelIdeal.Ssd

open Cert.KernelIdeal Cert.KernelIdeal.Gen Idealize.ShloMosaic Idealize.SL.Sem

variable {F : FTy → Type} [FloatOps F]

/-- The rows the convolution reads: the carried 8 rows, then the chunk's own 256. -/
def extRows (e : Vec F S8x2048 .f32) (x : Vec F S256x2048 .f32) : Vec F S264x2048 .f32 := fun y =>
  if h : (y 0).val < 8 then e (ix2 ⟨(y 0).val, h⟩ (y 1))
  else x (ix2 ⟨(y 0).val - 8, by have : (y 0).val < 264 := (y 0).isLt; omega⟩ (y 1))

/-- The carried rows, out of the scratch that holds them. -/
def carried (xs : Vec F S264x2048 .f32) : Vec F S8x2048 .f32 := fun y =>
  xs (ix2 ⟨(y 0).val, by have : (y 0).val < 8 := (y 0).isLt; omega⟩ (y 1))

/-- The activated convolution of the chunk. -/
def actB (x : Vec F S256x2048 .f32) (w : Vec F S4x2048 .f32) (b : Vec F S1x2048 .f32) (e : Vec F S8x2048 .f32) : FVec F S256x2048 .f32 :=
  k0_pay6 x w b (View.ld (extRows e x) (Rect.unit (s := S264x2048) ![7, 0] S256x2048.size inb_S264x2048_S256x2048_7_0))
    (View.ld (extRows e x) (Rect.unit (s := S264x2048) ![6, 0] S256x2048.size inb_S264x2048_S256x2048_6_0))
    (View.ld (extRows e x) (Rect.unit (s := S264x2048) ![5, 0] S256x2048.size inb_S264x2048_S256x2048_5_0))

theorem sl_x (p : Fin 8) : S256x1024.Slices ![0, 128 * p.val] S256x128 :=
  ⟨rfl, fun a => match a with | ⟨0, _⟩ => le_of_eq (Nat.zero_add _) | ⟨1, _⟩ => by show 128 * p.val + 128 ≤ 1024; omega⟩
theorem sl_c0 (p : Fin 8) : S256x16.Slices ![0, 2 * p.val] S256x1 :=
  ⟨rfl, fun a => match a with | ⟨0, _⟩ => le_of_eq (Nat.zero_add _) | ⟨1, _⟩ => by show 2 * p.val + 1 ≤ 16; omega⟩
theorem sl_c1 (p : Fin 8) : S256x16.Slices ![0, 2 * p.val + 1] S256x1 :=
  ⟨rfl, fun a => match a with | ⟨0, _⟩ => le_of_eq (Nat.zero_add _) | ⟨1, _⟩ => by show 2 * p.val + 1 + 1 ≤ 16; omega⟩
theorem sl_r0 (p : Fin 8) : S16x256.Slices ![2 * p.val, 0] S1x256 :=
  ⟨rfl, fun a => match a with | ⟨0, _⟩ => by show 2 * p.val + 1 ≤ 16; omega | ⟨1, _⟩ => le_of_eq (Nat.zero_add _)⟩
theorem sl_r1 (p : Fin 8) : S16x256.Slices ![2 * p.val + 1, 0] S1x256 :=
  ⟨rfl, fun a => match a with | ⟨0, _⟩ => by show 2 * p.val + 1 + 1 ≤ 16; omega | ⟨1, _⟩ => le_of_eq (Nat.zero_add _)⟩
theorem sl_l0 (p : Fin 8) : S1x16.Slices ![0, 2 * p.val] S1x1 :=
  ⟨rfl, fun a => match a with | ⟨0, _⟩ => le_of_eq (Nat.zero_add _) | ⟨1, _⟩ => by show 2 * p.val + 1 ≤ 16; omega⟩
theorem sl_l1 (p : Fin 8) : S1x16.Slices ![0, 2 * p.val + 1] S1x1 :=
  ⟨rfl, fun a => match a with | ⟨0, _⟩ => le_of_eq (Nat.zero_add _) | ⟨1, _⟩ => by show 2 * p.val + 1 + 1 ≤ 16; omega⟩
theorem sl_b (p : Fin 8) : S256x2048.Slices ![0, 1024 + 128 * (p.val / 2)] S256x128 :=
  ⟨rfl, fun a => match a with | ⟨0, _⟩ => le_of_eq (Nat.zero_add _) | ⟨1, _⟩ => by show 1024 + 128 * (p.val / 2) + 128 ≤ 2048; omega⟩
theorem sl_m (p : Fin 8) : S256x2048.Slices ![0, 1536 + 128 * (p.val / 2)] S256x128 :=
  ⟨rfl, fun a => match a with | ⟨0, _⟩ => le_of_eq (Nat.zero_add _) | ⟨1, _⟩ => by show 1536 + 128 * (p.val / 2) + 128 ≤ 2048; omega⟩
theorem inb_d (p : Fin 8) : ∀ a : Fin S1x1024.rank, (![0, 128 * p.val] : Fin S1x1024.rank → ℕ) a + S1x128.size a ≤ S1x1024.size a :=
  fun a => match a with | ⟨0, _⟩ => le_of_eq (Nat.zero_add _) | ⟨1, _⟩ => by show 128 * p.val + 128 ≤ 1024; omega
theorem inb_s (p : Fin 8) : ∀ a : Fin S8x128x128.rank, (![p.val, 0, 0] : Fin S8x128x128.rank → ℕ) a + S1x128x128.size a ≤ S8x128x128.size a :=
  fun a => match a with | ⟨0, _⟩ => by show p.val + 1 ≤ 8; omega | ⟨1, _⟩ => le_of_eq (Nat.zero_add _) | ⟨2, _⟩ => le_of_eq (Nat.zero_add _)
theorem inb_y (p : Fin 8) : ∀ a : Fin S256x1024.rank, (![0, 128 * p.val] : Fin S256x1024.rank → ℕ) a + S256x128.size a ≤ S256x1024.size a :=
  fun a => match a with | ⟨0, _⟩ => le_of_eq (Nat.zero_add _) | ⟨1, _⟩ => by show 128 * p.val + 128 ≤ 1024; omega
theorem sl_g (g : Fin 4) : S256x1024.Slices ![0, 256 * g.val] S256x256 :=
  ⟨rfl, fun a => match a with | ⟨0, _⟩ => le_of_eq (Nat.zero_add _) | ⟨1, _⟩ => by show 256 * g.val + 256 ≤ 1024; omega⟩
theorem inb_w (g : Fin 4) : ∀ a : Fin S1x1024.rank, (![0, 256 * g.val] : Fin S1x1024.rank → ℕ) a + S1x256.size a ≤ S1x1024.size a :=
  fun a => match a with | ⟨0, _⟩ => le_of_eq (Nat.zero_add _) | ⟨1, _⟩ => by show 256 * g.val + 256 ≤ 1024; omega
theorem inb_o (g : Fin 4) : ∀ a : Fin S256x1024.rank, (![0, 256 * g.val] : Fin S256x1024.rank → ℕ) a + S256x256.size a ≤ S256x1024.size a :=
  fun a => match a with | ⟨0, _⟩ => le_of_eq (Nat.zero_add _) | ⟨1, _⟩ => by show 256 * g.val + 256 ≤ 1024; omega

/-- The channels of the activated convolution that are scanned. -/
def xsOf (A : FVec F S256x2048 .f32) : FVec F S256x1024 .f32 := extractStridedSlice S256x1024 ![0, 0] A slices_S256x2048_o0_0_S256x1024

/-- The group's input matrix of pair `p`. -/
def bmOf (A : FVec F S256x2048 .f32) (p : Fin 8) : FVec F S256x128 .bf16 :=
  truncf .bf16 (extractStridedSlice S256x128 ![0, 1024 + 128 * (p.val / 2)] A (sl_b p)) bitsLt_bf16_f32

/-- The group's output matrix of pair `p`. -/
def cmOf (A : FVec F S256x2048 .f32) (p : Fin 8) : FVec F S256x128 .bf16 :=
  truncf .bf16 (extractStridedSlice S256x128 ![0, 1536 + 128 * (p.val / 2)] A (sl_m p)) bitsLt_bf16_f32

/-- The scores of the chunk's tokens against each other, in the group of pair `p`. -/
def cbOf (A : FVec F S256x2048 .f32) (p : Fin 8) : FVec F S256x256 .f32 :=
  matmul dot_S256x128_S256x128_S256x256_1_1_0_0_n_n none (cmOf A p) (bmOf A p) (constant S256x256 .f32 0x00000000#32)

/-- Pair `p`'s rows of output before the gate. -/
def yPart (A : FVec F S256x2048 .f32) (d cs : FVec F S256x16 .f32) (cr : FVec F S16x256 .f32) (dsk : Vec F S1x1024 .f32)
    (st : Vec F S8x128x128 .f32) (p : Fin 8) : FVec F S256x128 .f32 :=
  pairY (extractStridedSlice S256x128 ![0, 128 * p.val] (xsOf A) (sl_x p))
    (extractStridedSlice S256x1 ![0, 2 * p.val] d (sl_c0 p)) (extractStridedSlice S256x1 ![0, 2 * p.val + 1] d (sl_c1 p))
    (extractStridedSlice S256x1 ![0, 2 * p.val] cs (sl_c0 p)) (extractStridedSlice S256x1 ![0, 2 * p.val + 1] cs (sl_c1 p))
    (extractStridedSlice S1x256 ![2 * p.val, 0] cr (sl_r0 p)) (extractStridedSlice S1x256 ![2 * p.val + 1, 0] cr (sl_r1 p))
    (cbOf A p) (cmOf A p) (View.ld st (Rect.unit (s := S8x128x128) ![p.val, 0, 0] S1x128x128.size (inb_s p)))
    (View.ld dsk (Rect.unit (s := S1x1024) ![0, 128 * p.val] S1x128.size (inb_d p)))

/-- Pair `p`'s state after the chunk. -/
def sPart (A : FVec F S256x2048 .f32) (d cs : FVec F S256x16 .f32) (cl : FVec F S1x16 .f32)
    (st : Vec F S8x128x128 .f32) (p : Fin 8) : FVec F S1x128x128 .f32 :=
  pairS (extractStridedSlice S256x128 ![0, 128 * p.val] (xsOf A) (sl_x p))
    (extractStridedSlice S256x1 ![0, 2 * p.val] d (sl_c0 p)) (extractStridedSlice S256x1 ![0, 2 * p.val + 1] d (sl_c1 p))
    (extractStridedSlice S256x1 ![0, 2 * p.val] cs (sl_c0 p)) (extractStridedSlice S256x1 ![0, 2 * p.val + 1] cs (sl_c1 p))
    (extractStridedSlice S1x1 ![0, 2 * p.val] cl (sl_l0 p)) (extractStridedSlice S1x1 ![0, 2 * p.val + 1] cl (sl_l1 p))
    (bmOf A p) (View.ld st (Rect.unit (s := S8x128x128) ![p.val, 0, 0] S1x128x128.size (inb_s p)))

/-- The store of pair `p`'s rows. -/
def yPc (A : FVec F S256x2048 .f32) (d cs : FVec F S256x16 .f32) (cr : FVec F S16x256 .f32) (dsk : Vec F S1x1024 .f32)
    (st : Vec F S8x128x128 .f32) (p : Fin 8) : View.Piece (Elt F) S256x1024 .f32 :=
  ⟨Rect.unit (s := S256x1024) ![0, 128 * p.val] S256x128.size (inb_y p), yPart A d cs cr dsk st p⟩

/-- The store of pair `p`'s state. -/
def sPc (A : FVec F S256x2048 .f32) (d cs : FVec F S256x16 .f32) (cl : FVec F S1x16 .f32)
    (st : Vec F S8x128x128 .f32) (p : Fin 8) : View.Piece (Elt F) S8x128x128 .f32 :=
  ⟨Rect.unit (s := S8x128x128) ![p.val, 0, 0] S1x128x128.size (inb_s p), sPart A d cs cl st p⟩

/-- The eight pairs' rows side by side. -/
def yAll (A : FVec F S256x2048 .f32) (d cs : FVec F S256x16 .f32) (cr : FVec F S16x256 .f32) (dsk : Vec F S1x1024 .f32)
    (st : Vec F S8x128x128 .f32) : Vec F S256x1024 .f32 :=
  View.canon [yPc A d cs cr dsk st 7, yPc A d cs cr dsk st 6, yPc A d cs cr dsk st 5, yPc A d cs cr dsk st 4,
    yPc A d cs cr dsk st 3, yPc A d cs cr dsk st 2, yPc A d cs cr dsk st 1, yPc A d cs cr dsk st 0]

/-- The store of group `g`'s channels. -/
def oPc (G : FVec F S256x1024 .f32) (w : Vec F S1x1024 .f32) (g : Fin 4) : View.Piece (Elt F) S256x1024 .bf16 :=
  ⟨Rect.unit (s := S256x1024) ![0, 256 * g.val] S256x256.size (inb_o g),
    groupOut (extractStridedSlice S256x256 ![0, 256 * g.val] G (sl_g g))
      (View.ld w (Rect.unit (s := S1x1024) ![0, 256 * g.val] S1x256.size (inb_w g)))⟩

/-- The output block. -/
def outB (z : Vec F S256x1024 .f32) (w : Vec F S1x1024 .f32) (Y : Vec F S256x1024 .f32) : Vec F S256x1024 .bf16 :=
  View.canon [oPc (k0_pay120 z Y) w 3, oPc (k0_pay120 z Y) w 2, oPc (k0_pay120 z Y) w 1, oPc (k0_pay120 z Y) w 0]

/-- The steps' raw columns of a block of the narrow projection. -/
def rawDt (s : Vec F S256x128 .f32) : Vec F S256x16 .f32 :=
  View.ld s (Rect.unit (s := S256x128) ![0, 80] S256x16.size inb_S256x128_S256x16_0_80)

/-- THE POINT'S OUTPUT BLOCK over its input blocks, the carried rows and the states. -/
def pointOut (x0 : Vec F S256x1024 .f32) (x1 : Vec F S256x2048 .f32) (x2 : Vec F S256x128 .f32) (x3 : Vec F S1x16x256 .f32)
    (x4 : Vec F S4x2048 .f32) (x5 : Vec F S1x2048 .f32) (x6 : Vec F S1x16 .f32) (x7 : Vec F S16x1 .f32) (x8 : Vec F S1x16 .f32)
    (x9 : Vec F S16x1 .f32) (x10 x11 : Vec F S1x1024 .f32) (e : Vec F S8x2048 .f32) (st : Vec F S8x128x128 .f32) : Vec F S256x1024 .bf16 :=
  outB x0 x11 (yAll (actB x1 x4 x5 e) (k0_pay8 (rawDt x2) x6) (k0_pay12 (k0_pay9 (rawDt x2) x6 x8)) (k0_pay13 (k0_pay10 x3 x7 x9)) x10 st)

/-- THE STATES THE POINT LEAVES. -/
def pointSt (x1 : Vec F S256x2048 .f32) (x2 : Vec F S256x128 .f32)
    (x4 : Vec F S4x2048 .f32) (x5 : Vec F S1x2048 .f32) (x6 : Vec F S1x16 .f32) (x8 : Vec F S1x16 .f32)
    (e : Vec F S8x2048 .f32) (st : Vec F S8x128x128 .f32) (L : List (View.Piece (Elt F) S8x128x128 .f32)) : Vec F S8x128x128 .f32 :=
  let Q := sPc (actB x1 x4 x5 e) (k0_pay8 (rawDt x2) x6) (k0_pay12 (k0_pay9 (rawDt x2) x6 x8)) (k0_pay14 (k0_pay9 (rawDt x2) x6 x8)) st
  View.canon ([Q 7, Q 6, Q 5, Q 4, Q 3, Q 2, Q 1, Q 0] ++ L)

end Cert.KernelIdeal.Ssd
end
-- ==== Proof.PairRead.lean ====
/- What a grid point's output rows and states hold, entry by entry, over exact numbers: one formula per column for the eight
   pairs of heads, one for the four groups of channels. -/
module

public import proofs.«01_k».proof.Proof.Body
public import Idealize.ShloMosaic.Lib.Pointwise
public import Idealize.ShloMosaic.Lib.Pipeline.ReadBack
public import Idealize.ShloMosaic.Lib.Pipeline.ValueKit.Geometry
public import Idealize.ShloMosaic.Lib.WordCmp

@[expose] public section

set_option maxRecDepth 16384

noncomputable section

namespace Cert.KernelIdeal.Ssd

open Cert.KernelIdeal Cert.KernelIdeal.Gen Idealize.ShloMosaic Idealize.ShloMosaic.TcCoe Idealize.SL.Sem

/-- The mask of the low 64 lanes. -/
theorem lane_lt (j : Fin 128) : IntOp.cmpi CmpIPredicate.slt (BitVec.ofNat 32 j.val) 64#32 = if j.val < 64 then 1#1 else 0#1 := by
  revert j; decide

/-- The mask of one row number against another. -/
theorem le_mask {a b : ℕ} (ha : a < 2048) (hb : b < 2048) :
    IntOp.cmpi CmpIPredicate.sle (BitVec.ofNat 32 a) (BitVec.ofNat 32 b) = if a ≤ b then 1#1 else 0#1 := by
  unfold IntOp.cmpi
  have e1 : (BitVec.ofNat 32 a).toInt = a := Idealize.ShloMosaic.WordCmp.toInt_ofNat_of_lt (by omega)
  have e2 : (BitVec.ofNat 32 b).toInt = b := Idealize.ShloMosaic.WordCmp.toInt_ofNat_of_lt (by omega)
  simp only [BitVec.sle, e1, e2, Int.ofNat_le]
  by_cases h : a ≤ b <;> simp [h]

theorem select_if {α : Type} (P : Prop) [Decidable P] (a b : α) : Scalar.select (if P then 1#1 else 0#1) a b = if P then a else b := by
  by_cases h : P <;> simp [h, Scalar.select]

theorem select_not {α : Type} (P : Prop) [Decidable P] (a b : α) : Scalar.select (IntOp.xori (if P then 1#1 else 0#1) 1#1) a b = if P then b else a := by
  by_cases h : P <;> simp [h, Scalar.select, IntOp.xori]

theorem bits_bot : Ideal.ofBits FTy.f32 4286578688#32 = ⊥ := by
  simp [Ideal.ofBits, Ideal.ieee]

/-- One entry of the rows before the gate. -/
def yV (A : FVec Ideal S256x2048 .f32) (d cs : FVec Ideal S256x16 .f32) (cr : FVec Ideal S16x256 .f32) (dsk : Vec Ideal S1x1024 .f32)
    (st : Vec Ideal S8x128x128 .f32) (i : Fin 256) (c : Fin 1024) : EReal :=
  ∑ x : Fin 256, (∑ n : Fin 128, A (ix2 i ⟨1536 + 128 * (c.val / 256) + n.val, by omega⟩) * A (ix2 x ⟨1024 + 128 * (c.val / 256) + n.val, by omega⟩))
      * Ideal.exp (if x.val ≤ i.val then cs (ix2 i ⟨c.val / 64, by omega⟩) - cr (ix2 ⟨c.val / 64, by omega⟩ x) else ⊥)
      * (A (ix2 x ⟨c.val, by omega⟩) * d (ix2 x ⟨c.val / 64, by omega⟩))
    + (∑ n : Fin 128, A (ix2 i ⟨1536 + 128 * (c.val / 256) + n.val, by omega⟩) * st (ix3 ⟨c.val / 128, by omega⟩ ⟨c.val % 128, by omega⟩ n))
      * Ideal.exp (cs (ix2 i ⟨c.val / 64, by omega⟩))
    + A (ix2 i ⟨c.val, by omega⟩) * dsk (ix2 0 c)

/-- One entry of the states after the chunk. -/
def sV (A : FVec Ideal S256x2048 .f32) (d cs : FVec Ideal S256x16 .f32) (cl : FVec Ideal S1x16 .f32)
    (st : Vec Ideal S8x128x128 .f32) (p : Fin 8) (j n : Fin 128) : EReal :=
  st (ix3 p j n) * Ideal.exp (cl (ix2 0 ⟨(128 * p.val + j.val) / 64, by omega⟩))
    + ∑ x : Fin 256, A (ix2 x ⟨128 * p.val + j.val, by omega⟩) * d (ix2 x ⟨(128 * p.val + j.val) / 64, by omega⟩)
        * Ideal.exp (cl (ix2 0 ⟨(128 * p.val + j.val) / 64, by omega⟩) - cs (ix2 x ⟨(128 * p.val + j.val) / 64, by omega⟩))
        * A (ix2 x ⟨1024 + 128 * (p.val / 2) + n.val, by omega⟩)

theorem yPart_read (A : FVec Ideal S256x2048 .f32) (d cs : FVec Ideal S256x16 .f32) (cr : FVec Ideal S16x256 .f32) (dsk : Vec Ideal S1x1024 .f32)
    (st : Vec Ideal S8x128x128 .f32) (p : Fin 8) (i : Fin 256) (j : Fin 128) :
    yPart A d cs cr dsk st p (ix2 i j) = yV A d cs cr dsk st i ⟨128 * p.val + j.val, by omega⟩ := by
  pointwise [yPart, pairY, gate, keepLo, keepHi, spread, k0_pay11, k0_pay15, xsOf, cbOf, cmOf, bmOf]
  simp only [lane_lt, bits_bot, select_if, select_not]
  have hm : ∀ x : Fin 256, IntOp.cmpi CmpIPredicate.sle (BitVec.ofNat 32 x.val) (BitVec.ofNat 32 i.val) = if x.val ≤ i.val then 1#1 else 0#1 :=
    fun x => le_mask (by omega) (by omega)
  simp only [hm, select_if]
  unfold yV
  have e1 : (128 * p.val + j.val) / 256 = p.val / 2 := by omega
  have e2 : (128 * p.val + j.val) / 128 = p.val := by omega
  have e3 : (128 * p.val + j.val) % 128 = j.val := by omega
  by_cases h : j.val < 64
  · have e4 : (128 * p.val + j.val) / 64 = 2 * p.val := by omega
    simp only [e1, e2, e3, e4, if_pos h, Finset.sum_const_zero, add_zero]
  · have e4 : (128 * p.val + j.val) / 64 = 2 * p.val + 1 := by omega
    simp only [e1, e2, e3, e4, if_neg h, Finset.sum_const_zero, zero_add]

theorem sPart_read (A : FVec Ideal S256x2048 .f32) (d cs : FVec Ideal S256x16 .f32) (cl : FVec Ideal S1x16 .f32)
    (st : Vec Ideal S8x128x128 .f32) (p : Fin 8) (j n : Fin 128) : sPart A d cs cl st p (ix3 0 j n) = sV A d cs cl st p j n := by
  pointwise [sPart, pairS, spread, spreadRow, k0_pay15, xsOf, bmOf]
  simp only [lane_lt, select_if]
  unfold sV
  by_cases h : j.val < 64
  · have e4 : (128 * p.val + j.val) / 64 = 2 * p.val := by omega
    simp only [e4, if_pos h]
  · have e4 : (128 * p.val + j.val) / 64 = 2 * p.val + 1 := by omega
    simp only [e4, if_neg h]

/-- The rows before the gate, as one array. -/
def yG (A : FVec Ideal S256x2048 .f32) (d cs : FVec Ideal S256x16 .f32) (cr : FVec Ideal S16x256 .f32) (dsk : Vec Ideal S1x1024 .f32)
    (st : Vec Ideal S8x128x128 .f32) : S256x1024.Idx → Elt Ideal .f32 := fun y => yV A d cs cr dsk st (y 0) (y 1)

/-- The states after the chunk, as one array. -/
def sG (A : FVec Ideal S256x2048 .f32) (d cs : FVec Ideal S256x16 .f32) (cl : FVec Ideal S1x16 .f32)
    (st : Vec Ideal S8x128x128 .f32) : S8x128x128.Idx → Elt Ideal .f32 := fun y => sV A d cs cl st (y 0) (y 1) (y 2)

/-- Reading the eight stores side by side at an entry. -/
theorem yAll_read (A : FVec Ideal S256x2048 .f32) (d cs : FVec Ideal S256x16 .f32) (cr : FVec Ideal S16x256 .f32) (dsk : Vec Ideal S1x1024 .f32)
    (st : Vec Ideal S8x128x128 .f32) (i : Fin 256) (c : Fin 1024) : yAll A d cs cr dsk st (ix2 i c) = yV A d cs cr dsk st i c := by
  have hp : ∀ (p : Fin 8) (x : S256x128.Idx), (yPc A d cs cr dsk st p).2 x
      = (yG A d cs cr dsk st) ((yPc A d cs cr dsk st p).1.emb x) := fun p x => by
    idx_vars x
    refine (yPart_read A d cs cr dsk st p x0 x1).trans ?_
    have h0 : x0 = ((yPc A d cs cr dsk st p).1.emb (ix2 x0 x1)) 0 :=
      Fin.ext ((Idealize.ShloMosaic.ValueKit.rect_emb_unit_val _ _ (inb_y p) (ix2 x0 x1) 0).trans (Nat.zero_add _)).symm
    have h1 : (⟨128 * p.val + x1.val, by omega⟩ : Fin 1024) = ((yPc A d cs cr dsk st p).1.emb (ix2 x0 x1)) 1 :=
      Fin.ext (Idealize.ShloMosaic.ValueKit.rect_emb_unit_val _ _ (inb_y p) (ix2 x0 x1) 1).symm
    exact congrArg₂ (yV A d cs cr dsk st) h0 h1
  have hc : ∀ p : Fin 8, p.val = c.val / 128 → ix2 i c ∈ (yPc A d cs cr dsk st p).1.set := fun p h =>
    (Rect.mem_set_unit (inb := inb_y p)).2 fun a => match a with
      | ⟨0, _⟩ => ⟨Nat.zero_le _, by show i.val < 0 + 256; omega⟩
      | ⟨1, _⟩ => ⟨by show 128 * p.val ≤ c.val; omega, by show c.val < 128 * p.val + 128; omega⟩
  have key := View.canon_append_of_piecesOf (yG A d cs cr dsk st) []
    [yPc A d cs cr dsk st 7, yPc A d cs cr dsk st 6, yPc A d cs cr dsk st 5, yPc A d cs cr dsk st 4,
      yPc A d cs cr dsk st 3, yPc A d cs cr dsk st 2, yPc A d cs cr dsk st 1, yPc A d cs cr dsk st 0]
    ⟨hp 7, hp 6, hp 5, hp 4, hp 3, hp 2, hp 1, hp 0, trivial⟩ (ix2 i c) (by
      refine ⟨yPc A d cs cr dsk st ⟨c.val / 128, by omega⟩, ?_, hc _ rfl⟩
      have : c.val / 128 < 8 := by omega
      generalize hq : (⟨c.val / 128, this⟩ : Fin 8) = q
      fin_cases q <;> simp)
  rw [List.append_nil] at key
  exact key

/-- Reading the eight states stored, at an entry, whatever was stored before them. -/
theorem pointSt_read (x1 : Vec Ideal S256x2048 .f32) (x2 : Vec Ideal S256x128 .f32) (x4 : Vec Ideal S4x2048 .f32) (x5 : Vec Ideal S1x2048 .f32)
    (x6 x8 : Vec Ideal S1x16 .f32) (e : Vec Ideal S8x2048 .f32) (st : Vec Ideal S8x128x128 .f32) (L : List (View.Piece (Elt Ideal) S8x128x128 .f32))
    (p : Fin 8) (j n : Fin 128) :
    pointSt x1 x2 x4 x5 x6 x8 e st L (ix3 p j n)
      = sV (actB x1 x4 x5 e) (k0_pay8 (rawDt x2) x6) (k0_pay12 (k0_pay9 (rawDt x2) x6 x8)) (k0_pay14 (k0_pay9 (rawDt x2) x6 x8)) st p j n := by
  unfold pointSt
  generalize actB x1 x4 x5 e = A
  generalize k0_pay8 (rawDt x2) x6 = d
  generalize k0_pay12 (k0_pay9 (rawDt x2) x6 x8) = cs
  generalize k0_pay14 (k0_pay9 (rawDt x2) x6 x8) = cl
  have hp : ∀ (p : Fin 8) (x : S1x128x128.Idx), (sPc A d cs cl st p).2 x
      = (sG A d cs cl st) ((sPc A d cs cl st p).1.emb x) := fun p x => by
    idx_vars x
    obtain rfl : x0 = 0 := Subsingleton.elim _ _
    refine (sPart_read A d cs cl st p x1 x2).trans ?_
    have h0 : p = ((sPc A d cs cl st p).1.emb (ix3 0 x1 x2)) 0 := Fin.ext (Idealize.ShloMosaic.ValueKit.rect_emb_unit_val _ _ (inb_s p) (ix3 0 x1 x2) 0).symm
    have h1 : x1 = ((sPc A d cs cl st p).1.emb (ix3 0 x1 x2)) 1 :=
      Fin.ext ((Idealize.ShloMosaic.ValueKit.rect_emb_unit_val _ _ (inb_s p) (ix3 0 x1 x2) 1).trans (Nat.zero_add _)).symm
    have h2 : x2 = ((sPc A d cs cl st p).1.emb (ix3 0 x1 x2)) 2 :=
      Fin.ext ((Idealize.ShloMosaic.ValueKit.rect_emb_unit_val _ _ (inb_s p) (ix3 0 x1 x2) 2).trans (Nat.zero_add _)).symm
    exact (congrArg₂ (fun a b => sV A d cs cl st a b x2) h0 h1).trans (congrArg (sV A d cs cl st _ _) h2)
  have hc : ix3 p j n ∈ (sPc A d cs cl st p).1.set :=
    (Rect.mem_set_unit (inb := inb_s p)).2 fun a => match a with
      | ⟨0, _⟩ => ⟨le_refl _, Nat.lt_succ_self _⟩
      | ⟨1, _⟩ => ⟨Nat.zero_le _, by show j.val < 0 + 128; omega⟩
      | ⟨2, _⟩ => ⟨Nat.zero_le _, by show n.val < 0 + 128; omega⟩
  exact View.canon_append_of_piecesOf (sG A d cs cl st) L
    [sPc A d cs cl st 7, sPc A d cs cl st 6, sPc A d cs cl st 5, sPc A d cs cl st 4,
      sPc A d cs cl st 3, sPc A d cs cl st 2, sPc A d cs cl st 1, sPc A d cs cl st 0]
    ⟨hp 7, hp 6, hp 5, hp 4, hp 3, hp 2, hp 1, hp 0, trivial⟩ (ix3 p j n) ⟨sPc A d cs cl st p, by fin_cases p <;> simp, hc⟩

/-- One entry of the output block over the gated rows `G`: divided by the root of its group's mean square, and scaled. -/
def oV (G : Fin 256 → Fin 1024 → EReal) (w : Vec Ideal S1x1024 .f32) (i : Fin 256) (c : Fin 1024) : EReal :=
  G i c * Ideal.rsqrt (Ideal.div (∑ x : Fin 256, G i ⟨256 * (c.val / 256) + x.val, by omega⟩ * G i ⟨256 * (c.val / 256) + x.val, by omega⟩)
      (Ideal.ofBits FTy.f32 1132462080#32) + Ideal.ofBits FTy.f32 925353388#32) * w (ix2 0 c)

/-- The output block, as one array. -/
def oG (G : FVec Ideal S256x1024 .f32) (w : Vec Ideal S1x1024 .f32) : S256x1024.Idx → Elt Ideal .bf16 :=
  fun y => oV (fun a b => G (ix2 a b)) w (y 0) (y 1)

theorem oPart_read (G : FVec Ideal S256x1024 .f32) (w : Vec Ideal S1x1024 .f32) (g : Fin 4) (i j : Fin 256) :
    (oPc G w g).2 (ix2 i j) = oV (fun a b => G (ix2 a b)) w i ⟨256 * g.val + j.val, by omega⟩ := by
  show groupOut (extractStridedSlice S256x256 ![0, 256 * g.val] G (sl_g g))
      (View.ld w (Rect.unit (s := S1x1024) ![0, 256 * g.val] S1x256.size (inb_w g))) (ix2 i j) = _
  pointwise [groupOut]
  unfold oV
  have e : (256 * g.val + j.val) / 256 = g.val := by omega
  simp only [e]

/-- Reading the output block at an entry. -/
theorem outB_read (z : Vec Ideal S256x1024 .f32) (w : Vec Ideal S1x1024 .f32) (Y : Vec Ideal S256x1024 .f32) (i : Fin 256) (c : Fin 1024) :
    outB z w Y (ix2 i c) = oV (fun a b => Y (ix2 a b) * (z (ix2 a b) * Ideal.logistic (z (ix2 a b)))) w i c := by
  have hG : (fun a b => Y (ix2 a b) * (z (ix2 a b) * Ideal.logistic (z (ix2 a b)))) = fun (a : Fin 256) (b : Fin 1024) => k0_pay120 z Y (ix2 a b) := by
    funext a b
    pointwise [k0_pay120]
  rw [hG]
  unfold outB
  generalize k0_pay120 z Y = G
  have hp : ∀ (g : Fin 4) (x : S256x256.Idx), (oPc G w g).2 x
      = (oG G w) ((oPc G w g).1.emb x) := fun g x => by
    idx_vars x
    refine (oPart_read G w g x0 x1).trans ?_
    have h0 : x0 = ((oPc G w g).1.emb (ix2 x0 x1)) 0 :=
      Fin.ext ((Idealize.ShloMosaic.ValueKit.rect_emb_unit_val _ _ (inb_o g) (ix2 x0 x1) 0).trans (Nat.zero_add _)).symm
    have h1 : (⟨256 * g.val + x1.val, by omega⟩ : Fin 1024) = ((oPc G w g).1.emb (ix2 x0 x1)) 1 :=
      Fin.ext (Idealize.ShloMosaic.ValueKit.rect_emb_unit_val _ _ (inb_o g) (ix2 x0 x1) 1).symm
    exact congrArg₂ (oV (fun a b => G (ix2 a b)) w) h0 h1
  have hc : ∀ g : Fin 4, g.val = c.val / 256 → ix2 i c ∈ (oPc G w g).1.set := fun g h =>
    (Rect.mem_set_unit (inb := inb_o g)).2 fun a => match a with
      | ⟨0, _⟩ => ⟨Nat.zero_le _, by show i.val < 0 + 256; omega⟩
      | ⟨1, _⟩ => ⟨by show 256 * g.val ≤ c.val; omega, by show c.val < 256 * g.val + 256; omega⟩
  have key := View.canon_append_of_piecesOf (oG G w) []
    [oPc G w 3, oPc G w 2, oPc G w 1, oPc G w 0] ⟨hp 3, hp 2, hp 1, hp 0, trivial⟩ (ix2 i c) (by
      refine ⟨oPc G w ⟨c.val / 256, by omega⟩, ?_, hc _ rfl⟩
      have : c.val / 256 < 4 := by omega
      generalize hq : (⟨c.val / 256, this⟩ : Fin 4) = q
      fin_cases q <;> simp)
  rw [List.append_nil] at key
  exact key

end Cert.KernelIdeal.Ssd
end
-- ==== Proof.Chunk.lean ====
/- The recurrence behind the scan, over the reals: the running sums, the state, the output, and how a chunk of tokens extends them. -/
module

public import Mathlib.Algebra.BigOperators.Intervals
public import Mathlib.Analysis.SpecialFunctions.Exp

@[expose] public section

noncomputable section

namespace Cert.Ssd
open Finset

/-- The decays' running sum over the first `m` tokens. -/
def cum (a : ℕ → ℝ) (m : ℕ) : ℝ := ∑ k ∈ range m, a k

/-- The state before token `T`: every earlier token's contribution, decayed up to `T`. -/
def hid {N : ℕ} (a X : ℕ → ℝ) (B : ℕ → Fin N → ℝ) (T : ℕ) (n : Fin N) : ℝ :=
  ∑ s ∈ range T, X s * Real.exp (cum a T - cum a (s + 1)) * B s n

/-- The scan's output at token `t`: the recurrence solved over all tokens up to `t`. -/
def scanOut {N : ℕ} (a X : ℕ → ℝ) (B C : ℕ → Fin N → ℝ) (t : ℕ) : ℝ :=
  ∑ s ∈ range (t + 1), X s * ((∑ n, C t n * B s n) * Real.exp (cum a (t + 1) - cum a (s + 1)))

/-- The running sum inside a chunk that starts at token `T`. -/
theorem cum_add (a : ℕ → ℝ) (T m : ℕ) : cum a (T + m) = cum a T + ∑ j ∈ range m, a (T + j) := by
  unfold cum; exact sum_range_add _ _ _

/-- No token precedes the first. -/
theorem hid_zero {N : ℕ} (a X : ℕ → ℝ) (B : ℕ → Fin N → ℝ) (n : Fin N) : hid a X B 0 n = 0 := by
  simp [hid]

/-- The state after a chunk of `m` tokens from the state before it. -/
theorem hid_add {N : ℕ} (a X : ℕ → ℝ) (B : ℕ → Fin N → ℝ) (T m : ℕ) (n : Fin N) :
    hid a X B (T + m) n = hid a X B T n * Real.exp (cum a (T + m) - cum a T)
      + ∑ j ∈ range m, X (T + j) * Real.exp ((cum a (T + m) - cum a T) - (cum a (T + j + 1) - cum a T)) * B (T + j) n := by
  unfold hid
  rw [sum_range_add, sum_mul]
  congr 1
  · refine sum_congr rfl fun s _ => ?_
    rw [show cum a (T + m) - cum a (s + 1) = (cum a T - cum a (s + 1)) + (cum a (T + m) - cum a T) by ring, Real.exp_add]
    ring
  · refine sum_congr rfl fun j _ => ?_
    rw [show cum a (T + m) - cum a T - (cum a (T + j + 1) - cum a T) = cum a (T + m) - cum a (T + j + 1) by ring]

/-- The output at the `i`-th token of a chunk: the chunk's own part, plus what the state before the chunk gives. -/
theorem scanOut_add {N : ℕ} (a X : ℕ → ℝ) (B C : ℕ → Fin N → ℝ) (T i : ℕ) :
    scanOut a X B C (T + i) =
      (∑ j ∈ range (i + 1), X (T + j) * ((∑ n, C (T + i) n * B (T + j) n)
          * Real.exp ((cum a (T + i + 1) - cum a T) - (cum a (T + j + 1) - cum a T))))
      + (∑ n, C (T + i) n * hid a X B T n) * Real.exp (cum a (T + i + 1) - cum a T) := by
  unfold scanOut hid
  rw [add_assoc T i 1, sum_range_add, add_comm]
  congr 1
  · refine sum_congr rfl fun j _ => ?_
    congr 3; ring
  · simp_rw [mul_sum]
    rw [sum_comm, sum_mul]
    refine sum_congr rfl fun s _ => ?_
    rw [show cum a (T + (i + 1)) - cum a (s + 1) = (cum a T - cum a (s + 1)) + (cum a (T + (i + 1)) - cum a T) by ring, Real.exp_add,
      sum_mul, mul_sum, sum_mul]
    refine sum_congr rfl fun n _ => ?_
    ring

end Cert.Ssd
end
-- ==== Proof.Common.lean ====
/- The layer's mathematics both programs compute, over exact numbers: the short causal convolution and its activation, the steps,
   the decays, the scan solved over a sequence, the skip, the gate and the grouped normalisation; and that on finite inputs all that
   the scan reads is a real number. -/
module

public import proofs.«01_k».proof.Proof.Chunk
public import Idealize.ShloMosaic.PureOps.Ideal

@[expose] public section

noncomputable section

namespace Cert.Ssd

open Idealize.ShloMosaic Finset

/-- A number that is neither infinity. -/
def IsReal (x : EReal) : Prop := ∃ r : ℝ, x = r

theorem IsReal.coe {x : EReal} (h : IsReal x) : x = ((x.toReal : ℝ) : EReal) := by
  obtain ⟨r, rfl⟩ := h; rfl

theorem isReal_zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨r, rfl⟩ := hx; exact ⟨Real.exp r, Ideal.exp_coe r⟩

theorem IsReal.logistic {x : EReal} (hx : IsReal x) : IsReal (Ideal.logistic x) := by
  obtain ⟨r, rfl⟩ := hx; exact ⟨_, Ideal.logistic_coe r⟩

theorem IsReal.log1p_exp {x : EReal} (hx : IsReal x) : IsReal (Ideal.log1p (Ideal.exp x)) := by
  obtain ⟨r, rfl⟩ := hx
  unfold Ideal.log1p
  rw [Ideal.exp_coe, ← EReal.coe_one, ← EReal.coe_add, Ideal.log_coe, if_neg (by have := Real.exp_pos r; linarith)]
  exact ⟨_, rfl⟩

/-- A finite absolute value is a real number's. -/
theorem isReal_of_abs_lt {x : EReal} (h : max x (-x) < ⊤) : IsReal x := by
  have h1 : x ≠ ⊤ := fun e => by rw [e] at h; simp at h
  have h2 : x ≠ ⊥ := fun e => by rw [e] at h; simp at h
  exact ⟨x.toReal, (EReal.coe_toReal h1 h2).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over a row masked past `i` is the sum of the first `i + 1` entries. -/
theorem masked_sum {N : ℕ} (f : ℕ → ℝ) (i : ℕ) (h : i < N) :
    (∑ k : Fin N, if k.val ≤ i then ((f k.val : ℝ) : EReal) else 0) = ((∑ k ∈ range (i + 1), f k : ℝ) : EReal) := by
  rw [Fin.sum_univ_eq_sum_range (fun k => if k ≤ i then ((f k : ℝ) : EReal) else 0) N, ← sum_filter, coe_sum]
  refine sum_congr ?_ fun _ _ => rfl
  ext k
  simp only [mem_filter, mem_range]
  omega

/-- The layer's inputs, read at natural indices. -/
structure Par where
  z : ℕ → ℕ → EReal
  x : ℕ → ℕ → EReal
  s : ℕ → ℕ → EReal
  w : ℕ → ℕ → EReal
  bi : ℕ → EReal
  bias : ℕ → EReal
  al : ℕ → EReal
  dsk : ℕ → EReal
  nw : ℕ → EReal

namespace Par

variable (P : Par)

/-- The rows of a sequence with three rows of zeros before the first. -/
def xp (b u c : ℕ) : EReal := if u < 3 then 0 else P.x (2048 * b + (u - 3)) c

/-- The convolution of four rows. -/
def conv (b t c : ℕ) : EReal :=
  P.xp b t c * P.w 0 c + P.xp b (t + 1) c * P.w 1 c + P.xp b (t + 2) c * P.w 2 c + P.xp b (t + 3) c * P.w 3 c + P.bi c

/-- Its activation. -/
def act (b t c : ℕ) : EReal := P.conv b t c * Ideal.logistic (P.conv b t c)

/-- A step's raw value. -/
def raw (b t h : ℕ) : EReal := P.s (2048 * b + t) (80 + h) + P.bias h

/-- A step: the softplus of its raw value. -/
def dt (b t h : ℕ) : EReal :=
  max (P.raw b t h) 0 + Ideal.log1p (Ideal.exp (-(max (P.raw b t h) (-(P.raw b t h)))))

/-- A step's decay. -/
def a (b t h : ℕ) : EReal := P.dt b t h * -(Ideal.exp (P.al h))

def actR (b t c : ℕ) : ℝ := (P.act b t c).toReal
def dtR (b t h : ℕ) : ℝ := (P.dt b t h).toReal
def aR (b t h : ℕ) : ℝ := (P.a b t h).toReal

/-- Column `c`'s decays, scaled inputs, and its group's input and output vectors. -/
def fA (b c : ℕ) (t : ℕ) : ℝ := P.aR b t (c / 64)
def fX (b c : ℕ) (t : ℕ) : ℝ := P.actR b t c * P.dtR b t (c / 64)
def fB (b c : ℕ) (t : ℕ) (n : Fin 128) : ℝ := P.actR b t (1024 + 128 * (c / 256) + n.val)
def fC (b c : ℕ) (t : ℕ) (n : Fin 128) : ℝ := P.actR b t (1536 + 128 * (c / 256) + n.val)

/-- The rows before the gate: the scan's output and the skip. -/
def rows (b t c : ℕ) : EReal :=
  ((scanOut (P.fA b c) (P.fX b c) (P.fB b c) (P.fC b c) t : ℝ) : EReal) + P.act b t c * P.dsk (c / 64)

/-- The gated rows. -/
def gated (b t c : ℕ) : EReal := P.rows b t c * (P.z (2048 * b + t) c * Ideal.logistic (P.z (2048 * b + t) c))

/-- The layer's result. -/
def out (b t c : ℕ) : EReal :=
  P.gated b t c * Ideal.rsqrt (Ideal.div (∑ x : Fin 256, P.gated b t (256 * (c / 256) + x.val) * P.gated b t (256 * (c / 256) + x.val))
      (Ideal.ofBits FTy.f32 1132462080#32) + Ideal.ofBits FTy.f32 925353388#32) * P.nw c

/-- What the scan reads is finite. -/
structure Finite : Prop where
  x : ∀ r c, IsReal (P.x r c)
  s : ∀ r h, h < 16 → IsReal (P.s r (80 + h))
  w : ∀ k c, IsReal (P.w k c)
  bi : ∀ c, IsReal (P.bi c)
  bias : ∀ h, IsReal (P.bias h)
  al : ∀ h, IsReal (P.al h)

variable {P}

theorem Finite.xp (h : P.Finite) (b u c : ℕ) : IsReal (P.xp b u c) := by
  unfold Par.xp; split
  · exact isReal_zero
  · exact h.x _ _

theorem Finite.conv (h : P.Finite) (b t c : ℕ) : IsReal (P.conv b t c) :=
  (((((h.xp _ _ _).mul (h.w _ _)).add ((h.xp _ _ _).mul (h.w _ _))).add ((h.xp _ _ _).mul (h.w _ _))).add ((h.xp _ _ _).mul (h.w _ _))).add (h.bi _)

theorem Finite.act (h : P.Finite) (b t c : ℕ) : P.act b t c = ((P.actR b t c : ℝ) : EReal) :=
  ((h.conv b t c).mul (h.conv b t c).logistic).coe

theorem Finite.dt' (h : P.Finite) (b t k : ℕ) (hk : k < 16) : IsReal (P.dt b t k) := by
  have hr : IsReal (P.raw b t k) := (h.s _ _ hk).add (h.bias _)
  exact (hr.max isReal_zero).add (hr.max hr.neg).neg.log1p_exp

theorem Finite.dt (h : P.Finite) (b t k : ℕ) (hk : k < 16) : P.dt b t k = ((P.dtR b t k : ℝ) : EReal) := (h.dt' b t k hk).coe

theorem Finite.a (h : P.Finite) (b t k : ℕ) (hk : k < 16) : P.a b t k = ((P.aR b t k : ℝ) : EReal) :=
  ((h.dt' b t k hk).mul (h.al k).exp.neg).coe

end Par

end Cert.Ssd
end
-- ==== Proof.ChunkRead.lean ====
/- One chunk of tokens over finite inputs: the running sums, the rows before the gate, and the states, as the scan solved over the
   whole sequence. -/
module

public import proofs.«01_k».proof.Proof.PairRead
public import proofs.«01_k».proof.Proof.Common

@[expose] public section

set_option maxRecDepth 16384

noncomputable section

namespace Cert.KernelIdeal.Ssd

open Cert.KernelIdeal Cert.KernelIdeal.Gen Idealize.ShloMosaic Idealize.ShloMosaic.TcCoe Idealize.SL.Sem Cert.Ssd

/-- The running sums down the rows. -/
theorem sums_read (u : FVec Ideal S256x16 .f32) (f : ℕ → ℝ) (k : Fin 16) (T : ℕ) (hu : ∀ i : Fin 256, u (ix2 i k) = ((f (T + i.val) : ℝ) : EReal))
    (i : Fin 256) : k0_pay12 u (ix2 i k) = ((cum f (T + i.val + 1) - cum f T : ℝ) : EReal) := by
  pointwise [k0_pay12]
  have hm : ∀ x : Fin 256, k0_pay11 (ix2 i x) = if x.val ≤ i.val then 1#1 else 0#1 := fun x => by
    pointwise [k0_pay11]
    exact le_mask (by omega) (by omega)
  simp only [hm, select_if, hu]
  rw [masked_sum (fun j => f (T + j)) i.val i.isLt, add_assoc, cum_add, add_sub_cancel_left]

/-- The same along the rows of the transposed copy. -/
theorem sumsT_read (v : FVec Ideal S16x256 .f32) (f : ℕ → ℝ) (k : Fin 16) (T : ℕ) (hv : ∀ i : Fin 256, v (ix2 k i) = ((f (T + i.val) : ℝ) : EReal))
    (i : Fin 256) : k0_pay13 v (ix2 k i) = ((cum f (T + i.val + 1) - cum f T : ℝ) : EReal) := by
  pointwise [k0_pay13]
  have hm : ∀ x : Fin 256, IntOp.cmpi CmpIPredicate.sle (BitVec.ofNat 32 x.val) (BitVec.ofNat 32 i.val) = if x.val ≤ i.val then 1#1 else 0#1 :=
    fun x => le_mask (by omega) (by omega)
  simp only [hm, select_if, hv]
  rw [masked_sum (fun j => f (T + j)) i.val i.isLt, add_assoc, cum_add, add_sub_cancel_left]

/-- The last row's running sums. -/
theorem last_read (u : FVec Ideal S256x16 .f32) (f : ℕ → ℝ) (k : Fin 16) (T : ℕ) (hu : ∀ i : Fin 256, u (ix2 i k) = ((f (T + i.val) : ℝ) : EReal)) :
    k0_pay14 u (ix2 0 k) = ((cum f (T + 256) - cum f T : ℝ) : EReal) := by
  have e : k0_pay14 u (ix2 0 k) = k0_pay12 u (ix2 255 k) := by
    unfold k0_pay14
    generalize k0_pay12 u = y
    pointwise
  rw [e, sums_read u f k T hu]
  rfl

variable {P : Par} (hP : P.Finite)
include hP

/-- The rows before the gate are the layer's. -/
theorem yV_rows (A : FVec Ideal S256x2048 .f32) (d cs : FVec Ideal S256x16 .f32) (cr : FVec Ideal S16x256 .f32) (dsk : Vec Ideal S1x1024 .f32)
    (st : Vec Ideal S8x128x128 .f32) (b T : ℕ) (hA : ∀ i c, A (ix2 i c) = P.act b (T + i.val) c.val)
    (hd : ∀ i k, d (ix2 i k) = P.dt b (T + i.val) k.val)
    (hcs : ∀ i k, cs (ix2 i k) = ((cum (fun t => P.aR b t k.val) (T + i.val + 1) - cum (fun t => P.aR b t k.val) T : ℝ) : EReal))
    (hcr : ∀ i k, cr (ix2 k i) = ((cum (fun t => P.aR b t k.val) (T + i.val + 1) - cum (fun t => P.aR b t k.val) T : ℝ) : EReal))
    (hdsk : ∀ c : Fin 1024, dsk (ix2 0 c) = P.dsk (c.val / 64)) (i : Fin 256) (c : Fin 1024)
    (hst : ∀ n, st (ix3 ⟨c.val / 128, by omega⟩ ⟨c.val % 128, by omega⟩ n)
      = ((hid (P.fA b c.val) (P.fX b c.val) (P.fB b c.val) T n : ℝ) : EReal)) :
    yV A d cs cr dsk st i c = P.rows b (T + i.val) c.val := by
  unfold yV Par.rows
  have hh : c.val / 64 < 16 := by omega
  rw [hdsk, hA i ⟨c.val, _⟩]
  congr 1
  rw [scanOut_add, EReal.coe_add]
  congr 1
  · rw [← masked_sum (N := 256) _ i.val i.isLt]
    refine Finset.sum_congr rfl fun x _ => ?_
    simp only [hA, hd, hcs, hcr, hP.act, hP.dt _ _ _ hh]
    split
    · rw [← EReal.coe_sub, Ideal.exp_coe]
      simp only [← EReal.coe_mul, ← coe_sum]
      congr 1
      unfold Par.fX Par.fB Par.fC Par.fA
      ring
    · rw [Ideal.exp_bot, mul_zero, zero_mul]
  · simp only [hA, hst, hcs, hP.act, Ideal.exp_coe]
    simp only [← EReal.coe_mul, ← coe_sum]
    rfl

/-- The states after the chunk are the scan's. -/
theorem sV_hid (A : FVec Ideal S256x2048 .f32) (d cs : FVec Ideal S256x16 .f32) (cl : FVec Ideal S1x16 .f32)
    (st : Vec Ideal S8x128x128 .f32) (b T : ℕ) (hA : ∀ i c, A (ix2 i c) = P.act b (T + i.val) c.val)
    (hd : ∀ i k, d (ix2 i k) = P.dt b (T + i.val) k.val)
    (hcs : ∀ i k, cs (ix2 i k) = ((cum (fun t => P.aR b t k.val) (T + i.val + 1) - cum (fun t => P.aR b t k.val) T : ℝ) : EReal))
    (hcl : ∀ k, cl (ix2 0 k) = ((cum (fun t => P.aR b t k.val) (T + 256) - cum (fun t => P.aR b t k.val) T : ℝ) : EReal))
    (p : Fin 8) (j n : Fin 128)
    (hst : st (ix3 p j n) = ((hid (P.fA b (128 * p.val + j.val)) (P.fX b (128 * p.val + j.val)) (P.fB b (128 * p.val + j.val)) T n : ℝ) : EReal)) :
    sV A d cs cl st p j n
      = ((hid (P.fA b (128 * p.val + j.val)) (P.fX b (128 * p.val + j.val)) (P.fB b (128 * p.val + j.val)) (T + 256) n : ℝ) : EReal) := by
  unfold sV
  have hh : (128 * p.val + j.val) / 64 < 16 := by omega
  have hg : p.val / 2 = (128 * p.val + j.val) / 256 := by omega
  rw [hid_add, EReal.coe_add, hst, hcl, Ideal.exp_coe, EReal.coe_mul]
  congr 1
  rw [coe_sum, ← Fin.sum_univ_eq_sum_range (fun k => ((_ : ℝ) : EReal)) 256]
  refine Finset.sum_congr rfl fun x _ => ?_
  simp only [hA, hd, hcs, hP.act, hP.dt _ _ _ hh]
  rw [← EReal.coe_sub, Ideal.exp_coe]
  simp only [← EReal.coe_mul]
  congr 1
  unfold Par.fX Par.fB Par.fA
  rw [hg]

end Cert.KernelIdeal.Ssd
end
-- ==== Proof.PointRead.lean ====
/- One grid point over finite inputs: from blocks that hold a chunk of a sequence and states that are the scan's before it, the
   point's rows are the layer's, and the states and rows it carries on are the scan's after it. -/
module

public import proofs.«01_k».proof.Proof.ChunkRead

@[expose] public section

set_option maxRecDepth 16384

noncomputable section

namespace Cert.KernelIdeal.Ssd

open Cert.KernelIdeal Cert.KernelIdeal.Gen Idealize.ShloMosaic Idealize.ShloMosaic.TcCoe Idealize.SL.Sem Cert.Ssd

/-- The point's blocks hold the chunk of sequence `b` that starts at row `T`. -/
structure Holds (P : Par) (b T : ℕ) (x0 : Vec Ideal S256x1024 .f32) (x1 : Vec Ideal S256x2048 .f32) (x2 : Vec Ideal S256x128 .f32)
    (x3 : Vec Ideal S1x16x256 .f32) (x4 : Vec Ideal S4x2048 .f32) (x5 : Vec Ideal S1x2048 .f32) (x6 : Vec Ideal S1x16 .f32)
    (x7 : Vec Ideal S16x1 .f32) (x8 : Vec Ideal S1x16 .f32) (x9 : Vec Ideal S16x1 .f32) (x10 x11 : Vec Ideal S1x1024 .f32) : Prop where
  z : ∀ i c, x0 (ix2 i c) = P.z (2048 * b + (T + i.val)) c.val
  x : ∀ i c, x1 (ix2 i c) = P.x (2048 * b + (T + i.val)) c.val
  s : ∀ i h, x2 (ix2 i h) = P.s (2048 * b + (T + i.val)) h.val
  sT : ∀ h i, x3 (ix3 0 h i) = P.s (2048 * b + (T + i.val)) (80 + h.val)
  w : ∀ k c, x4 (ix2 k c) = P.w k.val c.val
  bi : ∀ c, x5 (ix2 0 c) = P.bi c.val
  bias : ∀ h, x6 (ix2 0 h) = P.bias h.val
  biasT : ∀ h, x7 (ix2 h 0) = P.bias h.val
  al : ∀ h, x8 (ix2 0 h) = P.al h.val
  alT : ∀ h, x9 (ix2 h 0) = P.al h.val
  dsk : ∀ c, x10 (ix2 0 c) = P.dsk (c.val / 64)
  nw : ∀ c, x11 (ix2 0 c) = P.nw c.val

variable {P : Par} (hP : P.Finite) {b T : ℕ} {x0 : Vec Ideal S256x1024 .f32} {x1 : Vec Ideal S256x2048 .f32} {x2 : Vec Ideal S256x128 .f32}
    {x3 : Vec Ideal S1x16x256 .f32} {x4 : Vec Ideal S4x2048 .f32} {x5 : Vec Ideal S1x2048 .f32} {x6 : Vec Ideal S1x16 .f32}
    {x7 : Vec Ideal S16x1 .f32} {x8 : Vec Ideal S1x16 .f32} {x9 : Vec Ideal S16x1 .f32} {x10 x11 : Vec Ideal S1x1024 .f32}
    (H : Holds P b T x0 x1 x2 x3 x4 x5 x6 x7 x8 x9 x10 x11) {e : Vec Ideal S8x2048 .f32}
    (he : ∀ (r : Fin 8) c, 5 ≤ r.val → e (ix2 r c) = P.xp b (T + (r.val - 5)) c.val)

include H

/-- The chunk's rows behind the carried ones are the sequence's, three rows further on. -/
theorem xp_row (i : Fin 256) (c : Fin 2048) : x1 (ix2 i c) = P.xp b (T + i.val + 3) c.val := by
  unfold Par.xp
  rw [if_neg (by omega), H.x, Nat.add_sub_cancel]

include he in
theorem ext_read (r : Fin 264) (c : Fin 2048) (h : 5 ≤ r.val) : extRows e x1 (ix2 r c) = P.xp b (T + (r.val - 5)) c.val := by
  unfold extRows
  by_cases h8 : r.val < 8
  · rw [dif_pos (show ((ix2 r c : S264x2048.Idx) 0).val < 8 from h8)]
    exact he ⟨r.val, h8⟩ c h
  · rw [dif_neg (show ¬ ((ix2 r c : S264x2048.Idx) 0).val < 8 from h8)]
    refine (xp_row H ⟨r.val - 8, by omega⟩ c).trans ?_
    congr 1
    show T + (r.val - 8) + 3 = T + (r.val - 5)
    omega

/-- What the point carries on are the three rows before the next chunk. -/
theorem carry_read (r : Fin 8) (c : Fin 2048) (h : 5 ≤ r.val) : k0_pay5 x1 (ix2 r c) = P.xp b (T + 256 + (r.val - 5)) c.val := by
  pointwise [k0_pay5]
  rw [xp_row H]
  congr 1
  show T + (248 + r.val) + 3 = T + 256 + (r.val - 5)
  omega

include he in
/-- The activated convolution. -/
theorem act_read (i : Fin 256) (c : Fin 2048) : actB x1 x4 x5 e (ix2 i c) = P.act b (T + i.val) c.val := by
  pointwise [actB, k0_pay6]
  rw [xp_row H, H.w, H.w, H.w, H.w, H.bi, ext_read H he _ _ (by show 5 ≤ 7 + i.val; omega), ext_read H he _ _ (by show 5 ≤ 6 + i.val; omega),
    ext_read H he _ _ (by show 5 ≤ 5 + i.val; omega)]
  have e2 : T + (7 + i.val - 5) = T + i.val + 2 := by omega
  have e1 : T + (6 + i.val - 5) = T + i.val + 1 := by omega
  have e0 : T + (5 + i.val - 5) = T + i.val := by omega
  show _ * Ideal.logistic _ = _
  rw [e2, e1, e0]
  unfold Par.act
  have hc : P.conv b (T + i.val) c.val = P.xp b (T + i.val + 3) c.val * P.w 3 c.val + P.bi c.val + P.xp b (T + i.val + 2) c.val * P.w 2 c.val
      + P.xp b (T + i.val + 1) c.val * P.w 1 c.val + P.xp b (T + i.val) c.val * P.w 0 c.val := by
    unfold Par.conv
    abel
  rw [hc]
  rfl

/-- The steps. -/
theorem dt_read (i : Fin 256) (h : Fin 16) : k0_pay8 (rawDt x2) x6 (ix2 i h) = P.dt b (T + i.val) h.val := by
  pointwise [k0_pay8, k0_pay7, rawDt]
  simp only [H.s, H.bias, zero_sub]
  rfl

/-- The decays. -/
theorem a_read (i : Fin 256) (h : Fin 16) : k0_pay9 (rawDt x2) x6 x8 (ix2 i h) = P.a b (T + i.val) h.val := by
  have e1 : k0_pay9 (rawDt x2) x6 x8 (ix2 i h) = k0_pay8 (rawDt x2) x6 (ix2 i h) * (0 - Ideal.exp (x8 (ix2 0 h))) := by
    pointwise [k0_pay9]
  rw [e1, dt_read H, H.al, zero_sub]
  rfl

/-- The decays by their transposed copies. -/
theorem aT_read (i : Fin 256) (h : Fin 16) : k0_pay10 x3 x7 x9 (ix2 h i) = P.a b (T + i.val) h.val := by
  pointwise [k0_pay10]
  simp only [H.sT, H.biasT, H.alT, zero_sub]
  rfl

include hP he

/-- The point's rows are the layer's. -/
theorem out_read {st : Vec Ideal S8x128x128 .f32}
    (hst : ∀ p j n, st (ix3 p j n) = ((hid (P.fA b (128 * p.val + j.val)) (P.fX b (128 * p.val + j.val)) (P.fB b (128 * p.val + j.val)) T n : ℝ) : EReal))
    (i : Fin 256) (c : Fin 1024) :
    pointOut x0 x1 x2 x3 x4 x5 x6 x7 x8 x9 x10 x11 e st (ix2 i c) = P.out b (T + i.val) c.val := by
  have hY : ∀ (i : Fin 256) (c : Fin 1024), yAll (actB x1 x4 x5 e) (k0_pay8 (rawDt x2) x6) (k0_pay12 (k0_pay9 (rawDt x2) x6 x8))
      (k0_pay13 (k0_pay10 x3 x7 x9)) x10 st (ix2 i c) = P.rows b (T + i.val) c.val := fun i c => by
    rw [yAll_read]
    refine yV_rows hP _ _ _ _ _ _ b T (act_read H he) (dt_read H) (fun i k => ?_) (fun i k => ?_) H.dsk i c (fun n => ?_)
    · exact sums_read _ (fun t => P.aR b t k.val) k T (fun i => (a_read H i k).trans (hP.a _ _ _ k.isLt)) i
    · exact sumsT_read _ (fun t => P.aR b t k.val) k T (fun i => (aT_read H i k).trans (hP.a _ _ _ k.isLt)) i
    · rw [hst]
      have hc : 128 * (c.val / 128) + c.val % 128 = c.val := by omega
      show ((hid (P.fA b (128 * (c.val / 128) + c.val % 128)) (P.fX b (128 * (c.val / 128) + c.val % 128)) (P.fB b (128 * (c.val / 128) + c.val % 128)) T n : ℝ) : EReal) = _
      rw [hc]
  unfold pointOut
  rw [outB_read]
  unfold oV Par.out Par.gated
  simp only [hY, H.z, H.nw, ← Nat.add_assoc]

/-- The states it leaves are the scan's after the chunk. -/
theorem st_read {st : Vec Ideal S8x128x128 .f32} (L : List (View.Piece (Elt Ideal) S8x128x128 .f32))
    (hst : ∀ p j n, st (ix3 p j n) = ((hid (P.fA b (128 * p.val + j.val)) (P.fX b (128 * p.val + j.val)) (P.fB b (128 * p.val + j.val)) T n : ℝ) : EReal))
    (p : Fin 8) (j n : Fin 128) :
    pointSt x1 x2 x4 x5 x6 x8 e st L (ix3 p j n)
      = ((hid (P.fA b (128 * p.val + j.val)) (P.fX b (128 * p.val + j.val)) (P.fB b (128 * p.val + j.val)) (T + 256) n : ℝ) : EReal) := by
  rw [pointSt_read]
  refine sV_hid hP _ _ _ _ _ b T (act_read H he) (dt_read H) (fun i k => ?_) (fun k => ?_) p j n (hst p j n)
  · exact sums_read _ (fun t => P.aR b t k.val) k T (fun i => (a_read H i k).trans (hP.a _ _ _ k.isLt)) i
  · exact last_read _ (fun t => P.aR b t k.val) k T (fun i => (a_read H i k).trans (hP.a _ _ _ k.isLt))

end Cert.KernelIdeal.Ssd
end
-- ==== Proof.Args.lean ====
/- The layer's inputs as arrays, read at natural indices: zero outside the array. -/
module

public import proofs.«01_k».proof.Proof.Common

@[expose] public section

noncomputable section

namespace Cert.Ssd

/-- A vector at a natural index. -/
def at1 {n : ℕ} (f : Fin n → EReal) (r : ℕ) : EReal := if h : r < n then f ⟨r, h⟩ else 0

/-- A matrix at natural indices. -/
def at2 {n m : ℕ} (f : Fin n → Fin m → EReal) (r c : ℕ) : EReal := if h : r < n ∧ c < m then f ⟨r, h.1⟩ ⟨c, h.2⟩ else 0

/-- Reading a vector inside its range. -/
theorem at1_of {n : ℕ} (f : Fin n → EReal) {r : ℕ} (h : r < n) : at1 f r = f ⟨r, h⟩ := dif_pos h

/-- Reading a matrix inside its range. -/
theorem at2_of {n m : ℕ} (f : Fin n → Fin m → EReal) {r c : ℕ} (h : r < n) (h' : c < m) : at2 f r c = f ⟨r, h⟩ ⟨c, h'⟩ := dif_pos ⟨h, h'⟩

/-- A vector of real numbers reads as one everywhere. -/
theorem at1_real {n : ℕ} {f : Fin n → EReal} (h : ∀ r, IsReal (f r)) (r : ℕ) : IsReal (at1 f r) := by
  unfold at1; split
  · exact h _
  · exact isReal_zero

/-- A column of real numbers reads as one everywhere. -/
theorem at2_real {n m : ℕ} {f : Fin n → Fin m → EReal} (r c : ℕ) (h : ∀ i j, j.val = c → IsReal (f i j)) : IsReal (at2 f r c) := by
  unfold at2; split
  · exact h _ _ rfl
  · exact isReal_zero

/-- The layer's inputs, out of its nine arrays. -/
def parOf (z : Fin 65536 → Fin 1024 → EReal) (x : Fin 65536 → Fin 2048 → EReal) (s : Fin 65536 → Fin 128 → EReal) (w : Fin 4 → Fin 2048 → EReal)
    (bi : Fin 2048 → EReal) (bias al dsk : Fin 16 → EReal) (nw : Fin 1024 → EReal) : Par where
  z := at2 z
  x := at2 x
  s := at2 s
  w := at2 w
  bi := at1 bi
  bias := at1 bias
  al := at1 al
  dsk := at1 dsk
  nw := at1 nw

/-- They are finite where the scan reads them if the arrays are. -/
theorem parOf_finite {z : Fin 65536 → Fin 1024 → EReal} {x : Fin 65536 → Fin 2048 → EReal} {s : Fin 65536 → Fin 128 → EReal} {w : Fin 4 → Fin 2048 → EReal}
    {bi : Fin 2048 → EReal} {bias al dsk : Fin 16 → EReal} {nw : Fin 1024 → EReal} (hx : ∀ r c, IsReal (x r c))
    (hs : ∀ (r : Fin 65536) (h : Fin 16), IsReal (s r ⟨80 + h.val, by omega⟩)) (hw : ∀ k c, IsReal (w k c)) (hbi : ∀ c, IsReal (bi c))
    (hbias : ∀ h, IsReal (bias h)) (hal : ∀ h, IsReal (al h)) : (parOf z x s w bi bias al dsk nw).Finite where
  x := fun r c => at2_real r c fun i j _ => hx i j
  s := fun r h hh => at2_real r _ fun i j e => by
    have : j = ⟨80 + (⟨h, hh⟩ : Fin 16).val, by show 80 + h < 128; omega⟩ := Fin.ext e
    rw [this]
    exact hs i ⟨h, hh⟩
  w := fun k c => at2_real k c fun i j _ => hw i j
  bi := at1_real hbi
  bias := at1_real hbias
  al := at1_real hal

end Cert.Ssd
end
-- ==== Proof.Blocks.lean ====
/- The blocks a grid point reads: chunk `t % 8` of sequence `t / 8`, and the whole of each small operand. -/
module

public import proofs.«01_k».proof.Proof.PointRead
public import proofs.«01_k».proof.Proof.Args
public import proofs.«01_k».proof.Proof.Gen.KernelIdeal.Value
public import Idealize.ShloMosaic.Lib.Claim
public import Idealize.ShloMosaic.Lib.Pipeline.ValueKit.Point

@[expose] public section

set_option maxRecDepth 16384

noncomputable section

namespace Cert.KernelIdeal.Ssd

open Cert.KernelIdeal Cert.KernelIdeal.Gen Idealize.ShloMosaic Idealize.ShloMosaic.TcCoe Idealize.SL.Sem Cert.Ssd

variable (m : (ℓ : Loc nD τ sig) → Buf (Elt Ideal) ℓ) (c : Dev nD)

/-- The layer's inputs, as the kernel is given them. -/
def par : Par := parOf (fun a b => m ((c : Thread nD τ).loc main_arg0) (ix2 a b)) (fun a b => m ((c : Thread nD τ).loc main_arg1) (ix2 a b))
  (fun a b => m ((c : Thread nD τ).loc main_arg2) (ix2 a b)) (fun a b => m ((c : Thread nD τ).loc main_arg3) (ix2 a b))
  (fun a => m ((c : Thread nD τ).loc main_arg4) (ix1 a)) (fun a => m ((c : Thread nD τ).loc main_arg5) (ix1 a))
  (fun a => m ((c : Thread nD τ).loc main_arg6) (ix1 a)) (fun a => m ((c : Thread nD τ).loc main_arg7) (ix1 a))
  (fun a => m ((c : Thread nD τ).loc main_arg8) (ix1 a))

theorem idx_rows : ∀ t : Fin cfg0.N, win0_0.index t = ![t.val, 0] ∧ win0_1.index t = ![t.val, 0] ∧ win0_2.index t = ![t.val, 0]
    ∧ win0_3.index t = ![t.val / 8, 5, t.val % 8] := (by decide +kernel : ∀ t : Fin grid0.N, _)

theorem idx_whole : ∀ t : Fin cfg0.N, win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

theorem N_lt (t : Fin cfg0.N) : t.val < 256 := lt_of_lt_of_eq t.isLt (show cfg0.N = 256 from N_0)

theorem blk0 (t : Fin cfg0.N) (i : Fin 256) (j : Fin 1024) :
    (iblk m c 0 t : Vec Ideal S256x1024 .f32) (ix2 i j) = m ((c : Thread nD τ).loc main_arg0) (ix2 ⟨256 * t.val + i.val, by have := N_lt t; omega⟩ j) := by
  have e := (idx_rows t).1
  blk_ext [iblk, V, e]

theorem blk1 (t : Fin cfg0.N) (i : Fin 256) (j : Fin 2048) :
    (iblk m c 1 t : Vec Ideal S256x2048 .f32) (ix2 i j) = m ((c : Thread nD τ).loc main_arg1) (ix2 ⟨256 * t.val + i.val, by have := N_lt t; omega⟩ j) := by
  have e := (idx_rows t).2.1
  blk_ext [iblk, V, e]

theorem blk2 (t : Fin cfg0.N) (i : Fin 256) (j : Fin 128) :
    (iblk m c 2 t : Vec Ideal S256x128 .f32) (ix2 i j) = m ((c : Thread nD τ).loc main_arg2) (ix2 ⟨256 * t.val + i.val, by have := N_lt t; omega⟩ j) := by
  have e := (idx_rows t).2.2.1
  blk_ext [iblk, V, e]

theorem blk3 (t : Fin cfg0.N) (h : Fin 16) (i : Fin 256) :
    (iblk m c 3 t : Vec Ideal S1x16x256 .f32) (ix3 0 h i)
      = m ((c : Thread nD τ).loc main_arg2) (ix2 ⟨256 * t.val + i.val, by have := N_lt t; omega⟩ ⟨80 + h.val, by omega⟩) := by
  have e := (idx_rows t).2.2.2
  have hN := N_lt t
  blk_ext! [iblk, V, e]

theorem blk4 (t : Fin cfg0.N) (k : Fin 4) (j : Fin 2048) :
    (iblk m c 4 t : Vec Ideal S4x2048 .f32) (ix2 k j) = m ((c : Thread nD τ).loc main_arg3) (ix2 k j) := by
  have e := (idx_whole t).1
  blk_ext [iblk, V, e]

theorem blk5 (t : Fin cfg0.N) (j : Fin 2048) :
    (iblk m c 5 t : Vec Ideal S1x2048 .f32) (ix2 0 j) = m ((c : Thread nD τ).loc main_arg4) (ix1 j) := by
  have e := (idx_whole t).2.1
  blk_ext! [iblk, V, e]

theorem blk6 (t : Fin cfg0.N) (h : Fin 16) :
    (iblk m c 6 t : Vec Ideal S1x16 .f32) (ix2 0 h) = m ((c : Thread nD τ).loc main_arg5) (ix1 h) := by
  have e := (idx_whole t).2.2.1
  blk_ext! [iblk, V, e]

theorem blk7 (t : Fin cfg0.N) (h : Fin 16) :
    (iblk m c 7 t : Vec Ideal S16x1 .f32) (ix2 h 0) = m ((c : Thread nD τ).loc main_arg5) (ix1 h) := by
  have e := (idx_whole t).2.2.2.1
  blk_ext! [iblk, V, e]

theorem blk8 (t : Fin cfg0.N) (h : Fin 16) :
    (iblk m c 8 t : Vec Ideal S1x16 .f32) (ix2 0 h) = m ((c : Thread nD τ).loc main_arg6) (ix1 h) := by
  have e := (idx_whole t).2.2.2.2.1
  blk_ext! [iblk, V, e]

theorem blk9 (t : Fin cfg0.N) (h : Fin 16) :
    (iblk m c 9 t : Vec Ideal S16x1 .f32) (ix2 h 0) = m ((c : Thread nD τ).loc main_arg6) (ix1 h) := by
  have e := (idx_whole t).2.2.2.2.2.1
  blk_ext! [iblk, V, e]

theorem blk10 (t : Fin cfg0.N) (j : Fin 1024) :
    (iblk m c 10 t : Vec Ideal S1x1024 .f32) (ix2 0 j) = m ((c : Thread nD τ).loc main_arg7) (ix1 ⟨j.val / 64, by omega⟩) := by
  have e := (idx_whole t).2.2.2.2.2.2.1
  blk_ext! [iblk, V, e]

theorem blk11 (t : Fin cfg0.N) (j : Fin 1024) :
    (iblk m c 11 t : Vec Ideal S1x1024 .f32) (ix2 0 j) = m ((c : Thread nD τ).loc main_arg8) (ix1 j) := by
  have e := (idx_whole t).2.2.2.2.2.2.2
  blk_ext! [iblk, V, e]

/-- A grid point's blocks hold its chunk of its sequence. -/
theorem holds (t : Fin cfg0.N) : Holds (par m c) (t.val / 8) (256 * (t.val % 8)) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) := by
  have hN := N_lt t
  have hr : ∀ i : Fin 256, 256 * t.val + i.val = 2048 * (t.val / 8) + (256 * (t.val % 8) + i.val) := fun i => by omega
  have hl : ∀ i : Fin 256, 2048 * (t.val / 8) + (256 * (t.val % 8) + i.val) < 65536 := fun i => by omega
  refine ⟨fun i j => ?_, fun i j => ?_, fun i j => ?_, fun h i => ?_, fun k j => ?_, fun j => ?_, fun h => ?_, fun h => ?_, fun h => ?_, fun h => ?_,
    fun j => ?_, fun j => ?_⟩
  · rw [blk0]; simp only [hr]; dsimp only [par, parOf]; rw [at2_of _ (hl i) j.isLt]
  · rw [blk1]; simp only [hr]; dsimp only [par, parOf]; rw [at2_of _ (hl i) j.isLt]
  · rw [blk2]; simp only [hr]; dsimp only [par, parOf]; rw [at2_of _ (hl i) j.isLt]
  · rw [blk3]; simp only [hr]; dsimp only [par, parOf]; rw [at2_of _ (hl i) (show 80 + h.val < 128 by omega)]
  · rw [blk4]; dsimp only [par, parOf]; rw [at2_of _ k.isLt j.isLt]
  · rw [blk5]; dsimp only [par, parOf]; rw [at1_of _ j.isLt]
  · rw [blk6]; dsimp only [par, parOf]; rw [at1_of _ h.isLt]
  · rw [blk7]; dsimp only [par, parOf]; rw [at1_of _ h.isLt]
  · rw [blk8]; dsimp only [par, parOf]; rw [at1_of _ h.isLt]
  · rw [blk9]; dsimp only [par, parOf]; rw [at1_of _ h.isLt]
  · rw [blk10]; dsimp only [par, parOf]; rw [at1_of _ (show j.val / 64 < 16 by omega)]
  · rw [blk11]; dsimp only [par, parOf]; rw [at1_of _ j.isLt]

end Cert.KernelIdeal.Ssd
end
-- ==== Proof.Finite.lean ====
/- The precondition says the arrays the scan reads hold finite numbers. -/
module

public import proofs.«01_k».proof.Defs
public import proofs.«01_k».proof.Proof.Blocks
public import proofs.«01_k».proof.Proof.Gen.Pre_finite

@[expose] public section

set_option maxRecDepth 16384

noncomputable section

namespace Cert.Pre_finite.Ssd

open Cert.Pre_finite Idealize.ShloMosaic Cert.Ssd

/-- A number the comparison passes is a real one. -/
theorem real_of_mask {x : EReal} (h : FloatOps.cmpf (F := Ideal) (φ := FTy.f32) .olt (FloatOps.absf (F := Ideal) (φ := FTy.f32) x) (Ideal.ofBits FTy.f32 0x7F800000#32) = 1#1) : IsReal x := by
  have ht : Ideal.ofBits FTy.f32 0x7F800000#32 = ⊤ := by simp [Ideal.ofBits, Ideal.ieee]
  rw [ht] at h
  refine isReal_of_abs_lt ?_
  by_contra hn
  have : FloatOps.cmpf (F := Ideal) (φ := FTy.f32) .olt (FloatOps.absf (F := Ideal) (φ := FTy.f32) x) (⊤ : EReal) = 0#1 := by
    show Ideal.cmp .olt (max x (-x)) ⊤ = 0#1
    simp [Ideal.cmp, hn]
  rw [this] at h
  exact absurd h (by decide)

end Cert.Pre_finite.Ssd

namespace Cert.KernelIdeal.Ssd

open Idealize.ShloMosaic Idealize.ShloMosaic.TcCoe Idealize.SL.Sem Cert.Ssd Cert.Pre_finite.Ssd

/-- Under the precondition the layer's inputs are finite where the scan reads them. -/
theorem par_finite (m : (ℓ : Loc Cert.KernelIdeal.nD Cert.KernelIdeal.τ Cert.KernelIdeal.sig) → Buf (Elt Ideal) ℓ) (h : Cert.Pre_KernelIdeal_finite m)
    (c : Dev Cert.KernelIdeal.nD) : (par m c).Finite := by
  obtain ⟨h1, h2, h3, h4, h5, h6⟩ := h c
  refine parOf_finite (fun r j => real_of_mask (congrFun h1 (ix2 r j))) (fun r j => ?_) (fun k j => real_of_mask (congrFun h3 (ix2 k j)))
    (fun j => real_of_mask (congrFun h4 (ix1 j))) (fun j => real_of_mask (congrFun h5 (ix1 j))) (fun j => real_of_mask (congrFun h6 (ix1 j)))
  have hr := real_of_mask (congrFun h2 (ix2 r j))
  refine (congrArg IsReal (congrArg (m ((c : Thread Cert.KernelIdeal.nD Cert.KernelIdeal.τ).loc Cert.KernelIdeal.main_arg2)) (funext fun a => Fin.ext ?_))).mp hr
  match a with
  | ⟨0, _⟩ => show 0 + r.val = r.val; omega
  | ⟨1, _⟩ => show 80 + j.val = 80 + j.val; rfl

end Cert.KernelIdeal.Ssd
end
-- ==== Proof.Ext.lean ====
/- What the point's loads read of its own stores: the convolution's rows, the assembled output rows, the reset states. -/
module

public import proofs.«01_k».proof.Proof.Body
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Ssd

open Cert.KernelIdeal Cert.KernelIdeal.Gen Idealize.ShloMosaic Idealize.ShloMosaic.TcCoe Idealize.SL.Sem

variable {F : FTy → Type} [FloatOps F]

theorem pay4_eq (x : Vec F S256x2048 .f32) : k0_pay4 x = x := by
  unfold k0_pay4; exact shapeCast_self _ _

/-- Storing a chunk's rows below the carried ones leaves the rows the convolution reads. -/
theorem read_ext {sp : Space} (v : View sig .tc sp S264x2048 .f32) (f : v.ty.Contents (Elt F)) (x : Vec F S256x2048 .f32) :
    v.read (Elt F) (v.writes (Elt F) f [⟨Rect.unit (s := S264x2048) ![8, 0] (no_index S256x2048.size) inb_S264x2048_S256x2048_8_0, x⟩])
      = extRows (carried (v.read (Elt F) f)) x := by
  funext y
  have h0 : (y 0).val < 264 := (y 0).isLt
  unfold extRows carried
  by_cases h : (y 0).val < 8
  · rw [dif_pos h]
    refine (View.read_writes_cons_unit_of_not_mem (off' := ![8, 0]) v f inb_S264x2048_S256x2048_8_0 x [] y rfl (0 : Fin 2) (Or.inl h)).trans ?_
    rw [View.writes_nil]
    exact congrArg _ (eq_ix2 y)
  · rw [dif_neg h]
    exact View.read_writes_cons_unit_of_mem v f inb_S264x2048_S256x2048_8_0 x [] y
      (ix2 (n0 := 256) (n1 := 2048) ⟨(y 0).val - 8, by omega⟩ (y 1)) (off' := ![8, 0]) rfl (fun a => by
      match a with
      | ⟨0, _⟩ => show (y 0).val = 8 + ((y 0).val - 8); omega
      | ⟨1, _⟩ => exact (Nat.zero_add _).symm)

/-- The first 8 rows of what a store there left are that store's. -/
theorem carried_cons (e : Vec F S8x2048 .f32) (L : List (View.Piece (Elt F) S264x2048 .f32)) :
    carried (View.canon (⟨Rect.unit (s := S264x2048) ![0, 0] (no_index S8x2048.size) inb_S264x2048_S8x2048_0_0, e⟩ :: L)) = e := by
  funext y
  unfold carried
  rw [← View.read_writes_junk_eq_canon VS0_0]
  exact View.read_writes_cons_unit_of_mem VS0_0 _ inb_S264x2048_S8x2048_0_0 e L _ (ix2 (n0 := 8) (n1 := 2048) (y 0) (y 1)) (off' := ![0, 0]) rfl (fun a => by
      match a with
      | ⟨0, _⟩ => exact (Nat.zero_add _).symm
      | ⟨1, _⟩ => exact (Nat.zero_add _).symm) |>.trans (congrArg e (eq_ix2 y).symm)

/-- The same over carried rows just stored. -/
theorem canon_ext (x : Vec F S256x2048 .f32) (e : Vec F S8x2048 .f32) :
    View.canon [(⟨Rect.unit (s := S264x2048) ![8, 0] (no_index S256x2048.size) inb_S264x2048_S256x2048_8_0, x⟩ : View.Piece (Elt F) S264x2048 .f32),
      ⟨Rect.unit (s := S264x2048) ![0, 0] (no_index S8x2048.size) inb_S264x2048_S8x2048_0_0, e⟩] = extRows e x := by
  have h := read_ext VS0_0 (VS0_0.writes (Elt F) VS0_0.junk [⟨Rect.unit (s := S264x2048) ![0, 0] (no_index S8x2048.size) inb_S264x2048_S8x2048_0_0, e⟩]) x
  rw [View.read_writes_junk_eq_canon, carried_cons] at h
  rw [← h, ← View.read_writes_junk_eq_canon VS0_0]
  simp only [View.writes_cons, View.writes_nil]

theorem readCov_ext {sp : Space} (v : View sig .tc sp S264x2048 .f32) (x : Vec F S256x2048 .f32) (e : Vec F S8x2048 .f32) (r : Rect S264x2048) :
    v.readCov [(⟨Rect.unit (s := S264x2048) ![8, 0] (no_index S256x2048.size) inb_S264x2048_S256x2048_8_0, x⟩ : View.Piece (Elt F) S264x2048 .f32),
      ⟨Rect.unit (s := S264x2048) ![0, 0] (no_index S8x2048.size) inb_S264x2048_S8x2048_0_0, e⟩] r.toLoadRect = View.ld (extRows e x) r := by
  rw [View.readCov_eq_canon', canon_ext]

/-- A load of the whole of what the stores left. -/
theorem readCov_whole {sp : Space} (v : View sig .tc sp S256x1024 .f32) (L : List (View.Piece (Elt F) S256x1024 .f32)) :
    v.readCov L (Rect.unit (s := S256x1024) ![0, 0] (no_index S256x1024.size) inb_S256x1024_S256x1024_0_0).toLoadRect = View.canon L := by
  rw [View.readCov_eq_canon']
  exact View.ld_unit_zero (funext fun a => match a with | ⟨0, _⟩ => rfl | ⟨1, _⟩ => rfl) _ (View.canon L)

/-- A load of one pair's state after the reset. -/
theorem readCov_reset {sp : Space} (v : View sig .tc sp S8x128x128 .f32) (Z : Vec F S8x128x128 .f32) (r : Rect S8x128x128) :
    v.readCov [(⟨Rect.unit (s := S8x128x128) ![0, 0, 0] (no_index S8x128x128.size) inb_S8x128x128_S8x128x128_0_0_0, Z⟩ : View.Piece (Elt F) S8x128x128 .f32)]
      r.toLoadRect = View.ld Z r := by
  exact View.readCov_fill v _ Z [] r (fun a => match a with | ⟨0, _⟩ => rfl | ⟨1, _⟩ => rfl | ⟨2, _⟩ => rfl)

end Cert.KernelIdeal.Ssd
end
-- ==== Proof.Point.lean ====
/- The printed body's case runs, opened to the uniform vocabulary of Body.lean: what the first chunk of a sequence, and what
   every later chunk, leaves in the output block, the carried rows and the states. -/
module

public import proofs.«01_k».proof.Proof.Ext
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Ssd

open Cert.KernelIdeal Cert.KernelIdeal.Gen Idealize.ShloMosaic Idealize.ShloMosaic.TcCoe Idealize.SL.Sem

variable {F : FTy → Type} [FloatOps F]

/-- A later chunk's output block. -/
theorem out_B (c : Dev nD) (i : grid0.Coords) (arg2 : Memref sig .tc .vmem S256x1024 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x16x256 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x2048 .f32) (harg15 : arg15.IsWhole) (arg16 : Memref sig .tc .vmem S8x128x128 .f32) (harg16 : arg16.IsWhole) (arg17 : Memref sig .tc .vmem S256x1024 .f32) (harg17 : arg17.IsWhole) (hc0 : ¬cond0_0 i)
    (x0 : Vec F S256x1024 .f32) (x1 : Vec F S256x2048 .f32) (x2 : Vec F S256x128 .f32) (x3 : Vec F S1x16x256 .f32) (x4 : Vec F S4x2048 .f32) (x5 : Vec F S1x2048 .f32) (x6 : Vec F S1x16 .f32) (x7 : Vec F S16x1 .f32) (x8 : Vec F S1x16 .f32) (x9 : Vec F S16x1 .f32) (x10 : Vec F S1x1024 .f32) (x11 : Vec F S1x1024 .f32) (xs0 : Vec F S264x2048 .f32) (xs1 : Vec F S8x128x128 .f32) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 = pointOut x0 x1 x2 x3 x4 x5 x6 x7 x8 x9 x10 x11 (carried xs0) xs1 := by
  frame_open
  frame_out
  simp only [pay4_eq, read_ext, Memref.IsWhole.read_unread, readCov_whole]
  unfold pointOut outB yAll
  rfl

/-- A later chunk's states. -/
theorem st_B (c : Dev nD) (i : grid0.Coords) (arg2 : Memref sig .tc .vmem S256x1024 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x16x256 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x2048 .f32) (harg15 : arg15.IsWhole) (arg16 : Memref sig .tc .vmem S8x128x128 .f32) (harg16 : arg16.IsWhole) (arg17 : Memref sig .tc .vmem S256x1024 .f32) (harg17 : arg17.IsWhole) (hc0 : ¬cond0_0 i)
    (x0 : Vec F S256x1024 .f32) (x1 : Vec F S256x2048 .f32) (x2 : Vec F S256x128 .f32) (x3 : Vec F S1x16x256 .f32) (x4 : Vec F S4x2048 .f32) (x5 : Vec F S1x2048 .f32) (x6 : Vec F S1x16 .f32) (x7 : Vec F S16x1 .f32) (x8 : Vec F S1x16 .f32) (x9 : Vec F S16x1 .f32) (x10 : Vec F S1x1024 .f32) (x11 : Vec F S1x1024 .f32) (xs0 : Vec F S264x2048 .f32) (xs1 : Vec F S8x128x128 .f32) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 = pointSt x1 x2 x4 x5 x6 x8 (carried xs0) xs1 [] := by
  frame_open
  frame_out
  simp only [pay4_eq, read_ext, Memref.IsWhole.read_unread, readCov_whole]
  rfl

/-- The first chunk's output block. -/
theorem out_A (c : Dev nD) (i : grid0.Coords) (arg2 : Memref sig .tc .vmem S256x1024 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x16x256 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x2048 .f32) (harg15 : arg15.IsWhole) (arg16 : Memref sig .tc .vmem S8x128x128 .f32) (harg16 : arg16.IsWhole) (arg17 : Memref sig .tc .vmem S256x1024 .f32) (harg17 : arg17.IsWhole) (hc0 : cond0_0 i)
    (x0 : Vec F S256x1024 .f32) (x1 : Vec F S256x2048 .f32) (x2 : Vec F S256x128 .f32) (x3 : Vec F S1x16x256 .f32) (x4 : Vec F S4x2048 .f32) (x5 : Vec F S1x2048 .f32) (x6 : Vec F S1x16 .f32) (x7 : Vec F S16x1 .f32) (x8 : Vec F S1x16 .f32) (x9 : Vec F S16x1 .f32) (x10 : Vec F S1x1024 .f32) (x11 : Vec F S1x1024 .f32)  : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = pointOut x0 x1 x2 x3 x4 x5 x6 x7 x8 x9 x10 x11 k0_pay2 k0_pay3 := by
  frame_open
  simp (disch := decide) only [↓ View.readCov_skip, ↓ View.readCov_fill, ↓ readCov_reset]
  frame_out
  simp only [pay4_eq, readCov_ext, readCov_whole, readCov_reset]
  unfold pointOut outB yAll
  rfl

/-- The first chunk's states. -/
theorem st_A (c : Dev nD) (i : grid0.Coords) (arg2 : Memref sig .tc .vmem S256x1024 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x16x256 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x2048 .f32) (harg15 : arg15.IsWhole) (arg16 : Memref sig .tc .vmem S8x128x128 .f32) (harg16 : arg16.IsWhole) (arg17 : Memref sig .tc .vmem S256x1024 .f32) (harg17 : arg17.IsWhole) (hc0 : cond0_0 i)
    (x0 : Vec F S256x1024 .f32) (x1 : Vec F S256x2048 .f32) (x2 : Vec F S256x128 .f32) (x3 : Vec F S1x16x256 .f32) (x4 : Vec F S4x2048 .f32) (x5 : Vec F S1x2048 .f32) (x6 : Vec F S1x16 .f32) (x7 : Vec F S16x1 .f32) (x8 : Vec F S1x16 .f32) (x9 : Vec F S16x1 .f32) (x10 : Vec F S1x1024 .f32) (x11 : Vec F S1x1024 .f32)  : ∃ L, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = pointSt x1 x2 x4 x5 x6 x8 k0_pay2 k0_pay3 L := by
  frame_open
  simp (disch := decide) only [↓ View.readCov_skip, ↓ View.readCov_fill, ↓ readCov_reset]
  frame_out
  simp only [pay4_eq, readCov_ext, readCov_whole, readCov_reset]
  exact ⟨_, rfl⟩

/-- Every chunk leaves its last 8 rows in the carried ones. -/
theorem ext_B (c : Dev nD) (i : grid0.Coords) (arg2 : Memref sig .tc .vmem S256x1024 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x16x256 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x2048 .f32) (harg15 : arg15.IsWhole) (arg16 : Memref sig .tc .vmem S8x128x128 .f32) (harg16 : arg16.IsWhole) (arg17 : Memref sig .tc .vmem S256x1024 .f32) (harg17 : arg17.IsWhole) (hc0 : ¬cond0_0 i)
    (x0 : Vec F S256x1024 .f32) (x1 : Vec F S256x2048 .f32) (x2 : Vec F S256x128 .f32) (x3 : Vec F S1x16x256 .f32) (x4 : Vec F S4x2048 .f32) (x5 : Vec F S1x2048 .f32) (x6 : Vec F S1x16 .f32) (x7 : Vec F S16x1 .f32) (x8 : Vec F S1x16 .f32) (x9 : Vec F S16x1 .f32) (x10 : Vec F S1x1024 .f32) (x11 : Vec F S1x1024 .f32) (xs0 : Vec F S264x2048 .f32) (xs1 : Vec F S8x128x128 .f32) : carried (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1) = k0_pay5 x1 := by
  frame_open
  frame_out
  exact carried_cons _ _

theorem ext_A (c : Dev nD) (i : grid0.Coords) (arg2 : Memref sig .tc .vmem S256x1024 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x16x256 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x16 .f32) (harg8 : arg8.IsWhole) (arg9 : Memref sig .tc .vmem S16x1 .f32) (harg9 : arg9.IsWhole) (arg10 : Memref sig .tc .vmem S1x16 .f32) (harg10 : arg10.IsWhole) (arg11 : Memref sig .tc .vmem S16x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S264x2048 .f32) (harg15 : arg15.IsWhole) (arg16 : Memref sig .tc .vmem S8x128x128 .f32) (harg16 : arg16.IsWhole) (arg17 : Memref sig .tc .vmem S256x1024 .f32) (harg17 : arg17.IsWhole) (hc0 : cond0_0 i)
    (x0 : Vec F S256x1024 .f32) (x1 : Vec F S256x2048 .f32) (x2 : Vec F S256x128 .f32) (x3 : Vec F S1x16x256 .f32) (x4 : Vec F S4x2048 .f32) (x5 : Vec F S1x2048 .f32) (x6 : Vec F S1x16 .f32) (x7 : Vec F S16x1 .f32) (x8 : Vec F S1x16 .f32) (x9 : Vec F S16x1 .f32) (x10 : Vec F S1x1024 .f32) (x11 : Vec F S1x1024 .f32)  : carried (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11) = k0_pay5 x1 := by
  frame_open
  frame_out
  exact carried_cons _ _

end Cert.KernelIdeal.Ssd
end
-- ==== Proof.Fold.lean ====
/- The grid's points in order: what each leaves is the layer's rows of its chunk, the scan's states after it, and the rows the next
   chunk's convolution begins with; so the kernel's result is the layer's. -/
module

public import proofs.«01_k».proof.Proof.Blocks
public import proofs.«01_k».proof.Proof.Point

@[expose] public section

set_option maxRecDepth 16384

noncomputable section

namespace Cert.KernelIdeal.Ssd

open Cert.KernelIdeal Cert.KernelIdeal.Gen Idealize.ShloMosaic Idealize.ShloMosaic.TcCoe Idealize.SL.Sem Cert.Ssd

/-- What a point of chunk `T / 256` of sequence `b` leaves. -/
def Left (P : Par) (b T : ℕ) (o : Vec Ideal S256x1024 .bf16 × Vec Ideal S264x2048 .f32 × Vec Ideal S8x128x128 .f32) : Prop :=
  (∀ (i : Fin 256) (j : Fin 1024), o.1 (ix2 i j) = P.out b (T + i.val) j.val)
  ∧ (∀ (r : Fin 8) (j : Fin 2048), 5 ≤ r.val → carried o.2.1 (ix2 r j) = P.xp b (T + 256 + (r.val - 5)) j.val)
  ∧ (∀ (p : Fin 8) (j n : Fin 128), o.2.2 (ix3 p j n)
      = ((hid (P.fA b (128 * p.val + j.val)) (P.fX b (128 * p.val + j.val)) (P.fB b (128 * p.val + j.val)) (T + 256) n : ℝ) : EReal))

theorem zero_rows (r : Fin 8) (j : Fin 2048) : (k0_pay2 : FVec Ideal S8x2048 .f32) (ix2 r j) = 0 := by
  pointwise [k0_pay2]

theorem zero_states (p : Fin 8) (j n : Fin 128) : (k0_pay3 : FVec Ideal S8x128x128 .f32) (ix3 p j n) = 0 := by
  pointwise [k0_pay3]

variable (m : (ℓ : Loc nD τ sig) → Buf (Elt Ideal) ℓ) (c : Dev nD) (hP : (par m c).Finite)
include hP

/-- A sequence's first chunk. -/
theorem left_A (t : Fin cfg0.N) (h0 : t.val % 8 = 0) : Left (par m c) (t.val / 8) (256 * (t.val % 8)) (outsAt0 m c t.val t.isLt) := by
  have H := holds m c t
  have he : ∀ (r : Fin 8) (j : Fin 2048), 5 ≤ r.val → (k0_pay2 : FVec Ideal S8x2048 .f32) (ix2 r j) = (par m c).xp (t.val / 8) (256 * (t.val % 8) + (r.val - 5)) j.val := by
    intro r j h
    rw [zero_rows]
    unfold Par.xp
    rw [if_pos (by omega)]
  have hst : ∀ (p : Fin 8) (j n : Fin 128), (k0_pay3 : FVec Ideal S8x128x128 .f32) (ix3 p j n) = ((hid ((par m c).fA (t.val / 8) (128 * p.val + j.val))
      ((par m c).fX (t.val / 8) (128 * p.val + j.val)) ((par m c).fB (t.val / 8) (128 * p.val + j.val)) (256 * (t.val % 8)) n : ℝ) : EReal) := by
    intro p j n
    rw [zero_states, h0, Nat.mul_zero, hid_zero, EReal.coe_zero]
  rw [outsAt0_A m c t h0]
  refine ⟨fun i j => ?_, fun r j h => ?_, fun p j n => ?_⟩
  · dsimp only
    rw [out_A]
    exact out_read hP H he hst i j
  · dsimp only
    rw [ext_A]
    exact carry_read H r j h
  · dsimp only
    obtain ⟨L, hL⟩ := st_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    rw [hL]
    exact st_read hP H he L hst p j n

/-- A later chunk, over what the one before left. -/
theorem left_B (t : Fin cfg0.N) (h0 : ¬t.val % 8 = 0)
    (ih : Left (par m c) ((t.val - 1) / 8) (256 * ((t.val - 1) % 8)) (outsAt0 m c (t.val - 1) (Nat.lt_of_le_of_lt (Nat.sub_le _ _) t.isLt))) :
    Left (par m c) (t.val / 8) (256 * (t.val % 8)) (outsAt0 m c t.val t.isLt) := by
  have H := holds m c t
  have eb : (t.val - 1) / 8 = t.val / 8 := by omega
  have eT : 256 * ((t.val - 1) % 8) + 256 = 256 * (t.val % 8) := by omega
  obtain ⟨_, he, hst⟩ := ih
  rw [eb, eT] at he hst
  rw [outsAt0_B m c t h0]
  refine ⟨fun i j => ?_, fun r j h => ?_, fun p j n => ?_⟩
  · dsimp only
    rw [out_B]
    exact out_read hP H he hst i j
  · dsimp only
    rw [ext_B]
    exact carry_read H r j h
  · dsimp only
    rw [st_B]
    exact st_read hP H he [] hst p j n

/-- Every point. -/
theorem left_all : ∀ (n : ℕ) (hn : n < cfg0.N), Left (par m c) (n / 8) (256 * (n % 8)) (outsAt0 m c n hn)
  | 0, hn => left_A m c hP ⟨0, hn⟩ (Nat.zero_mod _)
  | n + 1, hn => by
    by_cases h0 : (n + 1) % 8 = 0
    · exact left_A m c hP ⟨n + 1, hn⟩ h0
    · exact left_B m c hP ⟨n + 1, hn⟩ h0 (left_all n (Nat.lt_of_succ_lt hn))

/-- THE KERNEL'S RESULT is the layer's, over finite inputs. -/
theorem result (r : Fin 65536) (j : Fin 1024) : Value.G12 m c (ix2 r j) = (par m c).out (r.val / 2048) (r.val % 2048) j.val := by
  have hpt : Value.pt12Of (ix2 r j) = r.val / 256 := by
    show 1 * (r.val / 256 - 0) + 1 * (j.val / 1024 - 0) = r.val / 256
    omega
  have hlt : r.val / 256 < cfg0.N := lt_of_lt_of_eq (by omega) (show 256 = cfg0.N from N_0.symm)
  have hloc : Value.loc12Of (ix2 r j) = ix2 ⟨r.val % 256, by omega⟩ j := by
    funext a
    match a with
    | ⟨0, _⟩ => rfl
    | ⟨1, _⟩ => exact Fin.ext (Nat.mod_eq_of_lt j.isLt)
  unfold Value.G12
  rw [dif_pos (by rw [hpt]; exact hlt), Value.fold0_congr m c _ _ (r.val / 256) (by omega) hpt, ← Value.outsAt0_sweep m c _ hlt, hloc]
  rw [(left_all m c hP _ hlt).1]
  have e1 : r.val / 256 / 8 = r.val / 2048 := by omega
  have e2 : 256 * (r.val / 256 % 8) + r.val % 256 = r.val % 2048 := by omega
  show (par m c).out (r.val / 256 / 8) (256 * (r.val / 256 % 8) + r.val % 256) j.val = _
  rw [e1, e2]

end Cert.KernelIdeal.Ssd
end
-- ==== Proof.Running.lean ====
/- The host's running sum along the last of four axes: an entry is the sum of the entries up to it. -/
module

public import Idealize.ShloMosaic.PureOps.Ideal
public import Idealize.ShloMosaic.Lib.Pointwise
public import Mathlib.Algebra.BigOperators.Intervals
public import Mathlib.Algebra.BigOperators.Fin

@[expose] public section

set_option maxRecDepth 16384

noncomputable section

namespace Cert.Ssd

open Idealize.ShloMosaic Finset

theorem foldl_add_eq {M ι : Type*} [AddCommMonoid M] (f : ι → M) (l : List ι) (v : M) :
    l.foldl (fun r n => r + f n) v = v + (l.map f).sum := by
  induction l generalizing v with
  | nil => simp
  | cons a l ih => rw [List.foldl_cons, ih, List.map_cons, List.sum_cons, add_assoc]

/-- The positions of a window of one row. -/
def rowIdx (N : ℕ) : Fin N ≃ (⟨4, ![1, 1, 1, N]⟩ : Shape).Idx where
  toFun k := ix4 (n0 := 1) (n1 := 1) (n2 := 1) (n3 := N) 0 0 0 k
  invFun i := i 3
  left_inv k := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A sum over the window's positions in storage order is a sum over the row. -/
theorem sum_row {M : Type*} [AddCommMonoid M] {N : ℕ} (F : (⟨4, ![1, 1, 1, N]⟩ : Shape).Idx → M) :
    ((List.finRange (⟨4, ![1, 1, 1, N]⟩ : Shape).numel).map fun n => F ((⟨4, ![1, 1, 1, N]⟩ : Shape).rowMajor.symm n)).sum
      = ∑ k : Fin N, F (rowIdx N k) := by
  rw [← Fin.sum_univ_def, Equiv.sum_comp (⟨4, ![1, 1, 1, N]⟩ : Shape).rowMajor.symm F]
  exact (Equiv.sum_comp (rowIdx N) F).symm

/-- A window of the whole row that ends at `t`, padded below: its sum is the sum of the first `t + 1` entries. -/
theorem sum_window {M : Type*} [AddCommMonoid M] (f : ℕ → M) (m t : ℕ) (h : t ≤ m) :
    ∑ w ∈ range (m + 1), (if m ≤ t + w then f (t + w - m) else 0) = ∑ k ∈ range (t + 1), f k := by
  rw [show m + 1 = (m - t) + (t + 1) by omega, sum_range_add, sum_eq_zero (fun w hw => if_neg (by have := mem_range.1 hw; omega)), zero_add]
  refine sum_congr rfl fun k hk => ?_
  rw [if_pos (by omega), show t + (m - t + k) - m = k by omega]

/-- One position of the window: the entry it falls on, or nothing below the row. -/
theorem window_entry {A B C : ℕ} (x : (⟨4, ![A, B, C, 2048]⟩ : Shape).Idx → EReal) (f : ℕ → EReal) (a : Fin A) (b : Fin B) (c : Fin C) (t : Fin 2048)
    (hf : ∀ k : Fin 2048, x (ix4 a b c k) = f k.val) (i : (⟨4, ![1, 1, 1, 2048]⟩ : Shape).Idx)
    {inst : Decidable (∀ d : Fin (⟨4, ![A, B, C, 2048]⟩ : Shape).rank,
          (![0, 0, 0, 2047] : Fin 4 → ℕ) d ≤ (ix4 a b c t d).val * (![1, 1, 1, 1] : Fin 4 → ℕ) d + (i d).val ∧
            (ix4 a b c t d).val * (![1, 1, 1, 1] : Fin 4 → ℕ) d + (i d).val - (![0, 0, 0, 2047] : Fin 4 → ℕ) d < (⟨4, ![A, B, C, 2048]⟩ : Shape).size d)} :
    @dite EReal _ inst (fun hin => x (fun d => ⟨(ix4 a b c t d).val * (![1, 1, 1, 1] : Fin 4 → ℕ) d + (i d).val - (![0, 0, 0, 2047] : Fin 4 → ℕ) d, (hin d).2⟩)) (fun _ => 0)
      = if 2047 ≤ t.val + (i 3).val then f (t.val + (i 3).val - 2047) else 0 := by
  have h0 : (i 0).val < 1 := (i 0).isLt
  have h1 : (i 1).val < 1 := (i 1).isLt
  have h2 : (i 2).val < 1 := (i 2).isLt
  have h3 : (i 3).val < 2048 := (i 3).isLt
  split
  · next hin =>
    have h := hin 3
    change 2047 ≤ t.val * 1 + (i 3).val ∧ t.val * 1 + (i 3).val - 2047 < 2048 at h
    rw [if_pos (by omega)]
    refine (congrArg x (funext fun d => Fin.ext ?_)).trans (hf ⟨t.val + (i 3).val - 2047, by omega⟩)
    match d with
    | ⟨0, _⟩ => show a.val * 1 + (i 0).val - 0 = a.val; omega
    | ⟨1, _⟩ => show b.val * 1 + (i 1).val - 0 = b.val; omega
    | ⟨2, _⟩ => show c.val * 1 + (i 2).val - 0 = c.val; omega
    | ⟨3, _⟩ => show t.val * 1 + (i 3).val - 2047 = t.val + (i 3).val - 2047; omega
  · next hin =>
    rw [if_neg fun hle => hin fun d => by
      match d with
      | ⟨0, _⟩ => exact ⟨Nat.zero_le _, by show a.val * 1 + (i 0).val - 0 < A; omega⟩
      | ⟨1, _⟩ => exact ⟨Nat.zero_le _, by show b.val * 1 + (i 1).val - 0 < B; omega⟩
      | ⟨2, _⟩ => exact ⟨Nat.zero_le _, by show c.val * 1 + (i 2).val - 0 < C; omega⟩
      | ⟨3, _⟩ =>
        show 2047 ≤ t.val * 1 + (i 3).val ∧ t.val * 1 + (i 3).val - 2047 < 2048
        omega]

/-- The running sum at an entry. -/
theorem running_sum {A B C : ℕ} (x : (⟨4, ![A, B, C, 2048]⟩ : Shape).Idx → EReal) (z : (⟨0, ![]⟩ : Shape).Idx → EReal)
    (hu : 0 < (⟨0, ![]⟩ : Shape).numel) (hz : z (Shape.Idx.first hu) = 0)
    (h : (⟨4, ![A, B, C, 2048]⟩ : Shape).ReduceWindows ![1, 1, 1, 2048] ![1, 1, 1, 1] ![0, 0, 0, 2047] ![0, 0, 0, 0] ⟨4, ![A, B, C, 2048]⟩)
    (f : ℕ → EReal) (a : Fin A) (b : Fin B) (c : Fin C) (t : Fin 2048) (hf : ∀ k : Fin 2048, x (ix4 a b c k) = f k.val) :
    Host.reduceWindowAdd (F := Ideal) (φ := .f32) ![1, 1, 1, 2048] ![1, 1, 1, 1] ![0, 0, 0, 2047] ![0, 0, 0, 0] x z h hu (ix4 a b c t)
      = ∑ k ∈ range (t.val + 1), f k := by
  unfold Host.reduceWindowAdd
  rw [Ideal.hostReduceWindowAdd_def, hz]
  unfold Ideal.hostReduceWindowAdd Host.reduceWindow
  refine (foldl_add_eq _ _ _).trans ?_
  rw [zero_add]
  refine (sum_row (N := 2048) (fun i : (⟨4, ![1, 1, 1, 2048]⟩ : Shape).Idx =>
    if 2047 ≤ t.val + (i 3).val then f (t.val + (i 3).val - 2047) else 0) |> fun e => ((congrArg List.sum (List.map_congr_left fun n _ => ?_)).trans e)).trans ?_
  · exact window_entry x f a b c t hf ((⟨4, ![1, 1, 1, 2048]⟩ : Shape).rowMajor.symm n)
  · rw [← sum_window f 2047 t.val (by omega)]
    exact Fin.sum_univ_eq_sum_range (fun w => if 2047 ≤ t.val + w then f (t.val + w - 2047) else 0) 2048

end Cert.Ssd
end
-- ==== Proof.RefRead.lean ====
/- The reference over finite inputs, stage by stage: its result is the layer's. -/
module

public import proofs.«01_k».proof.Proof.Args
public import proofs.«01_k».proof.Proof.Running
public import proofs.«01_k».proof.Proof.PairRead
public import proofs.«01_k».proof.Proof.Gen.ReferenceIdeal.Read
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.StableHlo Cert.Ssd

variable (x0 : (⟨S65536x1024, .f32⟩ : BufTy).Contents (Elt Ideal)) (x1 : (⟨S65536x2048, .f32⟩ : BufTy).Contents (Elt Ideal))
  (x2 : (⟨S65536x128, .f32⟩ : BufTy).Contents (Elt Ideal)) (x3 : (⟨S4x2048, .f32⟩ : BufTy).Contents (Elt Ideal))
  (x4 : (⟨S2048, .f32⟩ : BufTy).Contents (Elt Ideal)) (x5 x6 x7 : (⟨S16, .f32⟩ : BufTy).Contents (Elt Ideal))
  (x8 : (⟨S1024, .f32⟩ : BufTy).Contents (Elt Ideal))

/-- The layer's inputs, as the reference is given them. -/
def par : Par := parOf (fun a b => x0 (ix2 a b)) (fun a b => x1 (ix2 a b)) (fun a b => x2 (ix2 a b)) (fun a b => x3 (ix2 a b))
  (fun a => x4 (ix1 a)) (fun a => x5 (ix1 a)) (fun a => x6 (ix1 a)) (fun a => x7 (ix1 a)) (fun a => x8 (ix1 a))

theorem sitofp_zero : FloatOps.sitofp (F := Ideal) FTy.f32 0#32 = (0 : EReal) := by
  show (((0#32 : BitVec 32).toInt : ℝ) : EReal) = 0
  simp

/-- The padded rows. -/
theorem xp_read (b : Fin 32) (u : Fin 2051) (c : Fin 2048) : val_main_v4 (F := Ideal) x1 (ix3 b u c) = (par x0 x1 x2 x3 x4 x5 x6 x7 x8).xp b.val u.val c.val := by
  pointwise [val_main_v4, val_main_v3]
  unfold Par.xp
  by_cases h : u.val < 3
  · rw [dif_neg (by omega), if_pos h]
    pointwise [val_main_call0_v0, val_main_c]
    exact sitofp_zero
  · rw [dif_pos (by omega), if_neg h]
    dsimp only [par, parOf]
    rw [at2_of _ (show 2048 * b.val + (u.val - 3) < 65536 by omega) c.isLt]
    simp only [Nat.mul_comm]

/-- The convolution. -/
theorem conv_read (b : Fin 32) (t : Fin 2048) (c : Fin 2048) : val_main_v36 (F := Ideal) x1 x3 x4 (ix3 b t c) = (par x0 x1 x2 x3 x4 x5 x6 x7 x8).conv b.val t.val c.val := by
  pointwise [val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst]
  simp only [xp_read x0 x1 x2 x3 x4 x5 x6 x7 x8]
  have hw : ∀ (k : Fin 4), x3 (ix2 k c) = (par x0 x1 x2 x3 x4 x5 x6 x7 x8).w k.val c.val := fun k => by
    dsimp only [par, parOf]; rw [at2_of _ k.isLt c.isLt]
  have hb : x4 (ix1 c) = (par x0 x1 x2 x3 x4 x5 x6 x7 x8).bi c.val := by
    dsimp only [par, parOf]; rw [at1_of _ c.isLt]
  unfold Par.conv
  simp only [hw, hb, Nat.add_comm 1, Nat.add_comm 2, Nat.add_comm 3]
  rfl

/-- Its activation. -/
theorem act_read (b : Fin 32) (t : Fin 2048) (c : Fin 2048) : val_main_v37 (F := Ideal) x1 x3 x4 (ix3 b t c) = (par x0 x1 x2 x3 x4 x5 x6 x7 x8).act b.val t.val c.val := by
  pointwise [val_main_v37, val_main_call1_v0, val_main_call1_v1, val_main_call1_v2, val_main_call1_v3, val_main_call1_v4, val_main_call1_v5, val_main_call1_cst, val_main_call1_cst_0]
  simp only [conv_read x0 x1 x2 x3 x4 x5 x6 x7 x8]
  rfl

/-- The raw steps. -/
theorem raw_read (b : Fin 32) (t : Fin 2048) (h : Fin 16) : val_main_v46 (F := Ideal) x2 x5 (ix3 b t h) = (par x0 x1 x2 x3 x4 x5 x6 x7 x8).raw b.val t.val h.val := by
  pointwise [val_main_v44, val_main_v45, val_main_v46, val_main_v2, val_main_v1]
  unfold Par.raw
  dsimp only [par, parOf]
  rw [at2_of _ (show 2048 * b.val + t.val < 65536 by omega) (show 80 + h.val < 128 by omega), at1_of _ h.isLt]
  simp only [Nat.mul_comm]

/-- The steps. -/
theorem dt_read (b : Fin 32) (t : Fin 2048) (h : Fin 16) : val_main_v47 (F := Ideal) x2 x5 (ix3 b t h) = (par x0 x1 x2 x3 x4 x5 x6 x7 x8).dt b.val t.val h.val := by
  pointwise [val_main_v47, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_cst]
  simp only [raw_read x0 x1 x2 x3 x4 x5 x6 x7 x8]
  simp
  rfl

/-- The decays. -/
theorem a_read (b : Fin 32) (t : Fin 2048) (g r : Fin 4) :
    val_main_v55 (F := Ideal) x2 x5 x6 (ix4 b g r t) = (par x0 x1 x2 x3 x4 x5 x6 x7 x8).a b.val t.val (4 * g.val + r.val) := by
  pointwise [val_main_v48, val_main_v49, val_main_v50, val_main_v51, val_main_v52, val_main_v53, val_main_v54, val_main_v55]
  simp only [dt_read x0 x1 x2 x3 x4 x5 x6 x7 x8]
  unfold Par.a
  have hb : x6 (ix1 ⟨g.val * 4 + r.val, by omega⟩) = (par x0 x1 x2 x3 x4 x5 x6 x7 x8).al (4 * g.val + r.val) := by
    dsimp only [par, parOf]; rw [at1_of _ (show 4 * g.val + r.val < 16 by omega)]; simp only [Nat.mul_comm]
  rw [hb, Nat.mul_comm]

end Cert.ReferenceIdeal.Read
end
-- ==== Proof.RefCum.lean ====
/- The reference's scan over finite inputs: the running sums of the decays, and the masked decays from one token to another. -/
module

public import proofs.«01_k».proof.Proof.RefRead

@[expose] public section

set_option maxRecDepth 16384

noncomputable section

namespace Cert.ReferenceIdeal.Read

open Cert.ReferenceIdeal Cert.ReferenceIdeal.Gen Idealize.ShloMosaic Idealize.ShloMosaic.StableHlo Cert.Ssd

variable (x0 : (⟨S65536x1024, .f32⟩ : BufTy).Contents (Elt Ideal)) (x1 : (⟨S65536x2048, .f32⟩ : BufTy).Contents (Elt Ideal))
  (x2 : (⟨S65536x128, .f32⟩ : BufTy).Contents (Elt Ideal)) (x3 : (⟨S4x2048, .f32⟩ : BufTy).Contents (Elt Ideal))
  (x4 : (⟨S2048, .f32⟩ : BufTy).Contents (Elt Ideal)) (x5 x6 x7 : (⟨S16, .f32⟩ : BufTy).Contents (Elt Ideal))
  (x8 : (⟨S1024, .f32⟩ : BufTy).Contents (Elt Ideal)) (hP : (par x0 x1 x2 x3 x4 x5 x6 x7 x8).Finite)
include hP

/-- The decays' running sums. -/
theorem cum_read (b : Fin 32) (t : Fin 2048) (g r : Fin 4) :
    val_main_v59 (F := Ideal) x2 x5 x6 (ix4 b g r t) = ((cum (fun t => (par x0 x1 x2 x3 x4 x5 x6 x7 x8).aR b.val t (4 * g.val + r.val)) (t.val + 1) : ℝ) : EReal) := by
  have ha : ∀ k : Fin 2048, val_main_v55 (F := Ideal) x2 x5 x6 (ix4 b g r k) = (((par x0 x1 x2 x3 x4 x5 x6 x7 x8).aR b.val k.val (4 * g.val + r.val) : ℝ) : EReal) := fun k => by
    rw [a_read x0 x1 x2 x3 x4 x5 x6 x7 x8]
    exact hP.a _ _ _ (by omega)
  have hz : val_main_call3_call0_v0 (F := Ideal) (Shape.Idx.first h_S_) = 0 := by
    pointwise [val_main_call3_call0_v0, val_main_call3_call0_cst]
  unfold val_main_v59
  generalize val_main_v55 (F := Ideal) x2 x5 x6 = x at ha
  generalize val_main_call3_call0_v0 (F := Ideal) = z at hz
  refine (running_sum (A := 32) (B := 4) (C := 4) x z h_S_ hz reduceWindows_S32x4x4x2048_S32x4x4x2048_w1s1p0_0_w1s1p0_0_w1s1p0_0_w2048s1p2047_0
    (fun t => (((par x0 x1 x2 x3 x4 x5 x6 x7 x8).aR b.val t (4 * g.val + r.val) : ℝ) : EReal)) b g r t ha).trans ?_
  rw [← coe_sum]
  rfl

omit hP in
theorem ge_mask {a b : ℕ} (ha : a < 2048) (hb : b < 2048) :
    IntOp.cmpi CmpIPredicate.sge (IntOp.addi (BitVec.ofNat 32 a) 0#32) (BitVec.ofNat 32 b) = if b ≤ a then 1#1 else 0#1 := by
  unfold IntOp.cmpi IntOp.addi
  have e1 : (BitVec.ofNat 32 a).toInt = a := Idealize.ShloMosaic.WordCmp.toInt_ofNat_of_lt (by omega)
  have e2 : (BitVec.ofNat 32 b).toInt = b := Idealize.ShloMosaic.WordCmp.toInt_ofNat_of_lt (by omega)
  simp only [BitVec.add_zero, BitVec.sle, e1, e2, Int.ofNat_le]
  by_cases h : b ≤ a <;> simp [h]

omit hP in
theorem tri_read (t s : Fin 2048) : val_main_v66 (F := Ideal) (ix2 t s) = if s.val ≤ t.val then 1#1 else 0#1 := by
  pointwise [val_main_v66, val_main_v65, val_main_c_0, val_main_call4_v0, val_main_call4_v1, val_main_call4_v2, val_main_call4_v3, val_main_call4_v4, val_main_call4_v5, val_main_call4_c, val_main_call4_c_0]
  rw [ge_mask t.isLt s.isLt]
  split <;> rfl

/-- The masked decay from one token to another. -/
theorem decay_read (b : Fin 32) (t s : Fin 2048) (g r : Fin 4) :
    val_main_v68 (F := Ideal) x2 x5 x6 (ix5 b g r t s) = if s.val ≤ t.val then ((Real.exp (cum (fun t => (par x0 x1 x2 x3 x4 x5 x6 x7 x8).aR b.val t (4 * g.val + r.val)) (t.val + 1)
      - cum (fun t => (par x0 x1 x2 x3 x4 x5 x6 x7 x8).aR b.val t (4 * g.val + r.val)) (s.val + 1)) : ℝ) : EReal) else 0 := by
  have e1 : val_main_call5_v1 (F := Ideal) (ix5 b g r t s) = if s.val ≤ t.val then 1#1 else 0#1 :=
    (val_main_call5_v1_apply _).trans ((congrArg _ (funext fun a => match a with | ⟨0, _⟩ => rfl | ⟨1, _⟩ => rfl)).trans (tri_read t s))
  have e2 : val_main_call5_v2 (F := Ideal) (ix5 b g r t s) = ⊥ := by
    pointwise [val_main_call5_v2, val_main_call5_v0, val_main_cst_1]
    exact Cert.KernelIdeal.Ssd.bits_bot
  pointwise [val_main_v68, val_main_v67, val_main_v64, val_main_v63, val_main_v62, val_main_v61, val_main_v60]
  rw [e1, e2, cum_read x0 x1 x2 x3 x4 x5 x6 x7 x8 hP, cum_read x0 x1 x2 x3 x4 x5 x6 x7 x8 hP, Cert.KernelIdeal.Ssd.select_if]
  split
  · rw [← EReal.coe_sub, Ideal.exp_coe]
  · rw [Ideal.exp_bot]

end Cert.ReferenceIdeal.Read
-- ==== Proof.RefScan.lean ====
/- The reference's scan over finite inputs: the output solved over the whole
   sequence. -/
module

public import proofs.«01_k».proof.Proof.RefCum

@[expose] public section

set_option maxRecDepth 16384

noncomputable section

namespace Cert.ReferenceIdeal.Read

open Cert.ReferenceIdeal Cert.ReferenceIdeal.Gen Idealize.ShloMosaic Idealize.ShloMosaic.StableHlo Cert.Ssd

variable (x0 : (⟨S65536x1024, .f32⟩ : BufTy).Contents (Elt Ideal)) (x1 : (⟨S65536x2048, .f32⟩ : BufTy).Contents (Elt Ideal))
  (x2 : (⟨S65536x128, .f32⟩ : BufTy).Contents (Elt Ideal)) (x3 : (⟨S4x2048, .f32⟩ : BufTy).Contents (Elt Ideal))
  (x4 : (⟨S2048, .f32⟩ : BufTy).Contents (Elt Ideal)) (x5 x6 x7 : (⟨S16, .f32⟩ : BufTy).Contents (Elt Ideal))
  (x8 : (⟨S1024, .f32⟩ : BufTy).Contents (Elt Ideal)) (hP : (par x0 x1 x2 x3 x4 x5 x6 x7 x8).Finite)
include hP

/-- A token's output vector against another's input vector. -/
theorem cb_read (b : Fin 32) (t s : Fin 2048) (g : Fin 4) :
    val_main_v69 (F := Ideal) x1 x3 x4 (ix4 b g t s)
      = ((∑ n : Fin 128, (par x0 x1 x2 x3 x4 x5 x6 x7 x8).actR b.val t.val (1536 + 128 * g.val + n.val) * (par x0 x1 x2 x3 x4 x5 x6 x7 x8).actR b.val s.val (1024 + 128 * g.val + n.val) : ℝ) : EReal) := by
  pointwise [val_main_v69, val_main_v43, val_main_v42, val_main_v40, val_main_v39]
  rw [coe_sum]
  refine Finset.sum_congr rfl fun n _ => ?_
  rw [act_read x0 x1 x2 x3 x4 x5 x6 x7 x8, act_read x0 x1 x2 x3 x4 x5 x6 x7 x8, hP.act, hP.act, ← EReal.coe_mul]
  show ((((par x0 x1 x2 x3 x4 x5 x6 x7 x8).actR b.val t.val (1536 + (g.val * 128 + n.val)) * (par x0 x1 x2 x3 x4 x5 x6 x7 x8).actR b.val s.val (1024 + (g.val * 128 + n.val)) : ℝ)) : EReal) = _
  rw [Nat.mul_comm g.val, ← Nat.add_assoc, ← Nat.add_assoc]

omit hP in
/-- A head's inputs are columns of the activated rows. -/
theorem xs_read (b : Fin 32) (t : Fin 2048) (g r : Fin 4) (p : Fin 64) :
    val_main_v41 (F := Ideal) x1 x3 x4 (ix5 b t g r p) = val_main_v37 (F := Ideal) x1 x3 x4 (ix3 b t ⟨256 * g.val + 64 * r.val + p.val, by omega⟩) := by
  refine (val_main_v41_apply x1 x3 x4 _).trans ((val_main_v38_apply x1 x3 x4 _).trans (congrArg _ (funext fun a => Fin.ext ?_)))
  match a with
  | ⟨0, _⟩ => show ((((b.val * 2048 + t.val) * 4 + g.val) * 4 + r.val) * 64 + p.val) / 2097152 = b.val; omega
  | ⟨1, _⟩ => show ((((b.val * 2048 + t.val) * 4 + g.val) * 4 + r.val) * 64 + p.val) / 1024 % 2048 = t.val; omega
  | ⟨2, _⟩ => show ((((b.val * 2048 + t.val) * 4 + g.val) * 4 + r.val) * 64 + p.val) % 1024 = 256 * g.val + 64 * r.val + p.val; omega

/-- A token's scaled input. -/
theorem xdt_read (b : Fin 32) (t : Fin 2048) (g r : Fin 4) (p : Fin 64) :
    val_main_v58 (F := Ideal) x1 x2 x3 x4 x5 (ix5 b t g r p)
      = (((par x0 x1 x2 x3 x4 x5 x6 x7 x8).actR b.val t.val (256 * g.val + 64 * r.val + p.val) * (par x0 x1 x2 x3 x4 x5 x6 x7 x8).dtR b.val t.val (4 * g.val + r.val) : ℝ) : EReal) := by
  have e2 : val_main_v57 (F := Ideal) x2 x5 (ix5 b t g r p) = val_main_v47 (F := Ideal) x2 x5 (ix3 b t ⟨4 * g.val + r.val, by omega⟩) := by
    refine (val_main_v57_apply x2 x5 _).trans ((val_main_v56_apply x2 x5 _).trans ((val_main_v50_apply x2 x5 _).trans (congrArg _ (funext fun a => Fin.ext ?_))))
    match a with
    | ⟨0, _⟩ => show (((b.val * 2048 + t.val) * 4 + g.val) * 4 + r.val) / 32768 = b.val; omega
    | ⟨1, _⟩ => show (((b.val * 2048 + t.val) * 4 + g.val) * 4 + r.val) / 16 % 2048 = t.val; omega
    | ⟨2, _⟩ => show (((b.val * 2048 + t.val) * 4 + g.val) * 4 + r.val) % 16 = 4 * g.val + r.val; omega
  rw [val_main_v58_apply, xs_read, e2, act_read x0 x1 x2 x3 x4 x5 x6 x7 x8, dt_read x0 x1 x2 x3 x4 x5 x6 x7 x8, hP.act, hP.dt _ _ _ (by show 4 * g.val + r.val < 16; omega)]
  exact (EReal.coe_mul _ _).symm

omit hP in
/-- One masked weight. -/
theorem weight_read (b : Fin 32) (t s : Fin 2048) (g r : Fin 4) :
    val_main_v72 (F := Ideal) x1 x2 x3 x4 x5 x6 (ix5 b g r t s)
      = val_main_v69 (F := Ideal) x1 x3 x4 (ix4 b g t s) * val_main_v68 (F := Ideal) x2 x5 x6 (ix5 b g r t s) := by
  pointwise [val_main_v72, val_main_v71, val_main_v70]

/-- The scan's output. -/
theorem scan_read (b : Fin 32) (t : Fin 2048) (g r : Fin 4) (p : Fin 64) (c : ℕ) (hp : c = 256 * g.val + 64 * r.val + p.val) :
    val_main_v74 (F := Ideal) x1 x2 x3 x4 x5 x6 (ix5 b t g r p)
      = ((scanOut ((par x0 x1 x2 x3 x4 x5 x6 x7 x8).fA b.val c) ((par x0 x1 x2 x3 x4 x5 x6 x7 x8).fX b.val c) ((par x0 x1 x2 x3 x4 x5 x6 x7 x8).fB b.val c) ((par x0 x1 x2 x3 x4 x5 x6 x7 x8).fC b.val c) t.val : ℝ) : EReal) := by
  have hg : c / 256 = g.val := by omega
  have hc : c / 64 = 4 * g.val + r.val := by omega
  rw [val_main_v74_apply, val_main_v73_apply]
  unfold scanOut
  rw [← masked_sum (N := 2048) _ t.val t.isLt]
  refine Finset.sum_congr rfl fun s _ => ?_
  have hl : val_main_v58 (F := Ideal) x1 x2 x3 x4 x5 (lidx_main_v73 (idx_main_v74 (ix5 b t g r p)) s) = val_main_v58 (F := Ideal) x1 x2 x3 x4 x5 (ix5 b s g r p) :=
    congrArg _ (funext fun a => match a with | ⟨0, _⟩ => rfl | ⟨1, _⟩ => rfl | ⟨2, _⟩ => rfl | ⟨3, _⟩ => rfl | ⟨4, _⟩ => rfl)
  have hr : val_main_v72 (F := Ideal) x1 x2 x3 x4 x5 x6 (ridx_main_v73 (idx_main_v74 (ix5 b t g r p)) s) = val_main_v72 (F := Ideal) x1 x2 x3 x4 x5 x6 (ix5 b g r t s) :=
    congrArg _ (funext fun a => match a with | ⟨0, _⟩ => rfl | ⟨1, _⟩ => rfl | ⟨2, _⟩ => rfl | ⟨3, _⟩ => rfl | ⟨4, _⟩ => rfl)
  rw [hl, hr, xdt_read x0 x1 x2 x3 x4 x5 x6 x7 x8 hP, weight_read, cb_read x0 x1 x2 x3 x4 x5 x6 x7 x8 hP, decay_read x0 x1 x2 x3 x4 x5 x6 x7 x8 hP]
  split
  · simp only [← EReal.coe_mul]
    congr 1
    unfold Par.fX Par.fB Par.fC Par.fA
    rw [hg, hc, ← hp]
  · rw [mul_zero, mul_zero]

end Cert.ReferenceIdeal.Read
end
-- ==== Proof.RefOut.lean ====
/- The reference's result over finite inputs is the layer's: the skip, the gate and the grouped normalisation on the scan's output. -/
module

public import proofs.«01_k».proof.Proof.RefScan

@[expose] public section

set_option maxRecDepth 16384

noncomputable section

namespace Cert.ReferenceIdeal.Read

open Cert.ReferenceIdeal Cert.ReferenceIdeal.Gen Idealize.ShloMosaic Idealize.ShloMosaic.StableHlo Cert.Ssd

variable (x0 : (⟨S65536x1024, .f32⟩ : BufTy).Contents (Elt Ideal)) (x1 : (⟨S65536x2048, .f32⟩ : BufTy).Contents (Elt Ideal))
  (x2 : (⟨S65536x128, .f32⟩ : BufTy).Contents (Elt Ideal)) (x3 : (⟨S4x2048, .f32⟩ : BufTy).Contents (Elt Ideal))
  (x4 : (⟨S2048, .f32⟩ : BufTy).Contents (Elt Ideal)) (x5 x6 x7 : (⟨S16, .f32⟩ : BufTy).Contents (Elt Ideal))
  (x8 : (⟨S1024, .f32⟩ : BufTy).Contents (Elt Ideal)) (hP : (par x0 x1 x2 x3 x4 x5 x6 x7 x8).Finite)
include hP

/-- The rows before the gate. -/
theorem rows_read (b : Fin 32) (t : Fin 2048) (c : Fin 1024) :
    val_main_v81 (F := Ideal) x1 x2 x3 x4 x5 x6 x7 (ix3 b t c) = (par x0 x1 x2 x3 x4 x5 x6 x7 x8).rows b.val t.val c.val := by
  have e : val_main_v81 (F := Ideal) x1 x2 x3 x4 x5 x6 x7 (ix3 b t c)
      = val_main_v80 (F := Ideal) x1 x2 x3 x4 x5 x6 x7 (ix5 b t ⟨c.val / 256, by omega⟩ ⟨c.val / 64 % 4, by omega⟩ ⟨c.val % 64, by omega⟩) := by
    refine (val_main_v81_apply x1 x2 x3 x4 x5 x6 x7 _).trans (congrArg _ (funext fun a => Fin.ext ?_))
    match a with
    | ⟨0, _⟩ => show ((b.val * 2048 + t.val) * 1024 + c.val) / 2097152 = b.val; omega
    | ⟨1, _⟩ => show ((b.val * 2048 + t.val) * 1024 + c.val) / 1024 % 2048 = t.val; omega
    | ⟨2, _⟩ => show ((b.val * 2048 + t.val) * 1024 + c.val) / 256 % 4 = c.val / 256; omega
    | ⟨3, _⟩ => show ((b.val * 2048 + t.val) * 1024 + c.val) / 64 % 4 = c.val / 64 % 4; omega
    | ⟨4, _⟩ => show ((b.val * 2048 + t.val) * 1024 + c.val) % 64 = c.val % 64; omega
  have hc : c.val = 256 * (c.val / 256) + 64 * (c.val / 64 % 4) + c.val % 64 := by omega
  have hd : ∀ (g r : Fin 4) (p : Fin 64), val_main_v78 (F := Ideal) x7 (ix5 b t g r p) = (par x0 x1 x2 x3 x4 x5 x6 x7 x8).dsk (4 * g.val + r.val) := fun g r p => by
    refine (val_main_v78_apply x7 _).trans ((val_main_v77_apply x7 _).trans ((val_main_v76_apply x7 _).trans ((val_main_v75_apply x7 _).trans ?_)))
    dsimp only [par, parOf]
    rw [at1_of _ (show 4 * g.val + r.val < 16 by omega)]
    refine congrArg _ (funext fun a => Fin.ext ?_)
    match a with
    | ⟨0, _⟩ => show g.val * 4 + r.val = 4 * g.val + r.val; omega
  rw [e, val_main_v80_apply, scan_read x0 x1 x2 x3 x4 x5 x6 x7 x8 hP b t _ _ _ c.val hc, val_main_v79_apply, xs_read, hd, act_read x0 x1 x2 x3 x4 x5 x6 x7 x8]
  unfold Par.rows
  show _ + (par x0 x1 x2 x3 x4 x5 x6 x7 x8).act b.val t.val (256 * (c.val / 256) + 64 * (c.val / 64 % 4) + c.val % 64) * (par x0 x1 x2 x3 x4 x5 x6 x7 x8).dsk (4 * (c.val / 256) + c.val / 64 % 4) = _
  rw [← hc, show 4 * (c.val / 256) + c.val / 64 % 4 = c.val / 64 by omega]

omit hP in
/-- The gate. -/
theorem gate_read (b : Fin 32) (t : Fin 2048) (c : Fin 1024) :
    val_main_v82 (F := Ideal) x0 (ix3 b t c) = (par x0 x1 x2 x3 x4 x5 x6 x7 x8).z (2048 * b.val + t.val) c.val * Ideal.logistic ((par x0 x1 x2 x3 x4 x5 x6 x7 x8).z (2048 * b.val + t.val) c.val) := by
  have hz : val_main_v0 (F := Ideal) x0 (ix3 b t c) = (par x0 x1 x2 x3 x4 x5 x6 x7 x8).z (2048 * b.val + t.val) c.val := by
    refine (val_main_v0_apply x0 _).trans ?_
    dsimp only [par, parOf]
    rw [at2_of _ (show 2048 * b.val + t.val < 65536 by omega) c.isLt]
    refine congrArg _ (funext fun a => Fin.ext ?_)
    match a with
    | ⟨0, _⟩ => show ((b.val * 2048 + t.val) * 1024 + c.val) / 1024 = 2048 * b.val + t.val; omega
    | ⟨1, _⟩ => show ((b.val * 2048 + t.val) * 1024 + c.val) % 1024 = c.val; omega
  rw [← hz]
  pointwise [val_main_v82, val_main_call6_v5, val_main_call6_v4, val_main_call6_v3, val_main_call6_v2, val_main_call6_v1, val_main_call6_v0, val_main_call6_cst, val_main_call6_cst_0]
  rfl

/-- The gated rows. -/
theorem gated_read (b : Fin 32) (t : Fin 2048) (g : Fin 4) (j : Fin 256) :
    val_main_v84 (F := Ideal) x0 x1 x2 x3 x4 x5 x6 x7 (ix4 b t g j) = (par x0 x1 x2 x3 x4 x5 x6 x7 x8).gated b.val t.val (256 * g.val + j.val) := by
  have e : val_main_v84 (F := Ideal) x0 x1 x2 x3 x4 x5 x6 x7 (ix4 b t g j)
      = val_main_v83 (F := Ideal) x0 x1 x2 x3 x4 x5 x6 x7 (ix3 b t ⟨256 * g.val + j.val, by omega⟩) := by
    refine (val_main_v84_apply x0 x1 x2 x3 x4 x5 x6 x7 _).trans (congrArg _ (funext fun a => Fin.ext ?_))
    match a with
    | ⟨0, _⟩ => show (((b.val * 2048 + t.val) * 4 + g.val) * 256 + j.val) / 2097152 = b.val; omega
    | ⟨1, _⟩ => show (((b.val * 2048 + t.val) * 4 + g.val) * 256 + j.val) / 1024 % 2048 = t.val; omega
    | ⟨2, _⟩ => show (((b.val * 2048 + t.val) * 4 + g.val) * 256 + j.val) % 1024 = 256 * g.val + j.val; omega
  rw [e, val_main_v83_apply, rows_read x0 x1 x2 x3 x4 x5 x6 x7 x8 hP, gate_read x0 x1 x2 x3 x4 x5 x6 x7 x8]
  rfl

/-- A group's scale. -/
theorem scale_read (b : Fin 32) (t : Fin 2048) (g : Fin 4) (j : Fin 256) :
    val_main_v93 (F := Ideal) x0 x1 x2 x3 x4 x5 x6 x7 (ix4 b t g j)
      = Ideal.rsqrt (Ideal.div (∑ x : Fin 256, (par x0 x1 x2 x3 x4 x5 x6 x7 x8).gated b.val t.val (256 * g.val + x.val) * (par x0 x1 x2 x3 x4 x5 x6 x7 x8).gated b.val t.val (256 * g.val + x.val))
        (Ideal.ofBits FTy.f32 1132462080#32) + Ideal.ofBits FTy.f32 925353388#32) := by
  have hs : val_main_v86 (F := Ideal) x0 x1 x2 x3 x4 x5 x6 x7 (ix3 b t g)
      = ∑ x : Fin 256, (par x0 x1 x2 x3 x4 x5 x6 x7 x8).gated b.val t.val (256 * g.val + x.val) * (par x0 x1 x2 x3 x4 x5 x6 x7 x8).gated b.val t.val (256 * g.val + x.val) := by
    rw [val_main_v86_apply, val_main_cst_2_apply]
    refine (congrArg (· + _) (Ideal.ofBits_zero FTy.f32)).trans ((zero_add _).trans (Finset.sum_congr rfl fun x _ => ?_))
    have hi : idx_main_v86 (ix3 b t g) x = ix4 b t g x := funext fun a => Fin.ext (by match a with | ⟨0, _⟩ => rfl | ⟨1, _⟩ => rfl | ⟨2, _⟩ => rfl | ⟨3, _⟩ => rfl)
    rw [val_main_v85_apply, hi, gated_read x0 x1 x2 x3 x4 x5 x6 x7 x8 hP]
    rfl
  have hk : ∀ j : Fin 1, val_main_v87 (F := Ideal) x0 x1 x2 x3 x4 x5 x6 x7 (ix4 b t g j) = val_main_v86 (F := Ideal) x0 x1 x2 x3 x4 x5 x6 x7 (ix3 b t g) := fun j => by
    refine (val_main_v87_apply x0 x1 x2 x3 x4 x5 x6 x7 _).trans (congrArg _ (funext fun a => Fin.ext ?_))
    match a with
    | ⟨0, _⟩ => rfl
    | ⟨1, _⟩ => rfl
    | ⟨2, _⟩ => rfl
  have hv : val_main_v93 (F := Ideal) x0 x1 x2 x3 x4 x5 x6 x7 (ix4 b t g j) = val_main_v92 (F := Ideal) x0 x1 x2 x3 x4 x5 x6 x7 (ix4 b t g 0) := by
    refine (val_main_v93_apply x0 x1 x2 x3 x4 x5 x6 x7 _).trans (congrArg _ (funext fun a => Fin.ext ?_))
    match a with
    | ⟨0, _⟩ => rfl
    | ⟨1, _⟩ => rfl
    | ⟨2, _⟩ => rfl
    | ⟨3, _⟩ => rfl
  rw [hv, val_main_v92_apply, val_main_v91_apply, val_main_v90_apply, val_main_v89_apply, val_main_v88_apply, val_main_cst_3_apply, val_main_cst_4_apply, hk, hs]
  rfl

/-- THE REFERENCE'S RESULT is the layer's, over finite inputs. -/
theorem result (r : Fin 65536) (c : Fin 1024) :
    val_main_v100 (F := Ideal) x0 x1 x2 x3 x4 x5 x6 x7 x8 (ix2 r c) = (par x0 x1 x2 x3 x4 x5 x6 x7 x8).out (r.val / 2048) (r.val % 2048) c.val := by
  have e : val_main_v99 (F := Ideal) x0 x1 x2 x3 x4 x5 x6 x7 x8 (ix2 r c)
      = val_main_v98 (F := Ideal) x0 x1 x2 x3 x4 x5 x6 x7 x8 (ix3 ⟨r.val / 2048, by omega⟩ ⟨r.val % 2048, by omega⟩ c) := by
    refine (val_main_v99_apply x0 x1 x2 x3 x4 x5 x6 x7 x8 _).trans (congrArg _ (funext fun a => Fin.ext ?_))
    match a with
    | ⟨0, _⟩ => show (r.val * 1024 + c.val) / 2097152 = r.val / 2048; omega
    | ⟨1, _⟩ => show (r.val * 1024 + c.val) / 1024 % 2048 = r.val % 2048; omega
    | ⟨2, _⟩ => show (r.val * 1024 + c.val) % 1024 = c.val; omega
  have e2 : ∀ (b : Fin 32) (t : Fin 2048), val_main_v95 (F := Ideal) x0 x1 x2 x3 x4 x5 x6 x7 (ix3 b t c)
      = val_main_v94 (F := Ideal) x0 x1 x2 x3 x4 x5 x6 x7 (ix4 b t ⟨c.val / 256, by omega⟩ ⟨c.val % 256, by omega⟩) := fun b t => by
    refine (val_main_v95_apply x0 x1 x2 x3 x4 x5 x6 x7 _).trans (congrArg _ (funext fun a => Fin.ext ?_))
    match a with
    | ⟨0, _⟩ => show ((b.val * 2048 + t.val) * 1024 + c.val) / 2097152 = b.val; omega
    | ⟨1, _⟩ => show ((b.val * 2048 + t.val) * 1024 + c.val) / 1024 % 2048 = t.val; omega
    | ⟨2, _⟩ => show ((b.val * 2048 + t.val) * 1024 + c.val) / 256 % 4 = c.val / 256; omega
    | ⟨3, _⟩ => show ((b.val * 2048 + t.val) * 1024 + c.val) % 256 = c.val % 256; omega
  have e3 : ∀ (b : Fin 32) (t : Fin 2048), val_main_v97 (F := Ideal) x8 (ix3 b t c) = (par x0 x1 x2 x3 x4 x5 x6 x7 x8).nw c.val := fun b t => by
    refine (val_main_v97_apply x8 _).trans ((val_main_v96_apply x8 _).trans ?_)
    dsimp only [par, parOf]
    rw [at1_of _ c.isLt]
    refine congrArg _ (funext fun a => Fin.ext ?_)
    match a with
    | ⟨0, _⟩ => rfl
  have hc : 256 * (c.val / 256) + c.val % 256 = c.val := by omega
  rw [val_main_v100_apply, e, val_main_v98_apply, e2, e3, val_main_v94_apply, gated_read x0 x1 x2 x3 x4 x5 x6 x7 x8 hP, scale_read x0 x1 x2 x3 x4 x5 x6 x7 x8 hP]
  show (par x0 x1 x2 x3 x4 x5 x6 x7 x8).gated (r.val / 2048) (r.val % 2048) (256 * (c.val / 256) + c.val % 256) * _ * _ = _
  rw [hc]
  rfl

end Cert.ReferenceIdeal.Read
end
-- ==== Proof.InPay.lean ====
/- The input projection's arithmetic, row by row, and the block the kernel computes read at one element. -/
module

public import proofs.«01_k».proof.Proof.Gen.InprojIdeal.Frame
public import Idealize.ShloMosaic.Lib.Pointwise

@[expose] public section

set_option maxRecDepth 16384

noncomputable section

namespace Cert.Inp

open Idealize.ShloMosaic

/-- The mean of a row of 1024. -/
def mean (f : Fin 1024 → EReal) : EReal := Ideal.div (∑ k, f k) (Ideal.ofBits .f32 0x44800000#32)

/-- A row of 1024, normalised. -/
def nrm (f : Fin 1024 → EReal) (k : Fin 1024) : EReal :=
  (f k - mean f) * Ideal.rsqrt (mean (fun k => (f k - mean f) * (f k - mean f)) + Ideal.ofBits .f32 0x3727C5AC#32)

/-- A row of 1024, normalised, then scaled by one plus `s` and shifted by `b`. -/
def row (f s b : Fin 1024 → EReal) (k : Fin 1024) : EReal := nrm f k * (1 + s k) + b k

/-- A row of 128 divided by its root mean square, times `g`. -/
def rms (v g : Fin 128 → EReal) (j : Fin 128) : EReal :=
  v j * Ideal.rsqrt (Ideal.div (∑ k, v k * v k) (Ideal.ofBits .f32 0x43000000#32) + Ideal.ofBits .f32 0x3727C5AC#32) * g j

/-- A row of 64, normalised, then scaled by `g` and shifted by `b`. -/
def key (v g b : Fin 64 → EReal) (j : Fin 64) : EReal :=
  (v j - Ideal.div (∑ k, v k) (Ideal.ofBits .f32 0x42800000#32))
    * Ideal.rsqrt (Ideal.div (∑ k, (v k - Ideal.div (∑ k, v k) (Ideal.ofBits .f32 0x42800000#32)) * (v k - Ideal.div (∑ k, v k) (Ideal.ofBits .f32 0x42800000#32)))
        (Ideal.ofBits .f32 0x42800000#32) + Ideal.ofBits .f32 0x3727C5AC#32) * g j + b j

end Cert.Inp

namespace Cert.InprojIdeal.Inp

open Cert.InprojIdeal Cert.InprojIdeal.Gen Idealize.ShloMosaic Idealize.ShloMosaic.TcCoe Idealize.SL.Sem Cert.Inp

/-- A modulated row, entry by entry. -/
theorem row_read (v0 : Vec Ideal S512x1024 .f32) (v17 v23 : Vec Ideal S1x1x1024 .f32) (i : Fin 512) (k : Fin 1024) :
    (k0_pay6 v0 v17 v23 : FVec Ideal S512x1024 .bf16) (ix2 i k)
      = row (fun k => v0 (ix2 i k)) (fun k => v17 (ix3 0 0 k)) (fun k => v23 (ix3 0 0 k)) k := by
  pointwise [k0_pay6]
  unfold row nrm mean
  rfl

/-- The z product, entry by entry. -/
theorem z_read (v27 : FVec Ideal S512x1024 .bf16) (w : Vec Ideal S1024x1024 .bf16) (i : Fin 512) (j : Fin 1024) :
    (k0_pay2 v27 w : FVec Ideal S512x1024 .f32) (ix2 i j) = ∑ k : Fin 1024, v27 (ix2 i k) * w (ix2 k j) := by
  pointwise [k0_pay2]

/-- The query product, entry by entry. -/
theorem q_read (v0 : Vec Ideal S512x1024 .f32) (v17 v23 : Vec Ideal S1x1x1024 .f32) (w : Vec Ideal S1024x1024 .bf16) (i : Fin 512) (j : Fin 1024) :
    (k0_pay7 v0 v17 v23 w : FVec Ideal S512x1024 .bf16) (ix2 i j)
      = ∑ k : Fin 1024, (k0_pay6 v0 v17 v23 : FVec Ideal S512x1024 .bf16) (ix2 i k) * w (ix2 k j) := by
  unfold k0_pay7
  generalize k0_pay6 v0 v17 v23 = u
  pointwise []

/-- The latent product, entry by entry. -/
theorem ckv_read (v0 : Vec Ideal S512x1024 .f32) (v17 v23 : Vec Ideal S1x1x1024 .f32) (w : Vec Ideal S1024x128 .bf16) (i : Fin 512) (j : Fin 128) :
    (k0_pay8 v0 v17 v23 w : FVec Ideal S512x128 .f32) (ix2 i j)
      = ∑ k : Fin 1024, (k0_pay6 v0 v17 v23 : FVec Ideal S512x1024 .bf16) (ix2 i k) * w (ix2 k j) := by
  unfold k0_pay8
  generalize k0_pay6 v0 v17 v23 = u
  pointwise []

/-- The product of x, B and C, entry by entry. -/
theorem xbc_read (v27 : FVec Ideal S512x1024 .bf16) (w : Vec Ideal S1024x2048 .bf16) (i : Fin 512) (j : Fin 2048) :
    (k0_pay3 v27 w : FVec Ideal S512x2048 .f32) (ix2 i j) = ∑ k : Fin 1024, v27 (ix2 i k) * w (ix2 k j) := by
  pointwise [k0_pay3]

/-- The first gate's product, entry by entry. -/
theorem ga_read (v27 : FVec Ideal S512x1024 .bf16) (w : Vec Ideal S1024x1024 .bf16) (i : Fin 512) (j : Fin 1024) :
    (k0_pay4 v27 w : FVec Ideal S512x1024 .f32) (ix2 i j) = ∑ k : Fin 1024, v27 (ix2 i k) * w (ix2 k j) := by
  pointwise [k0_pay4]

/-- The second gate's product, entry by entry. -/
theorem gb_read (v27 : FVec Ideal S512x1024 .bf16) (w : Vec Ideal S1024x1024 .bf16) (i : Fin 512) (j : Fin 1024) :
    (k0_pay5 v27 w : FVec Ideal S512x1024 .f32) (ix2 i j) = ∑ k : Fin 1024, v27 (ix2 i k) * w (ix2 k j) := by
  pointwise [k0_pay5]

/-- The index-query product, entry by entry. -/
theorem iq_read (v27 : FVec Ideal S512x1024 .bf16) (w : Vec Ideal S1024x512 .bf16) (i : Fin 512) (j : Fin 512) :
    (k0_pay10 v27 w : FVec Ideal S512x512 .bf16) (ix2 i j) = ∑ k : Fin 1024, v27 (ix2 i k) * w (ix2 k j) := by
  pointwise [k0_pay10]

/-- The small columns' product, entry by entry. -/
theorem sm_dot (v27 : FVec Ideal S512x1024 .bf16) (w : Vec Ideal S1024x128 .bf16) (i : Fin 512) (j : Fin 128) :
    (k0_pay11 v27 w : FVec Ideal S512x128 .f32) (ix2 i j) = ∑ k : Fin 1024, v27 (ix2 i k) * w (ix2 k j) := by
  pointwise [k0_pay11]

/-- The mask of the low 64 lanes. -/
theorem lane64 (j : Fin 128) : IntOp.cmpi CmpIPredicate.slt (BitVec.ofNat 32 j.val) 64#32 = if j.val < 64 then 1#1 else 0#1 := by
  revert j; decide

/-- The mask of the low 72 lanes. -/
theorem lane72 (j : Fin 128) : IntOp.cmpi CmpIPredicate.slt (BitVec.ofNat 32 j.val) 72#32 = if j.val < 72 then 1#1 else 0#1 := by
  revert j; decide

/-- Selecting by the bit of a condition is a case split. -/
theorem select_ite {α : Type} (P : Prop) [Decidable P] (a b : α) : Scalar.select (if P then 1#1 else 0#1) a b = if P then a else b := by
  by_cases h : P <;> simp [h, Scalar.select]

/-- A row of 128 lanes, its first 72 scaled. -/
theorem sm_read (v59 : FVec Ideal S512x128 .f32) (i : Fin 512) (j : Fin 128) :
    (k0_pay18 v59 (iota .tc S512x128 32 [1] iota_S512x128_d1_w32) : FVec Ideal S512x128 .f32) (ix2 i j)
      = if j.val < 72 then v59 (ix2 i j) * Ideal.ofBits .f32 0x3EB504F3#32 else v59 (ix2 i j) := by
  pointwise [k0_pay18]
  simp only [lane72, select_ite]

/-- The transposed small columns, entry by entry. -/
theorem smt_read (v59 : FVec Ideal S512x128 .f32) (i : Fin 512) (j : Fin 128) :
    (k0_pay1 (k0_pay19 v59 (iota .tc S512x128 32 [1] iota_S512x128_d1_w32)) : FVec Ideal S1x128x512 .f32) (ix3 0 j i)
      = (k0_pay18 v59 (iota .tc S512x128 32 [1] iota_S512x128_d1_w32) : FVec Ideal S512x128 .f32) (ix2 i j) := by
  unfold k0_pay19
  generalize k0_pay18 v59 _ = u
  pointwise [k0_pay1]

/-- A sum over 128 lanes that keeps the low 64. -/
theorem sum_low (g : Fin 128 → EReal) : (∑ l : Fin 128, if l.val < 64 then g l else 0) = ∑ l : Fin 64, g ⟨l.val, by omega⟩ := by
  have h := Fin.sum_univ_add (M := EReal) (a := 64) (b := 64) fun l : Fin (64 + 64) => if l.val < 64 then g l else 0
  refine (h.trans ?_)
  rw [Finset.sum_eq_zero (s := Finset.univ) (f := fun l : Fin 64 => if (Fin.natAdd 64 l).val < 64 then g (Fin.natAdd 64 l) else 0) fun l _ => by
    simp, add_zero]
  exact Finset.sum_congr rfl fun l _ => if_pos l.isLt

/-- Multiplying by a sixty-fourth is dividing by sixty-four. -/
theorem mul_64th (x : EReal) : x * Ideal.ofBits .f32 0x3C800000#32 = Ideal.div x (Ideal.ofBits .f32 0x42800000#32) := by
  have e1 : Ideal.ofBits .f32 0x3C800000#32 = ((1 / 64 : ℝ) : EReal) := by
    simp only [Ideal.ofBits, Ideal.ieee]
    simp
    rw [← EReal.coe_mul]
    norm_num
  have e2 : Ideal.ofBits .f32 0x42800000#32 = ((64 : ℝ) : EReal) := by
    simp only [Ideal.ofBits, Ideal.ieee]
    simp
    rw [← EReal.coe_mul]
    norm_num
  rw [e1, e2]
  unfold Ideal.div
  rw [if_neg (by norm_cast), ← EReal.coe_inv]
  norm_num

/-- The zero pattern reads as zero. -/
theorem zero_bits : Ideal.ofBits .f32 0x00000000#32 = 0 := Ideal.ofBits_zero FTy.f32

/-- The normalised key in the low half, entry by entry. -/
theorem key_lo (v27 : FVec Ideal S512x1024 .bf16) (w : Vec Ideal S1024x128 .bf16) (g b : Vec Ideal S1x128 .f32) (i : Fin 512) (j : Fin 128) :
    (k0_pay15 k0_pay12 (k0_pay13 v27 w) (k0_pay14 v27 w) g b : FVec Ideal S512x128 .f32) (ix2 i j)
      = if h : j.val < 64 then key (fun l => (k0_pay11 v27 w : FVec Ideal S512x128 .f32) (ix2 i ⟨l.val, by omega⟩))
          (fun l => g (ix2 0 ⟨l.val, by omega⟩)) (fun l => b (ix2 0 ⟨l.val, by omega⟩)) ⟨j.val, h⟩ else 0 := by
  unfold k0_pay14 k0_pay13
  generalize (k0_pay11 v27 w : FVec Ideal S512x128 .f32) = u
  pointwise [k0_pay15, k0_pay12]
  simp only [lane64, select_ite, zero_bits, sum_low, mul_64th]
  by_cases h : j.val < 64
  · rw [if_pos h, dif_pos h]
    rfl
  · rw [if_neg h, dif_neg h]

/-- The key lanes, zero beyond the key. -/
theorem ik_read (v62 : IVec S512x128 1) (v70 v73 : FVec Ideal S512x128 .f32) (g b : Vec Ideal S1x128 .f32) (i : Fin 512) (j : Fin 128) :
    (k0_pay16 v62 v70 v73 g b : FVec Ideal S1x512x128 .bf16) (ix3 0 i j) = (k0_pay15 v62 v70 v73 g b : FVec Ideal S512x128 .f32) (ix2 i j) := by
  unfold k0_pay16
  generalize k0_pay15 v62 v70 v73 g b = u
  pointwise []

/-- The rolled key lanes. -/
theorem ik_rolled (v62 : IVec S512x128 1) (v70 v73 : FVec Ideal S512x128 .f32) (g b : Vec Ideal S1x128 .f32) (i : Fin 512) (j : Fin 128) :
    (k0_pay17 v62 v70 v73 g b : FVec Ideal S1x512x128 .bf16) (ix3 0 i j)
      = (k0_pay15 v62 v70 v73 g b : FVec Ideal S512x128 .f32) (ix2 i ⟨(j.val + 128 - 64) % 128, by omega⟩) := by
  unfold k0_pay17
  generalize k0_pay15 v62 v70 v73 g b = u
  pointwise []

/-- The normalised latent, entry by entry. -/
theorem kv_read (v35 : FVec Ideal S512x128 .f32) (g : Vec Ideal S1x128 .f32) (i : Fin 512) (j : Fin 128) :
    (k0_pay9 v35 g : FVec Ideal S512x128 .bf16) (ix2 i j) = rms (fun j => v35 (ix2 i j)) (fun j => g (ix2 0 j)) j := by
  pointwise [k0_pay9]
  unfold rms
  rfl

end Cert.InprojIdeal.Inp
end
-- ==== Proof.InOut.lean ====
/- What one grid point of the input projection leaves in each of its ten blocks, read at one element of the blocks it reads. -/
module

public import proofs.«01_k».proof.Proof.InPay
public import Idealize.ShloMosaic.Lib.Pipeline.Value

@[expose] public section

set_option maxRecDepth 16384

noncomputable section

namespace Cert.InprojIdeal.Inp

open Cert.InprojIdeal Cert.InprojIdeal.Gen Idealize.ShloMosaic Idealize.ShloMosaic.TcCoe Idealize.SL.Sem Cert.Inp

/-- The origin of a matrix. -/
theorem zero2 : (![0, 0] : Fin 2 → Nat) = fun _ => 0 := by
  funext a
  match a with
  | ⟨0, _⟩ => rfl
  | ⟨1, _⟩ => rfl

/-- The origin of a stack of matrices. -/
theorem zero3 : (![0, 0, 0] : Fin 3 → Nat) = fun _ => 0 := by
  funext a
  match a with
  | ⟨0, _⟩ => rfl
  | ⟨1, _⟩ => rfl
  | ⟨2, _⟩ => rfl

variable (x0 : Vec Ideal S512x1024 .f32) (x1 : Vec Ideal S1x6x1024 .f32) (x2 : Vec Ideal S1024x6912 .bf16) (x3 x4 x5 : Vec Ideal S1x128 .f32)

/-- A row of the block: normalised, scaled and shifted. -/
def hrow (i : Fin 512) (k : Fin 1024) : EReal := row (fun k => x0 (ix2 i k)) (fun k => x1 (ix3 0 1 k)) (fun k => x1 (ix3 0 0 k)) k

/-- A row of the block times a column of the weights. -/
def hdot (i : Fin 512) (j : Fin 6912) : EReal := ∑ k : Fin 1024, hrow x0 x1 i k * x2 (ix2 k j)

/-- The modulated rows of a grid point. -/
theorem pay6_read (i : Fin 512) (k : Fin 1024) :
    (k0_pay6 (View.ld x0 r0_0) (View.ld x1 r0_1) (View.ld x1 r0_2) : FVec Ideal S512x1024 .bf16) (ix2 i k) = hrow x0 x1 i k := by
  rw [row_read]
  unfold hrow
  refine congr (congr (congr (congrArg row (funext fun k => ?_)) (funext fun k => ?_)) (funext fun k => ?_)) rfl
  · pointwise
  · pointwise
  · pointwise

/-- The query block is a column range of the projection. -/
theorem out6_read (i : Fin 512) (j : Fin 1024) : out0_6 x0 x1 x2 x3 x4 x5 (ix2 i j) = hdot x0 x1 x2 i ⟨j.val, by omega⟩ := by
  unfold out0_6
  refine (congrFun (View.canon_unit_zero zero2 _ _) _).trans ?_
  rw [q_read]
  unfold hdot
  refine Finset.sum_congr rfl fun k _ => ?_
  rw [pay6_read]
  refine congrArg (hrow x0 x1 i k * ·) ?_
  pointwise

/-- The latent block is the normalised column range of the projection. -/
theorem out7_read (i : Fin 512) (j : Fin 128) :
    out0_7 x0 x1 x2 x3 x4 x5 (ix2 i j) = rms (fun j => hdot x0 x1 x2 i ⟨1024 + j.val, by omega⟩) (fun j => x3 (ix2 0 j)) j := by
  unfold out0_7
  refine (congrFun (View.canon_unit_zero zero2 _ _) _).trans ?_
  rw [kv_read]
  refine congr (congr (congrArg rms (funext fun j => ?_)) (funext fun j => ?_)) rfl
  · rw [ckv_read]
    unfold hdot
    refine Finset.sum_congr rfl fun k _ => ?_
    rw [pay6_read]
    refine congrArg (hrow x0 x1 i k * ·) ?_
    pointwise
  · pointwise

/-- The index-query block is a column range of the projection. -/
theorem out8_read (i : Fin 512) (j : Fin 512) : out0_8 x0 x1 x2 x3 x4 x5 (ix2 i j) = hdot x0 x1 x2 i ⟨1152 + j.val, by omega⟩ := by
  unfold out0_8
  refine (congrFun (View.canon_unit_zero zero2 _ _) _).trans ?_
  rw [iq_read]
  unfold hdot k0_pay20
  refine Finset.sum_congr rfl fun k _ => ?_
  rw [pay6_read]
  refine congrArg (hrow x0 x1 i k * ·) ?_
  pointwise

/-- The z block is a column range of the projection. -/
theorem out12_read (i : Fin 512) (j : Fin 1024) : out0_12 x0 x1 x2 x3 x4 x5 (ix2 i j) = hdot x0 x1 x2 i ⟨1792 + j.val, by omega⟩ := by
  unfold out0_12
  refine (congrFun (View.canon_unit_zero zero2 _ _) _).trans ?_
  rw [z_read]
  unfold hdot k0_pay20
  refine Finset.sum_congr rfl fun k _ => ?_
  rw [pay6_read]
  refine congrArg (hrow x0 x1 i k * ·) ?_
  pointwise

/-- The block of x, B and C is a column range of the projection. -/
theorem out13_read (i : Fin 512) (j : Fin 2048) : out0_13 x0 x1 x2 x3 x4 x5 (ix2 i j) = hdot x0 x1 x2 i ⟨2816 + j.val, by omega⟩ := by
  unfold out0_13
  refine (congrFun (View.canon_unit_zero zero2 _ _) _).trans ?_
  rw [xbc_read]
  unfold hdot k0_pay20
  refine Finset.sum_congr rfl fun k _ => ?_
  rw [pay6_read]
  refine congrArg (hrow x0 x1 i k * ·) ?_
  pointwise

/-- The first gate is a column range of the projection. -/
theorem out14_read (i : Fin 512) (j : Fin 1024) : out0_14 x0 x1 x2 x3 x4 x5 (ix2 i j) = hdot x0 x1 x2 i ⟨4864 + j.val, by omega⟩ := by
  unfold out0_14
  refine (congrFun (View.canon_unit_zero zero2 _ _) _).trans ?_
  rw [ga_read]
  unfold hdot k0_pay20
  refine Finset.sum_congr rfl fun k _ => ?_
  rw [pay6_read]
  refine congrArg (hrow x0 x1 i k * ·) ?_
  pointwise

/-- The second gate is a column range of the projection. -/
theorem out15_read (i : Fin 512) (j : Fin 1024) : out0_15 x0 x1 x2 x3 x4 x5 (ix2 i j) = hdot x0 x1 x2 i ⟨5888 + j.val, by omega⟩ := by
  unfold out0_15
  refine (congrFun (View.canon_unit_zero zero2 _ _) _).trans ?_
  rw [gb_read]
  unfold hdot k0_pay20
  refine Finset.sum_congr rfl fun k _ => ?_
  rw [pay6_read]
  refine congrArg (hrow x0 x1 i k * ·) ?_
  pointwise

/-- The lanes of keys, head weights and step sizes are a column range of the projection. -/
theorem pay22_read (i : Fin 512) (j : Fin 128) : k0_pay22 x0 x1 x2 x3 x4 x5 (ix2 i j) = hdot x0 x1 x2 i ⟨1664 + j.val, by omega⟩ := by
  unfold k0_pay22
  rw [sm_dot]
  unfold hdot k0_pay20
  refine Finset.sum_congr rfl fun k _ => ?_
  rw [pay6_read]
  refine congrArg (hrow x0 x1 i k * ·) ?_
  pointwise

/-- The small columns, the first 72 of them scaled. -/
def small (x0 : Vec Ideal S512x1024 .f32) (x1 : Vec Ideal S1x6x1024 .f32) (x2 : Vec Ideal S1024x6912 .bf16) (i : Fin 512) (j : Fin 128) : EReal :=
  if j.val < 72 then hdot x0 x1 x2 i ⟨1664 + j.val, by omega⟩ * Ideal.ofBits .f32 0x3EB504F3#32 else hdot x0 x1 x2 i ⟨1664 + j.val, by omega⟩

/-- The scaled lanes. -/
theorem pay18_read (i : Fin 512) (j : Fin 128) :
    (k0_pay18 (k0_pay22 x0 x1 x2 x3 x4 x5) (k0_pay21 x0 x1 x2 x3 x4 x5) : FVec Ideal S512x128 .f32) (ix2 i j) = small x0 x1 x2 i j := by
  unfold k0_pay21
  rw [sm_read, pay22_read]
  rfl

/-- The small block. -/
theorem out10_read (i : Fin 512) (j : Fin 128) : out0_10 x0 x1 x2 x3 x4 x5 (ix2 i j) = small x0 x1 x2 i j := by
  unfold out0_10
  refine (congrFun (View.canon_unit_zero zero2 _ _) _).trans ?_
  rw [pay18_read]

/-- The transposed small block. -/
theorem out11_read (i : Fin 512) (j : Fin 128) : out0_11 x0 x1 x2 x3 x4 x5 (ix3 0 j i) = small x0 x1 x2 i j := by
  unfold out0_11
  refine (congrFun (View.canon_unit_zero zero3 _ _) _).trans ?_
  rw [← pay18_read x0 x1 x2 x3 x4 x5]
  exact smt_read _ i j

/-- The index key of a row, in the low 64 lanes. -/
def keyLo (x0 : Vec Ideal S512x1024 .f32) (x1 : Vec Ideal S1x6x1024 .f32) (x2 : Vec Ideal S1024x6912 .bf16) (x4 x5 : Vec Ideal S1x128 .f32) (i : Fin 512) (j : Fin 128) : EReal :=
  if h : j.val < 64 then key (fun l => hdot x0 x1 x2 i ⟨1664 + l.val, by omega⟩) (fun l => x4 (ix2 0 ⟨l.val, by omega⟩)) (fun l => x5 (ix2 0 ⟨l.val, by omega⟩)) ⟨j.val, h⟩
  else 0

/-- The normalised keys. -/
theorem pay15_read (i : Fin 512) (j : Fin 128) :
    (k0_pay15 (k0_pay23 x0 x1 x2 x3 x4 x5) (k0_pay24 x0 x1 x2 x3 x4 x5) (k0_pay25 x0 x1 x2 x3 x4 x5) (View.ld x4 r0_5) (View.ld x5 r0_5) : FVec Ideal S512x128 .f32) (ix2 i j)
      = keyLo x0 x1 x2 x4 x5 i j := by
  unfold k0_pay23 k0_pay24 k0_pay25
  rw [key_lo]
  unfold keyLo
  by_cases h : j.val < 64
  · rw [dif_pos h, dif_pos h]
    refine congr (congr (congr (congrArg key (funext fun l => ?_)) (funext fun l => ?_)) (funext fun l => ?_)) rfl
    · exact pay22_read x0 x1 x2 x3 x4 x5 i _
    · pointwise
    · pointwise
  · rw [dif_neg h, dif_neg h]

/-- The keys in the low half of the lanes. -/
theorem out9_lo (i : Fin 512) (j : Fin 128) : out0_9 x0 x1 x2 x3 x4 x5 (ix3 0 i j) = keyLo x0 x1 x2 x4 x5 i j := by
  rw [← pay15_read x0 x1 x2 x3 x4 x5]
  unfold out0_9
  rw [View.canon_cons_of_not_mem]
  · refine Eq.trans ?_ (ik_read _ _ _ _ _ i j)
    refine Eq.trans (congrArg _ (funext fun a => Fin.ext ?_)) (View.canon_cons_emb r0_10 _ [] (ix3 0 i j))
    match a with
    | ⟨0, _⟩ => rfl
    | ⟨1, _⟩ => show i.val = 0 + 1 * i.val; omega
    | ⟨2, _⟩ => show j.val = 0 + 1 * j.val; omega
  · intro h
    have h1 : ix3 0 i j ∈ r0_11.set := h
    have h0 := (Rect.mem_set_unit.mp h1) 0
    simp [ix3] at h0

/-- The keys in the high half of the lanes. -/
theorem out9_hi (i : Fin 512) (j : Fin 128) : out0_9 x0 x1 x2 x3 x4 x5 (ix3 1 i j) = keyLo x0 x1 x2 x4 x5 i ⟨(j.val + 128 - 64) % 128, by omega⟩ := by
  rw [← pay15_read x0 x1 x2 x3 x4 x5]
  unfold out0_9
  refine Eq.trans ?_ (ik_rolled _ _ _ _ _ i j)
  refine Eq.trans (congrArg _ (funext fun a => Fin.ext ?_)) (View.canon_cons_emb r0_11 _ _ (ix3 0 i j))
  match a with
  | ⟨0, _⟩ => rfl
  | ⟨1, _⟩ => show i.val = 0 + 1 * i.val; omega
  | ⟨2, _⟩ => show j.val = 0 + 1 * j.val; omega

end Cert.InprojIdeal.Inp
end
-- ==== Proof.InV.lean ====
/- The arrays the input projection's call reads, made by the host before it: the weights with their columns in the kernel's order,
   and the three rows of weights as rows of 128. -/
module

public import proofs.«01_k».proof.Proof.InPay
public import Idealize.ShloMosaic.Lib.Claim
public import Idealize.ShloMosaic.Lib.StableHlo.RunRead
public import Idealize.ShloMosaic.Lib.Pipeline.Value

@[expose] public section

set_option maxRecDepth 16384

noncomputable section

namespace Cert.InprojIdeal.Inp

open Cert.InprojIdeal Cert.InprojIdeal.Gen Idealize.ShloMosaic Idealize.ShloMosaic.TcCoe Idealize.SL.Sem Cert.Inp

/-- The weights as the call reads them, one column. -/
def wperm (A : Vec Ideal S1024x6872 .f32) (k : Fin 1024) (j : Fin 6912) : EReal :=
  if h : j.val < 1736 then A (ix2 k ⟨j.val, by omega⟩)
  else if h : j.val < 1744 then 0
  else if h : j.val < 1760 then A (ix2 k ⟨j.val + 3064, by omega⟩)
  else if h : j.val < 1792 then 0
  else if h : j.val < 4864 then A (ix2 k ⟨j.val - 56, by omega⟩)
  else A (ix2 k ⟨j.val - 40, by omega⟩)

/-- Twelve arrays side by side. -/
def cat12 (y0 : Vec Ideal S1024x1024 .f32) (y1 : Vec Ideal S1024x128 .f32) (y2 : Vec Ideal S1024x512 .f32) (y3 : Vec Ideal S1024x64 .f32) (y4 : Vec Ideal S1024x8 .f32) (y5 : Vec Ideal S1024x8 .f32) (y6 : Vec Ideal S1024x16 .f32) (y7 : Vec Ideal S1024x32 .f32) (y8 : Vec Ideal S1024x1024 .f32) (y9 : Vec Ideal S1024x2048 .f32) (y10 : Vec Ideal S1024x1024 .f32) (y11 : Vec Ideal S1024x1024 .f32) : Vec Ideal S1024x6912 .f32 :=
  concatenate S1024x6912 1 [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩]
    concatenates_S1024x1024_S1024x128_S1024x512_S1024x64_S1024x8_S1024x8_S1024x16_S1024x32_S1024x1024_S1024x2048_S1024x1024_S1024x1024_S1024x6912_d1

section
variable (y0 : Vec Ideal S1024x1024 .f32) (y1 : Vec Ideal S1024x128 .f32) (y2 : Vec Ideal S1024x512 .f32) (y3 : Vec Ideal S1024x64 .f32) (y4 : Vec Ideal S1024x8 .f32) (y5 : Vec Ideal S1024x8 .f32) (y6 : Vec Ideal S1024x16 .f32) (y7 : Vec Ideal S1024x32 .f32) (y8 : Vec Ideal S1024x1024 .f32) (y9 : Vec Ideal S1024x2048 .f32) (y10 : Vec Ideal S1024x1024 .f32) (y11 : Vec Ideal S1024x1024 .f32)

/-- Piece 0 of the twelve laid side by side. -/
theorem cat12_0 (k : Fin 1024) (l : Fin 1024) : cat12 y0 y1 y2 y3 y4 y5 y6 y7 y8 y9 y10 y11 (ix2 k ⟨0 + l.val, by omega⟩) = y0 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨0 + l.val, by omega⟩) 0 (by show 0 < 12; decide) S1024x1024 y0 rfl rfl 0 (by simp) (ix2 k l) (fun b hb => match b with
    | ⟨0, _⟩ => rfl
    | ⟨1, _⟩ => absurd rfl hb) rfl

/-- Piece 1 of the twelve laid side by side. -/
theorem cat12_1 (k : Fin 1024) (l : Fin 128) : cat12 y0 y1 y2 y3 y4 y5 y6 y7 y8 y9 y10 y11 (ix2 k ⟨1024 + l.val, by omega⟩) = y1 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1024 + l.val, by omega⟩) 1 (by show 1 < 12; decide) S1024x128 y1 rfl rfl 1024 (by simp) (ix2 k l) (fun b hb => match b with
    | ⟨0, _⟩ => rfl
    | ⟨1, _⟩ => absurd rfl hb) rfl

/-- Piece 2 of the twelve laid side by side. -/
theorem cat12_2 (k : Fin 1024) (l : Fin 512) : cat12 y0 y1 y2 y3 y4 y5 y6 y7 y8 y9 y10 y11 (ix2 k ⟨1152 + l.val, by omega⟩) = y2 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1152 + l.val, by omega⟩) 2 (by show 2 < 12; decide) S1024x512 y2 rfl rfl 1152 (by simp) (ix2 k l) (fun b hb => match b with
    | ⟨0, _⟩ => rfl
    | ⟨1, _⟩ => absurd rfl hb) rfl

/-- Piece 3 of the twelve laid side by side. -/
theorem cat12_3 (k : Fin 1024) (l : Fin 64) : cat12 y0 y1 y2 y3 y4 y5 y6 y7 y8 y9 y10 y11 (ix2 k ⟨1664 + l.val, by omega⟩) = y3 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1664 + l.val, by omega⟩) 3 (by show 3 < 12; decide) S1024x64 y3 rfl rfl 1664 (by simp) (ix2 k l) (fun b hb => match b with
    | ⟨0, _⟩ => rfl
    | ⟨1, _⟩ => absurd rfl hb) rfl

/-- Piece 4 of the twelve laid side by side. -/
theorem cat12_4 (k : Fin 1024) (l : Fin 8) : cat12 y0 y1 y2 y3 y4 y5 y6 y7 y8 y9 y10 y11 (ix2 k ⟨1728 + l.val, by omega⟩) = y4 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1728 + l.val, by omega⟩) 4 (by show 4 < 12; decide) S1024x8 y4 rfl rfl 1728 (by simp) (ix2 k l) (fun b hb => match b with
    | ⟨0, _⟩ => rfl
    | ⟨1, _⟩ => absurd rfl hb) rfl

/-- Piece 5 of the twelve laid side by side. -/
theorem cat12_5 (k : Fin 1024) (l : Fin 8) : cat12 y0 y1 y2 y3 y4 y5 y6 y7 y8 y9 y10 y11 (ix2 k ⟨1736 + l.val, by omega⟩) = y5 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1736 + l.val, by omega⟩) 5 (by show 5 < 12; decide) S1024x8 y5 rfl rfl 1736 (by simp) (ix2 k l) (fun b hb => match b with
    | ⟨0, _⟩ => rfl
    | ⟨1, _⟩ => absurd rfl hb) rfl

/-- Piece 6 of the twelve laid side by side. -/
theorem cat12_6 (k : Fin 1024) (l : Fin 16) : cat12 y0 y1 y2 y3 y4 y5 y6 y7 y8 y9 y10 y11 (ix2 k ⟨1744 + l.val, by omega⟩) = y6 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1744 + l.val, by omega⟩) 6 (by show 6 < 12; decide) S1024x16 y6 rfl rfl 1744 (by simp) (ix2 k l) (fun b hb => match b with
    | ⟨0, _⟩ => rfl
    | ⟨1, _⟩ => absurd rfl hb) rfl

/-- Piece 7 of the twelve laid side by side. -/
theorem cat12_7 (k : Fin 1024) (l : Fin 32) : cat12 y0 y1 y2 y3 y4 y5 y6 y7 y8 y9 y10 y11 (ix2 k ⟨1760 + l.val, by omega⟩) = y7 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1760 + l.val, by omega⟩) 7 (by show 7 < 12; decide) S1024x32 y7 rfl rfl 1760 (by simp) (ix2 k l) (fun b hb => match b with
    | ⟨0, _⟩ => rfl
    | ⟨1, _⟩ => absurd rfl hb) rfl

/-- Piece 8 of the twelve laid side by side. -/
theorem cat12_8 (k : Fin 1024) (l : Fin 1024) : cat12 y0 y1 y2 y3 y4 y5 y6 y7 y8 y9 y10 y11 (ix2 k ⟨1792 + l.val, by omega⟩) = y8 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨1792 + l.val, by omega⟩) 8 (by show 8 < 12; decide) S1024x1024 y8 rfl rfl 1792 (by simp) (ix2 k l) (fun b hb => match b with
    | ⟨0, _⟩ => rfl
    | ⟨1, _⟩ => absurd rfl hb) rfl

/-- Piece 9 of the twelve laid side by side. -/
theorem cat12_9 (k : Fin 1024) (l : Fin 2048) : cat12 y0 y1 y2 y3 y4 y5 y6 y7 y8 y9 y10 y11 (ix2 k ⟨2816 + l.val, by omega⟩) = y9 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨2816 + l.val, by omega⟩) 9 (by show 9 < 12; decide) S1024x2048 y9 rfl rfl 2816 (by simp) (ix2 k l) (fun b hb => match b with
    | ⟨0, _⟩ => rfl
    | ⟨1, _⟩ => absurd rfl hb) rfl

/-- Piece 10 of the twelve laid side by side. -/
theorem cat12_10 (k : Fin 1024) (l : Fin 1024) : cat12 y0 y1 y2 y3 y4 y5 y6 y7 y8 y9 y10 y11 (ix2 k ⟨4864 + l.val, by omega⟩) = y10 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨4864 + l.val, by omega⟩) 10 (by show 10 < 12; decide) S1024x1024 y10 rfl rfl 4864 (by simp) (ix2 k l) (fun b hb => match b with
    | ⟨0, _⟩ => rfl
    | ⟨1, _⟩ => absurd rfl hb) rfl

/-- Piece 11 of the twelve laid side by side. -/
theorem cat12_11 (k : Fin 1024) (l : Fin 1024) : cat12 y0 y1 y2 y3 y4 y5 y6 y7 y8 y9 y10 y11 (ix2 k ⟨5888 + l.val, by omega⟩) = y11 (ix2 k l) := by
  unfold cat12
  exact concatenate_apply_piece (1 : Fin S1024x6912.rank) [⟨S1024x1024, y0⟩, ⟨S1024x128, y1⟩, ⟨S1024x512, y2⟩, ⟨S1024x64, y3⟩, ⟨S1024x8, y4⟩, ⟨S1024x8, y5⟩, ⟨S1024x16, y6⟩, ⟨S1024x32, y7⟩, ⟨S1024x1024, y8⟩, ⟨S1024x2048, y9⟩, ⟨S1024x1024, y10⟩, ⟨S1024x1024, y11⟩] _ (ix2 k ⟨5888 + l.val, by omega⟩) 11 (by show 11 < 12; decide) S1024x1024 y11 rfl rfl 5888 (by simp) (ix2 k l) (fun b hb => match b with
    | ⟨0, _⟩ => rfl
    | ⟨1, _⟩ => absurd rfl hb) rfl

end

/-- The weights' columns in the kernel's order, as the host lays them out. -/
def wcat (A : Vec Ideal S1024x6872 .f32) : Vec Ideal S1024x6912 .f32 :=
  cat12 (extractStridedSlice S1024x1024 ![0, 0] A slices_S1024x6872_S1024x1024_0_0)
    (extractStridedSlice S1024x128 ![0, 1024] A slices_S1024x6872_S1024x128_0_1024)
    (extractStridedSlice S1024x512 ![0, 1152] A slices_S1024x6872_S1024x512_0_1152)
    (extractStridedSlice S1024x64 ![0, 1664] A slices_S1024x6872_S1024x64_0_1664)
    (extractStridedSlice S1024x8 ![0, 1728] A slices_S1024x6872_S1024x8_0_1728)
    (broadcastInDim S1024x8 ![] bcast_S_S1024x8 (constant S_ .f32 0#32 : FVec Ideal S_ .f32))
    (extractStridedSlice S1024x16 ![0, 4808] A slices_S1024x6872_S1024x16_0_4808)
    (broadcastInDim S1024x32 ![] bcast_S_S1024x32 (constant S_ .f32 0#32 : FVec Ideal S_ .f32))
    (extractStridedSlice S1024x1024 ![0, 1736] A slices_S1024x6872_S1024x1024_0_1736)
    (extractStridedSlice S1024x2048 ![0, 2760] A slices_S1024x6872_S1024x2048_0_2760)
    (extractStridedSlice S1024x1024 ![0, 4824] A slices_S1024x6872_S1024x1024_0_4824)
    (extractStridedSlice S1024x1024 ![0, 5848] A slices_S1024x6872_S1024x1024_0_5848)

/-- Piece 0 of the permuted weights, read from the original ones. -/
theorem wcat_0 (A : Vec Ideal S1024x6872 .f32) (k : Fin 1024) (l : Fin 1024) : wcat A (ix2 k ⟨0 + l.val, by omega⟩) = A (ix2 k ⟨0 + l.val, by omega⟩) :=
  (cat12_0 _ _ _ _ _ _ _ _ _ _ _ _ k l).trans (extractStridedSlice_apply _ A _ (ix2 k l) (ix2 k ⟨0 + l.val, by omega⟩) fun a => match a with
    | ⟨0, _⟩ => (Nat.zero_add _).symm
    | ⟨1, _⟩ => rfl)

/-- Piece 1 of the permuted weights, read from the original ones. -/
theorem wcat_1 (A : Vec Ideal S1024x6872 .f32) (k : Fin 1024) (l : Fin 128) : wcat A (ix2 k ⟨1024 + l.val, by omega⟩) = A (ix2 k ⟨1024 + l.val, by omega⟩) :=
  (cat12_1 _ _ _ _ _ _ _ _ _ _ _ _ k l).trans (extractStridedSlice_apply _ A _ (ix2 k l) (ix2 k ⟨1024 + l.val, by omega⟩) fun a => match a with
    | ⟨0, _⟩ => (Nat.zero_add _).symm
    | ⟨1, _⟩ => rfl)

/-- Piece 2 of the permuted weights, read from the original ones. -/
theorem wcat_2 (A : Vec Ideal S1024x6872 .f32) (k : Fin 1024) (l : Fin 512) : wcat A (ix2 k ⟨1152 + l.val, by omega⟩) = A (ix2 k ⟨1152 + l.val, by omega⟩) :=
  (cat12_2 _ _ _ _ _ _ _ _ _ _ _ _ k l).trans (extractStridedSlice_apply _ A _ (ix2 k l) (ix2 k ⟨1152 + l.val, by omega⟩) fun a => match a with
    | ⟨0, _⟩ => (Nat.zero_add _).symm
    | ⟨1, _⟩ => rfl)

/-- Piece 3 of the permuted weights, read from the original ones. -/
theorem wcat_3 (A : Vec Ideal S1024x6872 .f32) (k : Fin 1024) (l : Fin 64) : wcat A (ix2 k ⟨1664 + l.val, by omega⟩) = A (ix2 k ⟨1664 + l.val, by omega⟩) :=
  (cat12_3 _ _ _ _ _ _ _ _ _ _ _ _ k l).trans (extractStridedSlice_apply _ A _ (ix2 k l) (ix2 k ⟨1664 + l.val, by omega⟩) fun a => match a with
    | ⟨0, _⟩ => (Nat.zero_add _).symm
    | ⟨1, _⟩ => rfl)

/-- Piece 4 of the permuted weights, read from the original ones. -/
theorem wcat_4 (A : Vec Ideal S1024x6872 .f32) (k : Fin 1024) (l : Fin 8) : wcat A (ix2 k ⟨1728 + l.val, by omega⟩) = A (ix2 k ⟨1728 + l.val, by omega⟩) :=
  (cat12_4 _ _ _ _ _ _ _ _ _ _ _ _ k l).trans (extractStridedSlice_apply _ A _ (ix2 k l) (ix2 k ⟨1728 + l.val, by omega⟩) fun a => match a with
    | ⟨0, _⟩ => (Nat.zero_add _).symm
    | ⟨1, _⟩ => rfl)

/-- Piece 5 of the permuted weights, read from the original ones. -/
theorem wcat_5 (A : Vec Ideal S1024x6872 .f32) (k : Fin 1024) (l : Fin 8) : wcat A (ix2 k ⟨1736 + l.val, by omega⟩) = 0 :=
  (cat12_5 _ _ _ _ _ _ _ _ _ _ _ _ k l).trans zero_bits

/-- Piece 6 of the permuted weights, read from the original ones. -/
theorem wcat_6 (A : Vec Ideal S1024x6872 .f32) (k : Fin 1024) (l : Fin 16) : wcat A (ix2 k ⟨1744 + l.val, by omega⟩) = A (ix2 k ⟨4808 + l.val, by omega⟩) :=
  (cat12_6 _ _ _ _ _ _ _ _ _ _ _ _ k l).trans (extractStridedSlice_apply _ A _ (ix2 k l) (ix2 k ⟨4808 + l.val, by omega⟩) fun a => match a with
    | ⟨0, _⟩ => (Nat.zero_add _).symm
    | ⟨1, _⟩ => rfl)

/-- Piece 7 of the permuted weights, read from the original ones. -/
theorem wcat_7 (A : Vec Ideal S1024x6872 .f32) (k : Fin 1024) (l : Fin 32) : wcat A (ix2 k ⟨1760 + l.val, by omega⟩) = 0 :=
  (cat12_7 _ _ _ _ _ _ _ _ _ _ _ _ k l).trans zero_bits

/-- Piece 8 of the permuted weights, read from the original ones. -/
theorem wcat_8 (A : Vec Ideal S1024x6872 .f32) (k : Fin 1024) (l : Fin 1024) : wcat A (ix2 k ⟨1792 + l.val, by omega⟩) = A (ix2 k ⟨1736 + l.val, by omega⟩) :=
  (cat12_8 _ _ _ _ _ _ _ _ _ _ _ _ k l).trans (extractStridedSlice_apply _ A _ (ix2 k l) (ix2 k ⟨1736 + l.val, by omega⟩) fun a => match a with
    | ⟨0, _⟩ => (Nat.zero_add _).symm
    | ⟨1, _⟩ => rfl)

/-- Piece 9 of the permuted weights, read from the original ones. -/
theorem wcat_9 (A : Vec Ideal S1024x6872 .f32) (k : Fin 1024) (l : Fin 2048) : wcat A (ix2 k ⟨2816 + l.val, by omega⟩) = A (ix2 k ⟨2760 + l.val, by omega⟩) :=
  (cat12_9 _ _ _ _ _ _ _ _ _ _ _ _ k l).trans (extractStridedSlice_apply _ A _ (ix2 k l) (ix2 k ⟨2760 + l.val, by omega⟩) fun a => match a with
    | ⟨0, _⟩ => (Nat.zero_add _).symm
    | ⟨1, _⟩ => rfl)

/-- Piece 10 of the permuted weights, read from the original ones. -/
theorem wcat_10 (A : Vec Ideal S1024x6872 .f32) (k : Fin 1024) (l : Fin 1024) : wcat A (ix2 k ⟨4864 + l.val, by omega⟩) = A (ix2 k ⟨4824 + l.val, by omega⟩) :=
  (cat12_10 _ _ _ _ _ _ _ _ _ _ _ _ k l).trans (extractStridedSlice_apply _ A _ (ix2 k l) (ix2 k ⟨4824 + l.val, by omega⟩) fun a => match a with
    | ⟨0, _⟩ => (Nat.zero_add _).symm
    | ⟨1, _⟩ => rfl)

/-- Piece 11 of the permuted weights, read from the original ones. -/
theorem wcat_11 (A : Vec Ideal S1024x6872 .f32) (k : Fin 1024) (l : Fin 1024) : wcat A (ix2 k ⟨5888 + l.val, by omega⟩) = A (ix2 k ⟨5848 + l.val, by omega⟩) :=
  (cat12_11 _ _ _ _ _ _ _ _ _ _ _ _ k l).trans (extractStridedSlice_apply _ A _ (ix2 k l) (ix2 k ⟨5848 + l.val, by omega⟩) fun a => match a with
    | ⟨0, _⟩ => (Nat.zero_add _).symm
    | ⟨1, _⟩ => rfl)

/-- The permuted weights, column by column. -/
theorem wcat_read (A : Vec Ideal S1024x6872 .f32) (k : Fin 1024) (j : Fin 6912) : wcat A (ix2 k j) = wperm A k j := by
  obtain ⟨j, hj⟩ := j
  by_cases h0 : j < 1024
  · obtain ⟨l, rfl⟩ : ∃ l : Fin 1024, j = 0 + l.val := ⟨⟨j - 0, by omega⟩, (Nat.add_sub_cancel' (by omega)).symm⟩
    rw [wcat_0]
    unfold wperm
    rw [dif_pos (by show 0 + l.val < 1736; omega)]
  by_cases h1 : j < 1152
  · obtain ⟨l, rfl⟩ : ∃ l : Fin 128, j = 1024 + l.val := ⟨⟨j - 1024, by omega⟩, (Nat.add_sub_cancel' (by omega)).symm⟩
    rw [wcat_1]
    unfold wperm
    rw [dif_pos (by show 1024 + l.val < 1736; omega)]
  by_cases h2 : j < 1664
  · obtain ⟨l, rfl⟩ : ∃ l : Fin 512, j = 1152 + l.val := ⟨⟨j - 1152, by omega⟩, (Nat.add_sub_cancel' (by omega)).symm⟩
    rw [wcat_2]
    unfold wperm
    rw [dif_pos (by show 1152 + l.val < 1736; omega)]
  by_cases h3 : j < 1728
  · obtain ⟨l, rfl⟩ : ∃ l : Fin 64, j = 1664 + l.val := ⟨⟨j - 1664, by omega⟩, (Nat.add_sub_cancel' (by omega)).symm⟩
    rw [wcat_3]
    unfold wperm
    rw [dif_pos (by show 1664 + l.val < 1736; omega)]
  by_cases h4 : j < 1736
  · obtain ⟨l, rfl⟩ : ∃ l : Fin 8, j = 1728 + l.val := ⟨⟨j - 1728, by omega⟩, (Nat.add_sub_cancel' (by omega)).symm⟩
    rw [wcat_4]
    unfold wperm
    rw [dif_pos (by show 1728 + l.val < 1736; omega)]
  by_cases h5 : j < 1744
  · obtain ⟨l, rfl⟩ : ∃ l : Fin 8, j = 1736 + l.val := ⟨⟨j - 1736, by omega⟩, (Nat.add_sub_cancel' (by omega)).symm⟩
    rw [wcat_5]
    unfold wperm
    rw [dif_neg (by show ¬(1736 + l.val < 1736); omega), dif_pos (by show 1736 + l.val < 1744; omega)]
  by_cases h6 : j < 1760
  · obtain ⟨l, rfl⟩ : ∃ l : Fin 16, j = 1744 + l.val := ⟨⟨j - 1744, by omega⟩, (Nat.add_sub_cancel' (by omega)).symm⟩
    rw [wcat_6]
    unfold wperm
    rw [dif_neg (by show ¬(1744 + l.val < 1736); omega), dif_neg (by show ¬(1744 + l.val < 1744); omega), dif_pos (by show 1744 + l.val < 1760; omega)]
    exact congrArg A (congrArg (ix2 k) (Fin.ext (by show 4808 + l.val = 1744 + l.val + 3064; omega)))
  by_cases h7 : j < 1792
  · obtain ⟨l, rfl⟩ : ∃ l : Fin 32, j = 1760 + l.val := ⟨⟨j - 1760, by omega⟩, (Nat.add_sub_cancel' (by omega)).symm⟩
    rw [wcat_7]
    unfold wperm
    rw [dif_neg (by show ¬(1760 + l.val < 1736); omega), dif_neg (by show ¬(1760 + l.val < 1744); omega), dif_neg (by show ¬(1760 + l.val < 1760); omega), dif_pos (by show 1760 + l.val < 1792; omega)]
  by_cases h8 : j < 2816
  · obtain ⟨l, rfl⟩ : ∃ l : Fin 1024, j = 1792 + l.val := ⟨⟨j - 1792, by omega⟩, (Nat.add_sub_cancel' (by omega)).symm⟩
    rw [wcat_8]
    unfold wperm
    rw [dif_neg (by show ¬(1792 + l.val < 1736); omega), dif_neg (by show ¬(1792 + l.val < 1744); omega), dif_neg (by show ¬(1792 + l.val < 1760); omega), dif_neg (by show ¬(1792 + l.val < 1792); omega), dif_pos (by show 1792 + l.val < 4864; omega)]
    exact congrArg A (congrArg (ix2 k) (Fin.ext (by show 1736 + l.val = 1792 + l.val - 56; omega)))
  by_cases h9 : j < 4864
  · obtain ⟨l, rfl⟩ : ∃ l : Fin 2048, j = 2816 + l.val := ⟨⟨j - 2816, by omega⟩, (Nat.add_sub_cancel' (by omega)).symm⟩
    rw [wcat_9]
    unfold wperm
    rw [dif_neg (by show ¬(2816 + l.val < 1736); omega), dif_neg (by show ¬(2816 + l.val < 1744); omega), dif_neg (by show ¬(2816 + l.val < 1760); omega), dif_neg (by show ¬(2816 + l.val < 1792); omega), dif_pos (by show 2816 + l.val < 4864; omega)]
    exact congrArg A (congrArg (ix2 k) (Fin.ext (by show 2760 + l.val = 2816 + l.val - 56; omega)))
  by_cases h10 : j < 5888
  · obtain ⟨l, rfl⟩ : ∃ l : Fin 1024, j = 4864 + l.val := ⟨⟨j - 4864, by omega⟩, (Nat.add_sub_cancel' (by omega)).symm⟩
    rw [wcat_10]
    unfold wperm
    rw [dif_neg (by show ¬(4864 + l.val < 1736); omega), dif_neg (by show ¬(4864 + l.val < 1744); omega), dif_neg (by show ¬(4864 + l.val < 1760); omega), dif_neg (by show ¬(4864 + l.val < 1792); omega), dif_neg (by show ¬(4864 + l.val < 4864); omega)]
    exact congrArg A (congrArg (ix2 k) (Fin.ext (by show 4824 + l.val = 4864 + l.val - 40; omega)))
  obtain ⟨l, rfl⟩ : ∃ l : Fin 1024, j = 5888 + l.val := ⟨⟨j - 5888, by omega⟩, (Nat.add_sub_cancel' (by omega)).symm⟩
  rw [wcat_11]
  unfold wperm
  rw [dif_neg (by show ¬(5888 + l.val < 1736); omega), dif_neg (by show ¬(5888 + l.val < 1744); omega), dif_neg (by show ¬(5888 + l.val < 1760); omega), dif_neg (by show ¬(5888 + l.val < 1792); omega), dif_neg (by show ¬(5888 + l.val < 4864); omega)]
  exact congrArg A (congrArg (ix2 k) (Fin.ext (by show 5848 + l.val = 5888 + l.val - 40; omega)))

variable (m : (ℓ : Loc nD τ sig) → Buf (Elt Ideal) ℓ) (c : Dev nD)

/-- The latent norm weights as the call gets them. -/
theorem v14 (j : Fin 128) : (V m c main_v14 : Vec Ideal S1x128 .f32) (ix2 0 j) = m ((c : Thread nD τ).loc main_arg3) (ix1 j) := by
  after_reads_simp
  show (shapeCast S1x128 (m (c, Proc.tc.devRef main_arg3) : Vec Ideal S128 .f32) shapeCasts_S128_S1x128) (ix2 0 j) = _
  pointwise

/-- The key norm weights as the call gets them. -/
theorem v16 (j : Fin 128) (h : j.val < 64) : (V m c main_v16 : Vec Ideal S1x128 .f32) (ix2 0 j) = m ((c : Thread nD τ).loc main_arg4) (ix1 ⟨j.val, h⟩) := by
  after_reads_simp
  show (pad S1x128 ![0, 0] ![0, 64] ![0, 0] (shapeCast S1x64 (m (c, Proc.tc.devRef main_arg4) : Vec Ideal S64 .f32) shapeCasts_S64_S1x64)
    (constant S_ .f32 0#32 : FVec Ideal S_ .f32) pads_S1x64_S1x128_000_0640 h_S_ : Vec Ideal S1x128 .f32) (ix2 0 j) = _
  pointwise
  rw [dif_pos h]

/-- The key norm offsets as the call gets them. -/
theorem v18 (j : Fin 128) (h : j.val < 64) : (V m c main_v18 : Vec Ideal S1x128 .f32) (ix2 0 j) = m ((c : Thread nD τ).loc main_arg5) (ix1 ⟨j.val, h⟩) := by
  after_reads_simp
  show (pad S1x128 ![0, 0] ![0, 64] ![0, 0] (shapeCast S1x64 (m (c, Proc.tc.devRef main_arg5) : Vec Ideal S64 .f32) shapeCasts_S64_S1x64)
    (constant S_ .f32 0#32 : FVec Ideal S_ .f32) pads_S1x64_S1x128_000_0640 h_S_ : Vec Ideal S1x128 .f32) (ix2 0 j) = _
  pointwise
  rw [dif_pos h]

/-- The permuted weights as the call gets them. -/
theorem v13 (k : Fin 1024) (j : Fin 6912) :
    (V m c main_v13 : Vec Ideal S1024x6912 .bf16) (ix2 k j) = wperm (m ((c : Thread nD τ).loc main_arg2)) k j := by
  after_reads_simp
  show (concatenate S1024x6912 1 [⟨S1024x1024, (StableHlo.upto [hostOps0, hostOps0_1, hostOps0_2, hostOps0_3].flatten (fun b => m (c, b)) 14 (Proc.tc.devRef main_v0) : Vec Ideal S1024x1024 .f32)⟩,
      ⟨S1024x128, (StableHlo.upto [hostOps0, hostOps0_1, hostOps0_2, hostOps0_3].flatten (fun b => m (c, b)) 14 (Proc.tc.devRef main_v1) : Vec Ideal S1024x128 .f32)⟩,
      ⟨S1024x512, (StableHlo.upto [hostOps0, hostOps0_1, hostOps0_2, hostOps0_3].flatten (fun b => m (c, b)) 14 (Proc.tc.devRef main_v2) : Vec Ideal S1024x512 .f32)⟩,
      ⟨S1024x64, (StableHlo.upto [hostOps0, hostOps0_1, hostOps0_2, hostOps0_3].flatten (fun b => m (c, b)) 14 (Proc.tc.devRef main_v3) : Vec Ideal S1024x64 .f32)⟩,
      ⟨S1024x8, (StableHlo.upto [hostOps0, hostOps0_1, hostOps0_2, hostOps0_3].flatten (fun b => m (c, b)) 14 (Proc.tc.devRef main_v4) : Vec Ideal S1024x8 .f32)⟩,
      ⟨S1024x8, (StableHlo.upto [hostOps0, hostOps0_1, hostOps0_2, hostOps0_3].flatten (fun b => m (c, b)) 14 (Proc.tc.devRef main_v10) : Vec Ideal S1024x8 .f32)⟩,
      ⟨S1024x16, (StableHlo.upto [hostOps0, hostOps0_1, hostOps0_2, hostOps0_3].flatten (fun b => m (c, b)) 14 (Proc.tc.devRef main_v7) : Vec Ideal S1024x16 .f32)⟩,
      ⟨S1024x32, (StableHlo.upto [hostOps0, hostOps0_1, hostOps0_2, hostOps0_3].flatten (fun b => m (c, b)) 14 (Proc.tc.devRef main_v11) : Vec Ideal S1024x32 .f32)⟩,
      ⟨S1024x1024, (StableHlo.upto [hostOps0, hostOps0_1, hostOps0_2, hostOps0_3].flatten (fun b => m (c, b)) 14 (Proc.tc.devRef main_v5) : Vec Ideal S1024x1024 .f32)⟩,
      ⟨S1024x2048, (StableHlo.upto [hostOps0, hostOps0_1, hostOps0_2, hostOps0_3].flatten (fun b => m (c, b)) 14 (Proc.tc.devRef main_v6) : Vec Ideal S1024x2048 .f32)⟩,
      ⟨S1024x1024, (StableHlo.upto [hostOps0, hostOps0_1, hostOps0_2, hostOps0_3].flatten (fun b => m (c, b)) 14 (Proc.tc.devRef main_v8) : Vec Ideal S1024x1024 .f32)⟩,
      ⟨S1024x1024, (StableHlo.upto [hostOps0, hostOps0_1, hostOps0_2, hostOps0_3].flatten (fun b => m (c, b)) 14 (Proc.tc.devRef main_v9) : Vec Ideal S1024x1024 .f32)⟩]
      concatenates_S1024x1024_S1024x128_S1024x512_S1024x64_S1024x8_S1024x8_S1024x16_S1024x32_S1024x1024_S1024x2048_S1024x1024_S1024x1024_S1024x6912_d1 : Vec Ideal S1024x6912 .f32) (ix2 k j) = _
  after_reads_simp
  exact wcat_read (m ((c : Thread nD τ).loc main_arg2)) k j

end Cert.InprojIdeal.Inp
end
-- ==== Proof.InBlk.lean ====
/- The blocks a grid point of the input projection reads: 512 rows, the modulation of their sequence, and the weights with their
   columns set out in the kernel's order. -/
module

public import proofs.«01_k».proof.Proof.InV
public import Idealize.ShloMosaic.Lib.Claim
public import Idealize.ShloMosaic.Lib.Pipeline.ValueKit.Point

@[expose] public section

set_option maxRecDepth 16384

noncomputable section

namespace Cert.InprojIdeal.Inp

open Cert.InprojIdeal Cert.InprojIdeal.Gen Idealize.ShloMosaic Idealize.ShloMosaic.TcCoe Idealize.SL.Sem Cert.Inp

variable (m : (ℓ : Loc nD τ sig) → Buf (Elt Ideal) ℓ) (c : Dev nD)

/-- Which block of each operand a grid point reads. -/
theorem idx_in : ∀ t : Fin cfg0.N, win0_0.index t = ![t.val, 0] ∧ win0_1.index t = ![t.val / 4, 0, 0] ∧ win0_2.index t = ![0, 0]
    ∧ win0_3.index t = ![0, 0] ∧ win0_4.index t = ![0, 0] ∧ win0_5.index t = ![0, 0] := (by decide +kernel : ∀ t : Fin grid0.N, _)

/-- There are 128 grid points. -/
theorem N_lt (t : Fin cfg0.N) : t.val < 128 := lt_of_lt_of_eq t.isLt (show cfg0.N = 128 from N_0)

/-- The token rows a grid point reads. -/
theorem blk0 (t : Fin cfg0.N) (i : Fin 512) (j : Fin 1024) :
    (iblk m c 0 t : Vec Ideal S512x1024 .f32) (ix2 i j) = m ((c : Thread nD τ).loc main_arg0) (ix2 ⟨512 * t.val + i.val, by have := N_lt t; omega⟩ j) := by
  have e := (idx_in t).1
  blk_ext [iblk, V, e]

/-- The modulation of the sequence a grid point is in. -/
theorem blk1 (t : Fin cfg0.N) (i : Fin 6) (j : Fin 1024) :
    (iblk m c 1 t : Vec Ideal S1x6x1024 .f32) (ix3 0 i j) = m ((c : Thread nD τ).loc main_arg1) (ix3 ⟨t.val / 4, by have := N_lt t; omega⟩ i j) := by
  have e := (idx_in t).2.1
  have hN := N_lt t
  blk_ext! [iblk, V, e]

/-- The latent norm weights a grid point reads. -/
theorem blk3 (t : Fin cfg0.N) (j : Fin 128) :
    (iblk m c 3 t : Vec Ideal S1x128 .f32) (ix2 0 j) = m ((c : Thread nD τ).loc main_arg3) (ix1 j) := by
  have e := (idx_in t).2.2.2.1
  refine Eq.trans ?_ (v14 m c j)
  blk_ext [iblk, e]

/-- The key norm weights a grid point reads. -/
theorem blk4 (t : Fin cfg0.N) (j : Fin 128) (h : j.val < 64) :
    (iblk m c 4 t : Vec Ideal S1x128 .f32) (ix2 0 j) = m ((c : Thread nD τ).loc main_arg4) (ix1 ⟨j.val, h⟩) := by
  have e := (idx_in t).2.2.2.2.1
  refine Eq.trans ?_ (v16 m c j h)
  blk_ext [iblk, e]

/-- The key norm offsets a grid point reads. -/
theorem blk5 (t : Fin cfg0.N) (j : Fin 128) (h : j.val < 64) :
    (iblk m c 5 t : Vec Ideal S1x128 .f32) (ix2 0 j) = m ((c : Thread nD τ).loc main_arg5) (ix1 ⟨j.val, h⟩) := by
  have e := (idx_in t).2.2.2.2.2
  refine Eq.trans ?_ (v18 m c j h)
  blk_ext [iblk, e]

/-- The permuted projection weights a grid point reads. -/
theorem blk2 (t : Fin cfg0.N) (k : Fin 1024) (j : Fin 6912) :
    (iblk m c 2 t : Vec Ideal S1024x6912 .bf16) (ix2 k j) = wperm (m ((c : Thread nD τ).loc main_arg2)) k j := by
  have e := (idx_in t).2.2.1
  refine Eq.trans ?_ (v13 m c k j)
  blk_ext [iblk, e]

end Cert.InprojIdeal.Inp
end
-- ==== Proof.InSpec.lean ====
/- The input projection, entry by entry over exact numbers: a row normalised and modulated, times the weights, and what is made of
   its columns. -/
module

public import proofs.«01_k».proof.Proof.InPay

@[expose] public section

set_option maxRecDepth 16384

noncomputable section

namespace Cert.Inp

open Idealize.ShloMosaic

variable (X : Fin 65536 → Fin 1024 → EReal) (M : Fin 32 → Fin 6 → Fin 1024 → EReal) (W : Fin 1024 → Fin 6872 → EReal)

/-- Row `r` normalised, with its sequence's scale and shift. -/
def modulated (r : Fin 65536) (k : Fin 1024) : EReal := row (X r) (M ⟨r.val / 2048, by omega⟩ 1) (M ⟨r.val / 2048, by omega⟩ 0) k

/-- Column `j` of the projection of row `r`. -/
def proj (r : Fin 65536) (j : Fin 6872) : EReal := ∑ k : Fin 1024, modulated X M r k * W k j

/-- The compressed keys and values, of unit mean square. -/
def kvOf (g : Fin 128 → EReal) (r : Fin 65536) (j : Fin 128) : EReal := rms (fun j => proj X M W r ⟨1024 + j.val, by omega⟩) g j

/-- The index key, normalised. -/
def keyOf (g b : Fin 64 → EReal) (r : Fin 65536) (j : Fin 64) : EReal := key (fun l => proj X M W r ⟨1664 + l.val, by omega⟩) g b j

/-- The index key in the low lanes, or in the high lanes, with zeros elsewhere. -/
def keysOf (g b : Fin 64 → EReal) (a : Fin 2) (r : Fin 65536) (j : Fin 128) : EReal :=
  if a = 0 then if h : j.val < 64 then keyOf X M W g b r ⟨j.val, h⟩ else 0
  else if h : 64 ≤ j.val then keyOf X M W g b r ⟨j.val - 64, by omega⟩ else 0

/-- The small columns: the index key and the heads' weights, scaled; the scan's steps; and zeros. -/
def smallOf (r : Fin 65536) (j : Fin 128) : EReal :=
  if j.val < 72 then proj X M W r ⟨1664 + j.val, by omega⟩ * Ideal.ofBits .f32 0x3EB504F3#32
  else if j.val < 80 then 0
  else if j.val < 96 then proj X M W r ⟨4728 + j.val, by omega⟩
  else 0

/-- Columns set out in the kernel's order, zeros between them. -/
def lad (f : Fin 6872 → EReal) (j : Fin 6912) : EReal :=
  if h : j.val < 1736 then f ⟨j.val, by omega⟩
  else if h : j.val < 1744 then 0
  else if h : j.val < 1760 then f ⟨j.val + 3064, by omega⟩
  else if h : j.val < 1792 then 0
  else if h : j.val < 4864 then f ⟨j.val - 56, by omega⟩
  else f ⟨j.val - 40, by omega⟩

/-- A row times columns so set out. -/
theorem sum_lad (u : Fin 1024 → EReal) (A : Fin 1024 → Fin 6872 → EReal) (j : Fin 6912) :
    ∑ k, u k * lad (A k) j = lad (fun j => ∑ k, u k * A k j) j := by
  unfold lad
  split_ifs
  · rfl
  · exact (Finset.sum_congr rfl fun k _ => mul_zero (u k)).trans Finset.sum_const_zero
  · rfl
  · exact (Finset.sum_congr rfl fun k _ => mul_zero (u k)).trans Finset.sum_const_zero
  · rfl
  · rfl

/-- A permuted column that holds an original one. -/
theorem lad_at (f : Fin 6872 → EReal) (j : Fin 6912) (i : Fin 6872) (h : j.val < 1736 ∧ i.val = j.val ∨ 1744 ≤ j.val ∧ j.val < 1760 ∧ i.val = j.val + 3064
    ∨ 1792 ≤ j.val ∧ j.val < 4864 ∧ i.val = j.val - 56 ∨ 4864 ≤ j.val ∧ i.val = j.val - 40) : lad f j = f i := by
  unfold lad
  split_ifs <;> first | exact congrArg f (Fin.ext (by show _ = _; dsimp only; omega)) | (exfalso; omega)

/-- A permuted column that holds none. -/
theorem lad_zero (f : Fin 6872 → EReal) (j : Fin 6912) (h : 1736 ≤ j.val ∧ j.val < 1744 ∨ 1760 ≤ j.val ∧ j.val < 1792) : lad f j = 0 := by
  unfold lad
  split_ifs <;> first | rfl | (exfalso; omega)

end Cert.Inp
end
-- ==== Proof.InArr.lean ====
/- The ten arrays the input projection leaves, one entry at a time. -/
module

public import proofs.«01_k».proof.Proof.InOut
public import proofs.«01_k».proof.Proof.InBlk
public import proofs.«01_k».proof.Proof.InSpec
public import proofs.«01_k».proof.Proof.Gen.InprojIdeal.Value

@[expose] public section

set_option maxRecDepth 16384

noncomputable section

namespace Cert.InprojIdeal.Inp

open Cert.InprojIdeal Cert.InprojIdeal.Gen Idealize.ShloMosaic Idealize.ShloMosaic.TcCoe Idealize.SL.Sem Cert.Inp

variable (m : (ℓ : Loc nD τ sig) → Buf (Elt Ideal) ℓ) (c : Dev nD)

/-- The rows the call reads. -/
def aX (r : Fin 65536) (k : Fin 1024) : EReal := m ((c : Thread nD τ).loc main_arg0) (ix2 r k)

/-- The modulation the call reads. -/
def aM (b : Fin 32) (i : Fin 6) (k : Fin 1024) : EReal := m ((c : Thread nD τ).loc main_arg1) (ix3 b i k)

/-- The weights the call reads. -/
def aW (k : Fin 1024) (j : Fin 6872) : EReal := m ((c : Thread nD τ).loc main_arg2) (ix2 k j)

/-- The projection of the call's arrays. -/
def aP (r : Fin 65536) (j : Fin 6872) : EReal := proj (aX m c) (aM m c) (aW m c) r j

/-- A grid point's product is the projection of its row, with the columns set out in the kernel's order. -/
theorem hdot_blk (t : Fin cfg0.N) (i : Fin 512) (j : Fin 6912) :
    hdot (iblk m c 0 t) (iblk m c 1 t) (iblk m c 2 t) i j = lad (aP m c ⟨512 * t.val + i.val, by have := N_lt t; omega⟩) j := by
  have hN := N_lt t
  refine Eq.trans ?_ (sum_lad (modulated (aX m c) (aM m c) ⟨512 * t.val + i.val, by omega⟩) (aW m c) j)
  unfold hdot
  refine Finset.sum_congr rfl fun k _ => congrArg₂ (· * ·) ?_ ?_
  · unfold hrow modulated
    refine congr (congr (congr (congrArg row (funext fun k => ?_)) (funext fun k => ?_)) (funext fun k => ?_)) rfl
    · exact blk0 m c t i k
    · refine (blk1 m c t 1 k).trans (congrArg (fun b => aM m c b 1 k) (Fin.ext ?_))
      show t.val / 4 = (512 * t.val + i.val) / 2048
      omega
    · refine (blk1 m c t 0 k).trans (congrArg (fun b => aM m c b 0 k) (Fin.ext ?_))
      show t.val / 4 = (512 * t.val + i.val) / 2048
      omega
  · exact blk2 m c t k j

/-- Outputs of one block per row tile: the block of a grid point is its own number. -/
theorem idx_rows : ∀ t : Fin cfg0.N, win0_6.index t = ![t.val, 0] ∧ win0_7.index t = ![t.val, 0] ∧ win0_8.index t = ![t.val, 0]
    ∧ win0_10.index t = ![t.val, 0] ∧ win0_12.index t = ![t.val, 0] ∧ win0_13.index t = ![t.val, 0] ∧ win0_14.index t = ![t.val, 0]
    ∧ win0_15.index t = ![t.val, 0] := (by decide +kernel : ∀ t : Fin grid0.N, _)

/-- Where the doubled keys and the transposed small columns are written at each grid point. -/
theorem idx_two : ∀ t : Fin cfg0.N, win0_9.index t = ![0, t.val, 0] ∧ win0_11.index t = ![t.val / 4, 0, t.val % 4] :=
  (by decide +kernel : ∀ t : Fin grid0.N, _)

/-- Every output block is written back at every grid point. -/
theorem flushes : ∀ t : Fin cfg0.N, win0_6.flush t = true ∧ win0_7.flush t = true ∧ win0_8.flush t = true ∧ win0_9.flush t = true
    ∧ win0_10.flush t = true ∧ win0_11.flush t = true ∧ win0_12.flush t = true ∧ win0_13.flush t = true ∧ win0_14.flush t = true
    ∧ win0_15.flush t = true := (by decide +kernel : ∀ t : Fin grid0.N, _)

/-- The query array, at a row of a grid point, is that point's query block. -/
theorem arr6 (t : Fin cfg0.N) (i : Fin 512) (j : Fin 1024) :
    (dats m 0 c).arrAt 6 cfg0.N (ix2 ⟨512 * t.val + i.val, by have := N_lt t; omega⟩ j)
      = out0_6 (iblk m c 0 t) (iblk m c 1 t) (iblk m c 2 t) (iblk m c 3 t) (iblk m c 4 t) (iblk m c 5 t) (ix2 i j) := by
  have e := (idx_rows t).1
  have h := congrFun ((Value.blocks6 m c t (flushes t).1).trans (Value.flushed6 m c t)) (ix2 i j)
  refine Eq.trans (congrArg _ (funext fun a => Fin.ext ?_)) h
  match a with
  | ⟨0, _⟩ => show 512 * t.val + i.val = win0_6.index t 0 * 512 + 1 * i.val; rw [e]; show _ = t.val * 512 + 1 * i.val; omega
  | ⟨1, _⟩ => show j.val = win0_6.index t 1 * 1024 + 1 * j.val; rw [e]; show _ = 0 * 1024 + 1 * j.val; omega

/-- The latent array, at a row of a grid point, is that point's block. -/
theorem arr7 (t : Fin cfg0.N) (i : Fin 512) (j : Fin 128) :
    (dats m 0 c).arrAt 7 cfg0.N (ix2 ⟨512 * t.val + i.val, by have := N_lt t; omega⟩ j)
      = out0_7 (iblk m c 0 t) (iblk m c 1 t) (iblk m c 2 t) (iblk m c 3 t) (iblk m c 4 t) (iblk m c 5 t) (ix2 i j) := by
  have e := (idx_rows t).2.1
  have h := congrFun ((Value.blocks7 m c t (flushes t).2.1).trans (Value.flushed7 m c t)) (ix2 i j)
  refine Eq.trans (congrArg _ (funext fun a => Fin.ext ?_)) h
  match a with
  | ⟨0, _⟩ => show 512 * t.val + i.val = win0_7.index t 0 * 512 + 1 * i.val; rw [e]; show _ = t.val * 512 + 1 * i.val; omega
  | ⟨1, _⟩ => show j.val = win0_7.index t 1 * 128 + 1 * j.val; rw [e]; show _ = 0 * 128 + 1 * j.val; omega

/-- The index-query array, at a row of a grid point, is that point's block. -/
theorem arr8 (t : Fin cfg0.N) (i : Fin 512) (j : Fin 512) :
    (dats m 0 c).arrAt 8 cfg0.N (ix2 ⟨512 * t.val + i.val, by have := N_lt t; omega⟩ j)
      = out0_8 (iblk m c 0 t) (iblk m c 1 t) (iblk m c 2 t) (iblk m c 3 t) (iblk m c 4 t) (iblk m c 5 t) (ix2 i j) := by
  have e := (idx_rows t).2.2.1
  have h := congrFun ((Value.blocks8 m c t (flushes t).2.2.1).trans (Value.flushed8 m c t)) (ix2 i j)
  refine Eq.trans (congrArg _ (funext fun a => Fin.ext ?_)) h
  match a with
  | ⟨0, _⟩ => show 512 * t.val + i.val = win0_8.index t 0 * 512 + 1 * i.val; rw [e]; show _ = t.val * 512 + 1 * i.val; omega
  | ⟨1, _⟩ => show j.val = win0_8.index t 1 * 512 + 1 * j.val; rw [e]; show _ = 0 * 512 + 1 * j.val; omega

/-- The small array, at a row of a grid point, is that point's block. -/
theorem arr10 (t : Fin cfg0.N) (i : Fin 512) (j : Fin 128) :
    (dats m 0 c).arrAt 10 cfg0.N (ix2 ⟨512 * t.val + i.val, by have := N_lt t; omega⟩ j)
      = out0_10 (iblk m c 0 t) (iblk m c 1 t) (iblk m c 2 t) (iblk m c 3 t) (iblk m c 4 t) (iblk m c 5 t) (ix2 i j) := by
  have e := (idx_rows t).2.2.2.1
  have h := congrFun ((Value.blocks10 m c t (flushes t).2.2.2.2.1).trans (Value.flushed10 m c t)) (ix2 i j)
  refine Eq.trans (congrArg _ (funext fun a => Fin.ext ?_)) h
  match a with
  | ⟨0, _⟩ => show 512 * t.val + i.val = win0_10.index t 0 * 512 + 1 * i.val; rw [e]; show _ = t.val * 512 + 1 * i.val; omega
  | ⟨1, _⟩ => show j.val = win0_10.index t 1 * 128 + 1 * j.val; rw [e]; show _ = 0 * 128 + 1 * j.val; omega

/-- The z array, at a row of a grid point, is that point's block. -/
theorem arr12 (t : Fin cfg0.N) (i : Fin 512) (j : Fin 1024) :
    (dats m 0 c).arrAt 12 cfg0.N (ix2 ⟨512 * t.val + i.val, by have := N_lt t; omega⟩ j)
      = out0_12 (iblk m c 0 t) (iblk m c 1 t) (iblk m c 2 t) (iblk m c 3 t) (iblk m c 4 t) (iblk m c 5 t) (ix2 i j) := by
  have e := (idx_rows t).2.2.2.2.1
  have h := congrFun ((Value.blocks12 m c t (flushes t).2.2.2.2.2.2.1).trans (Value.flushed12 m c t)) (ix2 i j)
  refine Eq.trans (congrArg _ (funext fun a => Fin.ext ?_)) h
  match a with
  | ⟨0, _⟩ => show 512 * t.val + i.val = win0_12.index t 0 * 512 + 1 * i.val; rw [e]; show _ = t.val * 512 + 1 * i.val; omega
  | ⟨1, _⟩ => show j.val = win0_12.index t 1 * 1024 + 1 * j.val; rw [e]; show _ = 0 * 1024 + 1 * j.val; omega

/-- The array of x, B and C, at a row of a grid point, is that point's block. -/
theorem arr13 (t : Fin cfg0.N) (i : Fin 512) (j : Fin 2048) :
    (dats m 0 c).arrAt 13 cfg0.N (ix2 ⟨512 * t.val + i.val, by have := N_lt t; omega⟩ j)
      = out0_13 (iblk m c 0 t) (iblk m c 1 t) (iblk m c 2 t) (iblk m c 3 t) (iblk m c 4 t) (iblk m c 5 t) (ix2 i j) := by
  have e := (idx_rows t).2.2.2.2.2.1
  have h := congrFun ((Value.blocks13 m c t (flushes t).2.2.2.2.2.2.2.1).trans (Value.flushed13 m c t)) (ix2 i j)
  refine Eq.trans (congrArg _ (funext fun a => Fin.ext ?_)) h
  match a with
  | ⟨0, _⟩ => show 512 * t.val + i.val = win0_13.index t 0 * 512 + 1 * i.val; rw [e]; show _ = t.val * 512 + 1 * i.val; omega
  | ⟨1, _⟩ => show j.val = win0_13.index t 1 * 2048 + 1 * j.val; rw [e]; show _ = 0 * 2048 + 1 * j.val; omega

/-- The first gate, at a row of a grid point, is that point's block. -/
theorem arr14 (t : Fin cfg0.N) (i : Fin 512) (j : Fin 1024) :
    (dats m 0 c).arrAt 14 cfg0.N (ix2 ⟨512 * t.val + i.val, by have := N_lt t; omega⟩ j)
      = out0_14 (iblk m c 0 t) (iblk m c 1 t) (iblk m c 2 t) (iblk m c 3 t) (iblk m c 4 t) (iblk m c 5 t) (ix2 i j) := by
  have e := (idx_rows t).2.2.2.2.2.2.1
  have h := congrFun ((Value.blocks14 m c t (flushes t).2.2.2.2.2.2.2.2.1).trans (Value.flushed14 m c t)) (ix2 i j)
  refine Eq.trans (congrArg _ (funext fun a => Fin.ext ?_)) h
  match a with
  | ⟨0, _⟩ => show 512 * t.val + i.val = win0_14.index t 0 * 512 + 1 * i.val; rw [e]; show _ = t.val * 512 + 1 * i.val; omega
  | ⟨1, _⟩ => show j.val = win0_14.index t 1 * 1024 + 1 * j.val; rw [e]; show _ = 0 * 1024 + 1 * j.val; omega

/-- The second gate, at a row of a grid point, is that point's block. -/
theorem arr15 (t : Fin cfg0.N) (i : Fin 512) (j : Fin 1024) :
    (dats m 0 c).arrAt 15 cfg0.N (ix2 ⟨512 * t.val + i.val, by have := N_lt t; omega⟩ j)
      = out0_15 (iblk m c 0 t) (iblk m c 1 t) (iblk m c 2 t) (iblk m c 3 t) (iblk m c 4 t) (iblk m c 5 t) (ix2 i j) := by
  have e := (idx_rows t).2.2.2.2.2.2.2
  have h := congrFun ((Value.blocks15 m c t (flushes t).2.2.2.2.2.2.2.2.2).trans (Value.flushed15 m c t)) (ix2 i j)
  refine Eq.trans (congrArg _ (funext fun a => Fin.ext ?_)) h
  match a with
  | ⟨0, _⟩ => show 512 * t.val + i.val = win0_15.index t 0 * 512 + 1 * i.val; rw [e]; show _ = t.val * 512 + 1 * i.val; omega
  | ⟨1, _⟩ => show j.val = win0_15.index t 1 * 1024 + 1 * j.val; rw [e]; show _ = 0 * 1024 + 1 * j.val; omega

/-- Either half of the keys, at a row of a grid point, is that point's block. -/
theorem arr9 (t : Fin cfg0.N) (a : Fin 2) (i : Fin 512) (j : Fin 128) :
    (dats m 0 c).arrAt 9 cfg0.N (ix3 a ⟨512 * t.val + i.val, by have := N_lt t; omega⟩ j)
      = out0_9 (iblk m c 0 t) (iblk m c 1 t) (iblk m c 2 t) (iblk m c 3 t) (iblk m c 4 t) (iblk m c 5 t) (ix3 a i j) := by
  have e := (idx_two t).1
  have h := congrFun ((Value.blocks9 m c t (flushes t).2.2.2.1).trans (Value.flushed9 m c t)) (ix3 a i j)
  refine Eq.trans (congrArg _ (funext fun b => Fin.ext ?_)) h
  match b with
  | ⟨0, _⟩ => show a.val = win0_9.index t 0 * 2 + 1 * a.val; rw [e]; show _ = 0 * 2 + 1 * a.val; omega
  | ⟨1, _⟩ => show 512 * t.val + i.val = win0_9.index t 1 * 512 + 1 * i.val; rw [e]; show _ = t.val * 512 + 1 * i.val; omega
  | ⟨2, _⟩ => show j.val = win0_9.index t 2 * 128 + 1 * j.val; rw [e]; show _ = 0 * 128 + 1 * j.val; omega

/-- The transposed small array, at a row of a grid point, is that point's block. -/
theorem arr11 (t : Fin cfg0.N) (j : Fin 128) (i : Fin 512) :
    (dats m 0 c).arrAt 11 cfg0.N (ix3 ⟨t.val / 4, by have := N_lt t; omega⟩ j ⟨512 * (t.val % 4) + i.val, by omega⟩)
      = out0_11 (iblk m c 0 t) (iblk m c 1 t) (iblk m c 2 t) (iblk m c 3 t) (iblk m c 4 t) (iblk m c 5 t) (ix3 0 j i) := by
  have e := (idx_two t).2
  have h := congrFun ((Value.blocks11 m c t (flushes t).2.2.2.2.2.1).trans (Value.flushed11 m c t)) (ix3 0 j i)
  refine Eq.trans (congrArg _ (funext fun b => Fin.ext ?_)) h
  match b with
  | ⟨0, _⟩ => show t.val / 4 = win0_11.index t 0 * 1 + 1 * 0; rw [e]; show _ = t.val / 4 * 1 + 1 * 0; omega
  | ⟨1, _⟩ => show j.val = win0_11.index t 1 * 128 + 1 * j.val; rw [e]; show _ = 0 * 128 + 1 * j.val; omega
  | ⟨2, _⟩ => show 512 * (t.val % 4) + i.val = win0_11.index t 2 * 512 + 1 * i.val; rw [e]; show _ = t.val % 4 * 512 + 1 * i.val; omega

/-- A row is its tile and its place in the tile. -/
theorem row_eq (r : Fin 65536) : (⟨512 * (r.val / 512) + r.val % 512, by omega⟩ : Fin 65536) = r := Fin.ext (Nat.div_add_mod _ _)

/-- The tile of a row is a grid point. -/
theorem pt_lt (r : Fin 65536) : r.val / 512 < cfg0.N := lt_of_lt_of_eq (by omega) (show 128 = cfg0.N from N_0.symm)

/-- The queries the kernel leaves. -/
theorem fin_q (r : Fin 65536) (j : Fin 1024) : (dats m 0 c).arrAt 6 cfg0.N (ix2 r j) = aP m c r ⟨0 + j.val, by omega⟩ := by
  have h := arr6 m c ⟨r.val / 512, pt_lt r⟩ ⟨r.val % 512, Nat.mod_lt _ (by decide)⟩ j
  rw [row_eq] at h
  refine h.trans ((out6_read _ _ _ _ _ _ _ j).trans ((hdot_blk m c _ _ _).trans ?_))
  rw [row_eq]
  exact lad_at _ _ _ (by dsimp only; omega)

/-- The index queries the kernel leaves. -/
theorem fin_iq (r : Fin 65536) (j : Fin 512) : (dats m 0 c).arrAt 8 cfg0.N (ix2 r j) = aP m c r ⟨1152 + j.val, by omega⟩ := by
  have h := arr8 m c ⟨r.val / 512, pt_lt r⟩ ⟨r.val % 512, Nat.mod_lt _ (by decide)⟩ j
  rw [row_eq] at h
  refine h.trans ((out8_read _ _ _ _ _ _ _ j).trans ((hdot_blk m c _ _ _).trans ?_))
  rw [row_eq]
  exact lad_at _ _ _ (by dsimp only; omega)

/-- The scan's gate the kernel leaves. -/
theorem fin_z (r : Fin 65536) (j : Fin 1024) : (dats m 0 c).arrAt 12 cfg0.N (ix2 r j) = aP m c r ⟨1736 + j.val, by omega⟩ := by
  have h := arr12 m c ⟨r.val / 512, pt_lt r⟩ ⟨r.val % 512, Nat.mod_lt _ (by decide)⟩ j
  rw [row_eq] at h
  refine h.trans ((out12_read _ _ _ _ _ _ _ j).trans ((hdot_blk m c _ _ _).trans ?_))
  rw [row_eq]
  exact lad_at _ _ _ (by dsimp only; omega)

/-- The scan's inputs the kernel leaves. -/
theorem fin_xbc (r : Fin 65536) (j : Fin 2048) : (dats m 0 c).arrAt 13 cfg0.N (ix2 r j) = aP m c r ⟨2760 + j.val, by omega⟩ := by
  have h := arr13 m c ⟨r.val / 512, pt_lt r⟩ ⟨r.val % 512, Nat.mod_lt _ (by decide)⟩ j
  rw [row_eq] at h
  refine h.trans ((out13_read _ _ _ _ _ _ _ j).trans ((hdot_blk m c _ _ _).trans ?_))
  rw [row_eq]
  exact lad_at _ _ _ (by dsimp only; omega)

/-- The first gate the kernel leaves. -/
theorem fin_ga (r : Fin 65536) (j : Fin 1024) : (dats m 0 c).arrAt 14 cfg0.N (ix2 r j) = aP m c r ⟨4824 + j.val, by omega⟩ := by
  have h := arr14 m c ⟨r.val / 512, pt_lt r⟩ ⟨r.val % 512, Nat.mod_lt _ (by decide)⟩ j
  rw [row_eq] at h
  refine h.trans ((out14_read _ _ _ _ _ _ _ j).trans ((hdot_blk m c _ _ _).trans ?_))
  rw [row_eq]
  exact lad_at _ _ _ (by dsimp only; omega)

/-- The second gate the kernel leaves. -/
theorem fin_gb (r : Fin 65536) (j : Fin 1024) : (dats m 0 c).arrAt 15 cfg0.N (ix2 r j) = aP m c r ⟨5848 + j.val, by omega⟩ := by
  have h := arr15 m c ⟨r.val / 512, pt_lt r⟩ ⟨r.val % 512, Nat.mod_lt _ (by decide)⟩ j
  rw [row_eq] at h
  refine h.trans ((out15_read _ _ _ _ _ _ _ j).trans ((hdot_blk m c _ _ _).trans ?_))
  rw [row_eq]
  exact lad_at _ _ _ (by dsimp only; omega)

/-- The compressed keys and values the kernel leaves. -/
theorem fin_kv (r : Fin 65536) (j : Fin 128) : (dats m 0 c).arrAt 7 cfg0.N (ix2 r j)
    = kvOf (aX m c) (aM m c) (aW m c) (fun j => m ((c : Thread nD τ).loc main_arg3) (ix1 j)) r j := by
  have h := arr7 m c ⟨r.val / 512, pt_lt r⟩ ⟨r.val % 512, Nat.mod_lt _ (by decide)⟩ j
  rw [row_eq] at h
  refine h.trans ((out7_read _ _ _ _ _ _ _ j).trans ?_)
  unfold kvOf
  refine congr (congr (congrArg rms (funext fun j => ?_)) (funext fun j => ?_)) rfl
  · refine (hdot_blk m c _ _ _).trans ?_
    rw [row_eq]
    exact lad_at _ _ _ (by dsimp only; omega)
  · exact blk3 m c _ j

/-- A grid point's small columns. -/
theorem small_blk (t : Fin cfg0.N) (i : Fin 512) (j : Fin 128) : small (iblk m c 0 t) (iblk m c 1 t) (iblk m c 2 t) i j
    = smallOf (aX m c) (aM m c) (aW m c) ⟨512 * t.val + i.val, by have := N_lt t; omega⟩ j := by
  unfold small smallOf
  rw [hdot_blk]
  by_cases h : j.val < 72
  · rw [if_pos h, if_pos h]
    exact congrArg (· * _) (lad_at _ _ _ (by dsimp only; omega))
  · rw [if_neg h, if_neg h]
    by_cases h1 : j.val < 80
    · rw [if_pos h1]
      exact lad_zero _ _ (by dsimp only; omega)
    · rw [if_neg h1]
      by_cases h2 : j.val < 96
      · rw [if_pos h2]
        exact lad_at _ _ _ (by dsimp only; omega)
      · rw [if_neg h2]
        exact lad_zero _ _ (by dsimp only; omega)

/-- The small columns the kernel leaves. -/
theorem fin_small (r : Fin 65536) (j : Fin 128) : (dats m 0 c).arrAt 10 cfg0.N (ix2 r j) = smallOf (aX m c) (aM m c) (aW m c) r j := by
  have h := arr10 m c ⟨r.val / 512, pt_lt r⟩ ⟨r.val % 512, Nat.mod_lt _ (by decide)⟩ j
  rw [row_eq] at h
  refine h.trans ((out10_read _ _ _ _ _ _ _ j).trans ((small_blk m c _ _ j).trans ?_))
  rw [row_eq]

/-- The small columns the kernel leaves, transposed within each sequence. -/
theorem fin_small_t (b : Fin 32) (j : Fin 128) (s : Fin 2048) : (dats m 0 c).arrAt 11 cfg0.N (ix3 b j s)
    = smallOf (aX m c) (aM m c) (aW m c) ⟨2048 * b.val + s.val, by omega⟩ j := by
  have h := arr11 m c ⟨4 * b.val + s.val / 512, lt_of_lt_of_eq (by omega) (show 128 = cfg0.N from N_0.symm)⟩ j ⟨s.val % 512, Nat.mod_lt _ (by decide)⟩
  refine Eq.trans (congrArg _ (funext fun a => Fin.ext ?_)) (h.trans ((out11_read _ _ _ _ _ _ _ j).trans ((small_blk m c _ _ j).trans (congrArg (fun r => smallOf (aX m c) (aM m c) (aW m c) r j) (Fin.ext ?_)))))
  · match a with
    | ⟨0, _⟩ => show b.val = (4 * b.val + s.val / 512) / 4; omega
    | ⟨1, _⟩ => rfl
    | ⟨2, _⟩ => show s.val = 512 * ((4 * b.val + s.val / 512) % 4) + s.val % 512; omega
  · show 512 * (4 * b.val + s.val / 512) + s.val % 512 = 2048 * b.val + s.val
    omega

/-- A grid point's index keys in the low lanes. -/
theorem key_blk (t : Fin cfg0.N) (i : Fin 512) (j : Fin 128) : keyLo (iblk m c 0 t) (iblk m c 1 t) (iblk m c 2 t) (iblk m c 4 t) (iblk m c 5 t) i j
    = if h : j.val < 64 then keyOf (aX m c) (aM m c) (aW m c) (fun l => m ((c : Thread nD τ).loc main_arg4) (ix1 l)) (fun l => m ((c : Thread nD τ).loc main_arg5) (ix1 l))
        ⟨512 * t.val + i.val, by have := N_lt t; omega⟩ ⟨j.val, h⟩ else 0 := by
  unfold keyLo
  by_cases h : j.val < 64
  · rw [dif_pos h, dif_pos h]
    unfold keyOf
    refine congr (congr (congr (congrArg key (funext fun l => ?_)) (funext fun l => ?_)) (funext fun l => ?_)) rfl
    · refine (hdot_blk m c t i _).trans ?_
      exact lad_at _ _ _ (by dsimp only; omega)
    · exact blk4 m c t _ l.isLt
    · exact blk5 m c t _ l.isLt
  · rw [dif_neg h, dif_neg h]

/-- The index keys the kernel leaves in the low lanes. -/
theorem fin_key0 (r : Fin 65536) (j : Fin 128) : (dats m 0 c).arrAt 9 cfg0.N (ix3 0 r j) = keysOf (aX m c) (aM m c) (aW m c) (fun l => m ((c : Thread nD τ).loc main_arg4) (ix1 l)) (fun l => m ((c : Thread nD τ).loc main_arg5) (ix1 l)) 0 r j := by
  have h := arr9 m c ⟨r.val / 512, pt_lt r⟩ 0 ⟨r.val % 512, Nat.mod_lt _ (by decide)⟩ j
  rw [row_eq] at h
  refine h.trans ((out9_lo _ _ _ _ _ _ _ j).trans ((key_blk m c _ _ j).trans ?_))
  unfold keysOf
  rw [row_eq, if_pos rfl]

/-- The index keys the kernel leaves in the high lanes. -/
theorem fin_key1 (r : Fin 65536) (j : Fin 128) : (dats m 0 c).arrAt 9 cfg0.N (ix3 1 r j) = keysOf (aX m c) (aM m c) (aW m c) (fun l => m ((c : Thread nD τ).loc main_arg4) (ix1 l)) (fun l => m ((c : Thread nD τ).loc main_arg5) (ix1 l)) 1 r j := by
  have h := arr9 m c ⟨r.val / 512, pt_lt r⟩ 1 ⟨r.val % 512, Nat.mod_lt _ (by decide)⟩ j
  rw [row_eq] at h
  refine h.trans ((out9_hi _ _ _ _ _ _ _ j).trans ((key_blk m c _ _ _).trans ?_))
  unfold keysOf
  rw [row_eq, if_neg (by decide)]
  by_cases hj : 64 ≤ j.val
  · rw [dif_pos hj, dif_pos (by dsimp only; omega)]
    refine congrArg (keyOf _ _ _ _ _ r) (Fin.ext ?_)
    show (j.val + 128 - 64) % 128 = j.val - 64
    omega
  · rw [dif_neg hj, dif_neg (by dsimp only; omega)]

end Cert.InprojIdeal.Inp
end
-- ==== Proof.InRef.lean ====
/- The reference's input projection, stage by stage: its ten results, entry by entry. -/
module

public import proofs.«01_k».proof.Proof.InSpec
public import proofs.«01_k».proof.Proof.Gen.ReferenceInprojIdeal.Read
public import Idealize.ShloMosaic.Lib.Pointwise

@[expose] public section

set_option maxRecDepth 16384

noncomputable section

namespace Cert.ReferenceInprojIdeal.Read

open Cert.ReferenceInprojIdeal Cert.ReferenceInprojIdeal.Gen Idealize.ShloMosaic Idealize.ShloMosaic.StableHlo Cert.Inp

variable (x0 : (⟨S65536x1024, .f32⟩ : BufTy).Contents (Elt Ideal)) (x1 : (⟨S32x6x1024, .f32⟩ : BufTy).Contents (Elt Ideal))
  (x2 : (⟨S1024x6872, .f32⟩ : BufTy).Contents (Elt Ideal)) (x3 : (⟨S128, .f32⟩ : BufTy).Contents (Elt Ideal))
  (x4 x5 : (⟨S64, .f32⟩ : BufTy).Contents (Elt Ideal))

/-- The rows the reference reads. -/
def rX (r : Fin 65536) (k : Fin 1024) : EReal := x0 (ix2 r k)

/-- The modulation the reference reads. -/
def rM (b : Fin 32) (i : Fin 6) (k : Fin 1024) : EReal := x1 (ix3 b i k)

/-- The weights the reference reads. -/
def rW (k : Fin 1024) (j : Fin 6872) : EReal := x2 (ix2 k j)

/-- A sum that starts from zero. -/
theorem from_zero (s : EReal) : Ideal.ofBits .f32 0x00000000#32 + s = s :=
  (congrArg (· + s) (Ideal.ofBits_zero FTy.f32)).trans (zero_add s)

/-- The mean of a token row. -/
theorem mean_read (r : Fin 65536) : val_main_v3 (F := Ideal) x0 (ix2 r 0) = mean (rX x0 r) := by
  rw [val_main_v3_apply, val_main_v1_apply, val_main_v0_apply, val_main_v2_apply]
  exact congrArg (Ideal.div · _) ((from_zero _).trans (Finset.sum_congr rfl fun k _ =>
    congrArg x0 (funext fun a => match a with | ⟨0, _⟩ => rfl | ⟨1, _⟩ => rfl)))

/-- A centred entry. -/
theorem cent_read (r : Fin 65536) (k : Fin 1024) : val_main_v5 (F := Ideal) x0 (ix2 r k) = rX x0 r k - mean (rX x0 r) := by
  rw [val_main_v5_apply, val_main_v4_apply]
  exact congrArg (rX x0 r k - ·) ((congrArg (val_main_v3 (F := Ideal) x0) (show idx_main_v4 (ix2 r k) = ix2 r 0 from funext fun a => match a with | ⟨0, _⟩ => rfl | ⟨1, _⟩ => rfl)).trans (mean_read x0 r))

/-- The same centred entry, where it is scaled. -/
theorem cent_read' (r : Fin 65536) (k : Fin 1024) : val_main_v12 (F := Ideal) x0 (ix2 r k) = rX x0 r k - mean (rX x0 r) := by
  rw [val_main_v12_apply, val_main_v11_apply]
  exact congrArg (rX x0 r k - ·) ((congrArg (val_main_v3 (F := Ideal) x0) (show idx_main_v11 (ix2 r k) = ix2 r 0 from funext fun a => match a with | ⟨0, _⟩ => rfl | ⟨1, _⟩ => rfl)).trans (mean_read x0 r))

/-- The variance of a token row, with the small constant. -/
theorem var_read (r : Fin 65536) : val_main_v10 (F := Ideal) x0 (ix2 r 0)
    = mean (fun k => (rX x0 r k - mean (rX x0 r)) * (rX x0 r k - mean (rX x0 r))) := by
  rw [val_main_v10_apply, val_main_v8_apply, val_main_v7_apply, val_main_v9_apply]
  refine congrArg (Ideal.div · _) ((from_zero _).trans (Finset.sum_congr rfl fun k _ => ?_))
  rw [val_main_v6_apply]
  have h : val_main_v5 (F := Ideal) x0 (idx_main_v7 (idx_main_v8 (ix2 r 0)) k) = rX x0 r k - mean (rX x0 r) :=
    (congrArg (val_main_v5 (F := Ideal) x0) (show idx_main_v7 (idx_main_v8 (ix2 r 0)) k = ix2 r k from funext fun a => match a with | ⟨0, _⟩ => rfl | ⟨1, _⟩ => rfl)).trans (cent_read x0 r k)
  exact congrArg₂ (· * ·) h h

/-- A normalised entry. -/
theorem nrm_read (r : Fin 65536) (k : Fin 1024) : val_main_v17 (F := Ideal) x0 (ix2 r k) = nrm (rX x0 r) k := by
  rw [val_main_v17_apply, val_main_v16_apply]
  refine congrArg₂ (· * ·) (cent_read' x0 r k) ?_
  refine (congrArg (val_main_v15 (F := Ideal) x0) (show idx_main_v16 (ix2 r k) = ix2 r 0 from funext fun a => match a with | ⟨0, _⟩ => rfl | ⟨1, _⟩ => rfl)).trans ?_
  rw [val_main_v15_apply, val_main_v14_apply, val_main_v13_apply, var_read]
  rfl

/-- The modulated rows. -/
theorem mod_read (r : Fin 65536) (k : Fin 1024) : val_main_v27 (F := Ideal) x0 x1 (ix2 r k) = modulated (rX x0) (rM x1) r k := by
  rw [val_main_v27_apply]
  refine (congrArg (val_main_v26 (F := Ideal) x0 x1) (show idx_main_v27 (ix2 r k) = ix3 ⟨r.val / 2048, by omega⟩ ⟨r.val % 2048, Nat.mod_lt _ (by decide)⟩ k from
    funext fun a => Fin.ext ?_)).trans ?_
  · match a with
    | ⟨0, _⟩ => show (r.val * 1024 + k.val) / 2097152 = r.val / 2048; omega
    | ⟨1, _⟩ => show (r.val * 1024 + k.val) / 1024 % 2048 = r.val % 2048; omega
    | ⟨2, _⟩ => show (r.val * 1024 + k.val) % 1024 = k.val; omega
  · rw [val_main_v26_apply, val_main_v23_apply, val_main_v18_apply, val_main_v22_apply, val_main_v21_apply, val_main_v20_apply, val_main_v19_apply, val_main_v25_apply, val_main_v24_apply]
    unfold modulated row
    refine congrArg₂ (· + ·) (congrArg₂ (· * ·) ?_ (congrArg₂ (· + ·) Ideal.ofBits_one_f32 ?_)) ?_
    · refine (congrArg (val_main_v17 (F := Ideal) x0) (funext fun a => Fin.ext ?_)).trans (nrm_read x0 r k)
      match a with
      | ⟨0, _⟩ => show ((r.val / 2048 * 2048 + r.val % 2048) * 1024 + k.val) / 1024 = r.val; omega
      | ⟨1, _⟩ => show ((r.val / 2048 * 2048 + r.val % 2048) * 1024 + k.val) % 1024 = k.val; omega
    · refine congrArg x1 (funext fun a => Fin.ext ?_)
      match a with
      | ⟨0, _⟩ => rfl
      | ⟨1, _⟩ => rfl
      | ⟨2, _⟩ => rfl
    · refine congrArg x1 (funext fun a => Fin.ext ?_)
      match a with
      | ⟨0, _⟩ => rfl
      | ⟨1, _⟩ => rfl
      | ⟨2, _⟩ => rfl

/-- The projection. -/
theorem proj_read (r : Fin 65536) (j : Fin 6872) : val_main_v28 (F := Ideal) x0 x1 x2 (ix2 r j) = proj (rX x0) (rM x1) (rW x2) r j := by
  rw [val_main_v28_apply]
  refine Finset.sum_congr rfl fun k _ => congrArg₂ (· * ·) ?_ ?_
  · exact (congrArg (val_main_v27 (F := Ideal) x0 x1) (funext fun a => match a with | ⟨0, _⟩ => rfl | ⟨1, _⟩ => rfl)).trans (mod_read x0 x1 r k)
  · exact congrArg x2 (funext fun a => match a with | ⟨0, _⟩ => rfl | ⟨1, _⟩ => rfl)

/-- A slice of the projection's columns. -/
theorem at_col (i : S65536x6872.Idx) (r : Fin 65536) (j : Fin 6872) (h0 : (i 0).val = r.val) (h1 : (i 1).val = j.val) :
    val_main_v28 (F := Ideal) x0 x1 x2 i = proj (rX x0) (rM x1) (rW x2) r j :=
  (congrArg (val_main_v28 (F := Ideal) x0 x1 x2) (funext fun a => Fin.ext (match a with | ⟨0, _⟩ => h0 | ⟨1, _⟩ => h1))).trans (proj_read x0 x1 x2 r j)

/-- The queries. -/
theorem q_col (r : Fin 65536) (j : Fin 1024) : val_main_v29 (F := Ideal) x0 x1 x2 (ix2 r j) = proj (rX x0) (rM x1) (rW x2) r ⟨0 + j.val, by omega⟩ := by
  rw [val_main_v29_apply]
  exact at_col x0 x1 x2 _ _ _ rfl (Nat.zero_add _).symm

/-- The columns of the compressed keys and values. -/
theorem ckv_col (r : Fin 65536) (j : Fin 128) : val_main_v30 (F := Ideal) x0 x1 x2 (ix2 r j) = proj (rX x0) (rM x1) (rW x2) r ⟨1024 + j.val, by omega⟩ := by
  rw [val_main_v30_apply]
  exact at_col x0 x1 x2 _ _ _ rfl rfl

/-- The index queries. -/
theorem iq_col (r : Fin 65536) (j : Fin 512) : val_main_v31 (F := Ideal) x0 x1 x2 (ix2 r j) = proj (rX x0) (rM x1) (rW x2) r ⟨1152 + j.val, by omega⟩ := by
  rw [val_main_v31_apply]
  exact at_col x0 x1 x2 _ _ _ rfl rfl

/-- The columns of the index key. -/
theorem ik_col (r : Fin 65536) (j : Fin 64) : val_main_v32 (F := Ideal) x0 x1 x2 (ix2 r j) = proj (rX x0) (rM x1) (rW x2) r ⟨1664 + j.val, by omega⟩ := by
  rw [val_main_v32_apply]
  exact at_col x0 x1 x2 _ _ _ rfl rfl

/-- The weights of the index heads. -/
theorem iw_col (r : Fin 65536) (j : Fin 8) : val_main_v33 (F := Ideal) x0 x1 x2 (ix2 r j) = proj (rX x0) (rM x1) (rW x2) r ⟨1728 + j.val, by omega⟩ := by
  rw [val_main_v33_apply]
  exact at_col x0 x1 x2 _ _ _ rfl rfl

/-- The scan's gate. -/
theorem z_col (r : Fin 65536) (j : Fin 1024) : val_main_v34 (F := Ideal) x0 x1 x2 (ix2 r j) = proj (rX x0) (rM x1) (rW x2) r ⟨1736 + j.val, by omega⟩ := by
  rw [val_main_v34_apply]
  exact at_col x0 x1 x2 _ _ _ rfl rfl

/-- The scan's inputs. -/
theorem xbc_col (r : Fin 65536) (j : Fin 2048) : val_main_v35 (F := Ideal) x0 x1 x2 (ix2 r j) = proj (rX x0) (rM x1) (rW x2) r ⟨2760 + j.val, by omega⟩ := by
  rw [val_main_v35_apply]
  exact at_col x0 x1 x2 _ _ _ rfl rfl

/-- The scan's steps. -/
theorem dt_col (r : Fin 65536) (j : Fin 16) : val_main_v36 (F := Ideal) x0 x1 x2 (ix2 r j) = proj (rX x0) (rM x1) (rW x2) r ⟨4808 + j.val, by omega⟩ := by
  rw [val_main_v36_apply]
  exact at_col x0 x1 x2 _ _ _ rfl rfl

/-- The first gate. -/
theorem ga_col (r : Fin 65536) (j : Fin 1024) : val_main_v37 (F := Ideal) x0 x1 x2 (ix2 r j) = proj (rX x0) (rM x1) (rW x2) r ⟨4824 + j.val, by omega⟩ := by
  rw [val_main_v37_apply]
  exact at_col x0 x1 x2 _ _ _ rfl rfl

/-- The second gate. -/
theorem gb_col (r : Fin 65536) (j : Fin 1024) : val_main_v38 (F := Ideal) x0 x1 x2 (ix2 r j) = proj (rX x0) (rM x1) (rW x2) r ⟨5848 + j.val, by omega⟩ := by
  rw [val_main_v38_apply]
  exact at_col x0 x1 x2 _ _ _ rfl rfl

/-- The compressed keys and values. -/
theorem kv_read (r : Fin 65536) (j : Fin 128) : val_main_v51 (F := Ideal) x0 x1 x2 x3 (ix2 r j)
    = kvOf (rX x0) (rM x1) (rW x2) (fun j => x3 (ix1 j)) r j := by
  rw [val_main_v51_apply, val_main_v48_apply, val_main_v47_apply, val_main_v50_apply, val_main_v49_apply]
  unfold kvOf rms
  refine congrArg₂ (· * ·) (congrArg₂ (· * ·) (ckv_col x0 x1 x2 r j) ?_) ?_
  · refine (congrArg (val_main_v46 (F := Ideal) x0 x1 x2) (show idx_main_v47 (ix2 r j) = ix2 r 0 from funext fun a => match a with | ⟨0, _⟩ => rfl | ⟨1, _⟩ => rfl)).trans ?_
    rw [val_main_v46_apply, val_main_v45_apply, val_main_v43_apply, val_main_v41_apply, val_main_v40_apply, val_main_v42_apply, val_main_v44_apply]
    refine congrArg Ideal.rsqrt (congrArg (· + _) (congrArg (Ideal.div · _) ((from_zero _).trans (Finset.sum_congr rfl fun k _ => ?_))))
    rw [val_main_v39_apply]
    have h : val_main_v30 (F := Ideal) x0 x1 x2 (idx_main_v40 (idx_main_v41 (ix2 r 0)) k) = proj (rX x0) (rM x1) (rW x2) r ⟨1024 + k.val, by omega⟩ :=
      (congrArg (val_main_v30 (F := Ideal) x0 x1 x2) (show idx_main_v40 (idx_main_v41 (ix2 r 0)) k = ix2 r k from funext fun a => match a with | ⟨0, _⟩ => rfl | ⟨1, _⟩ => rfl)).trans (ckv_col x0 x1 x2 r k)
    exact congrArg₂ (· * ·) h h
  · exact congrArg x3 (funext fun a => match a with | ⟨0, _⟩ => rfl)

/-- The mean of the index key. -/
theorem kmean_read (r : Fin 65536) : val_main_v55 (F := Ideal) x0 x1 x2 (ix2 r 0)
    = Ideal.div (∑ l : Fin 64, proj (rX x0) (rM x1) (rW x2) r ⟨1664 + l.val, by omega⟩) (Ideal.ofBits .f32 0x42800000#32) := by
  rw [val_main_v55_apply, val_main_v53_apply, val_main_v52_apply, val_main_v54_apply]
  refine congrArg (Ideal.div · _) ((from_zero _).trans (Finset.sum_congr rfl fun k _ => ?_))
  exact (congrArg (val_main_v32 (F := Ideal) x0 x1 x2) (show idx_main_v52 (idx_main_v53 (ix2 r 0)) k = ix2 r k from funext fun a => match a with | ⟨0, _⟩ => rfl | ⟨1, _⟩ => rfl)).trans (ik_col x0 x1 x2 r k)

/-- A centred key entry. -/
theorem kcent_read (r : Fin 65536) (j : Fin 64) : val_main_v57 (F := Ideal) x0 x1 x2 (ix2 r j)
    = proj (rX x0) (rM x1) (rW x2) r ⟨1664 + j.val, by omega⟩
      - Ideal.div (∑ l : Fin 64, proj (rX x0) (rM x1) (rW x2) r ⟨1664 + l.val, by omega⟩) (Ideal.ofBits .f32 0x42800000#32) := by
  rw [val_main_v57_apply, val_main_v56_apply]
  exact congrArg₂ (· - ·) (ik_col x0 x1 x2 r j) ((congrArg (val_main_v55 (F := Ideal) x0 x1 x2) (show idx_main_v56 (ix2 r j) = ix2 r 0 from funext fun a => match a with | ⟨0, _⟩ => rfl | ⟨1, _⟩ => rfl)).trans (kmean_read x0 x1 x2 r))

/-- The same centred key entry, where it is scaled. -/
theorem kcent_read' (r : Fin 65536) (j : Fin 64) : val_main_v64 (F := Ideal) x0 x1 x2 (ix2 r j)
    = proj (rX x0) (rM x1) (rW x2) r ⟨1664 + j.val, by omega⟩
      - Ideal.div (∑ l : Fin 64, proj (rX x0) (rM x1) (rW x2) r ⟨1664 + l.val, by omega⟩) (Ideal.ofBits .f32 0x42800000#32) := by
  rw [val_main_v64_apply, val_main_v63_apply]
  exact congrArg₂ (· - ·) (ik_col x0 x1 x2 r j) ((congrArg (val_main_v55 (F := Ideal) x0 x1 x2) (show idx_main_v63 (ix2 r j) = ix2 r 0 from funext fun a => match a with | ⟨0, _⟩ => rfl | ⟨1, _⟩ => rfl)).trans (kmean_read x0 x1 x2 r))

/-- The index key. -/
theorem key_read (r : Fin 65536) (j : Fin 64) : val_main_v75 (F := Ideal) x0 x1 x2 x4 x5 (ix2 r j)
    = keyOf (rX x0) (rM x1) (rW x2) (fun l => x4 (ix1 l)) (fun l => x5 (ix1 l)) r j := by
  rw [val_main_v75_apply, val_main_v72_apply, val_main_v69_apply, val_main_v68_apply, val_main_v71_apply, val_main_v70_apply, val_main_v74_apply, val_main_v73_apply]
  unfold keyOf key
  refine congrArg₂ (· + ·) (congrArg₂ (· * ·) (congrArg₂ (· * ·) (kcent_read' x0 x1 x2 r j) ?_) ?_) ?_
  · refine (congrArg (val_main_v67 (F := Ideal) x0 x1 x2) (show idx_main_v68 (ix2 r j) = ix2 r 0 from funext fun a => match a with | ⟨0, _⟩ => rfl | ⟨1, _⟩ => rfl)).trans ?_
    rw [val_main_v67_apply, val_main_v66_apply, val_main_v62_apply, val_main_v60_apply, val_main_v59_apply, val_main_v61_apply, val_main_v65_apply]
    refine congrArg Ideal.rsqrt (congrArg (· + _) (congrArg (Ideal.div · _) ((from_zero _).trans (Finset.sum_congr rfl fun k _ => ?_))))
    rw [val_main_v58_apply]
    have h := (congrArg (val_main_v57 (F := Ideal) x0 x1 x2) (show idx_main_v59 (idx_main_v60 (ix2 r 0)) k = ix2 r k from funext fun a => match a with | ⟨0, _⟩ => rfl | ⟨1, _⟩ => rfl)).trans (kcent_read x0 x1 x2 r k)
    exact congrArg₂ (· * ·) h h
  · exact congrArg x4 (funext fun a => match a with | ⟨0, _⟩ => rfl)
  · exact congrArg x5 (funext fun a => match a with | ⟨0, _⟩ => rfl)

end Cert.ReferenceInprojIdeal.Read
end
-- ==== Proof.InRef2.lean ====
/- The reference's small columns and index keys, set side by side, entry by entry. -/
module

public import proofs.«01_k».proof.Proof.InRef

@[expose] public section

set_option maxRecDepth 16384

noncomputable section

namespace Cert.ReferenceInprojIdeal.Read

open Cert.ReferenceInprojIdeal Cert.ReferenceInprojIdeal.Gen Idealize.ShloMosaic Idealize.ShloMosaic.StableHlo Cert.Inp

variable (x0 : (⟨S65536x1024, .f32⟩ : BufTy).Contents (Elt Ideal)) (x1 : (⟨S32x6x1024, .f32⟩ : BufTy).Contents (Elt Ideal))
  (x2 : (⟨S1024x6872, .f32⟩ : BufTy).Contents (Elt Ideal)) (x3 : (⟨S128, .f32⟩ : BufTy).Contents (Elt Ideal))
  (x4 x5 : (⟨S64, .f32⟩ : BufTy).Contents (Elt Ideal))

/-- The zeros. -/
theorem zeros_read (i : S65536x64.Idx) : val_main_v76 (F := Ideal) i = 0 := by
  rw [val_main_v76_apply]
  exact Ideal.ofBits_zero FTy.f32

/-- Two arrays side by side, in the first. -/
theorem two_fst (y z : Vec Ideal S65536x64 .f32) (r : Fin 65536) (j : Fin 128) (h : j.val < 64) :
    concatenate S65536x128 1 [⟨S65536x64, y⟩, ⟨S65536x64, z⟩] concatenates_S65536x64_S65536x64_S65536x128_d1 (ix2 r j) = y (ix2 r ⟨j.val, h⟩) := by
  pointwise
  exact dif_pos h

/-- Two arrays side by side, in the second. -/
theorem two_snd (y z : Vec Ideal S65536x64 .f32) (r : Fin 65536) (j : Fin 128) (h : ¬j.val < 64) :
    concatenate S65536x128 1 [⟨S65536x64, y⟩, ⟨S65536x64, z⟩] concatenates_S65536x64_S65536x64_S65536x128_d1 (ix2 r j) = z (ix2 r ⟨j.val - 64, by omega⟩) := by
  pointwise
  exact dif_neg h

/-- The index key beside zeros. -/
theorem lo_read (r : Fin 65536) (j : Fin 128) : val_main_v77 (F := Ideal) x0 x1 x2 x4 x5 (ix2 r j)
    = keysOf (rX x0) (rM x1) (rW x2) (fun l => x4 (ix1 l)) (fun l => x5 (ix1 l)) 0 r j := by
  unfold keysOf
  rw [if_pos rfl]
  by_cases h : j.val < 64
  · rw [dif_pos h]
    exact (two_fst _ _ r j h).trans (key_read x0 x1 x2 x4 x5 r _)
  · rw [dif_neg h]
    exact (two_snd _ _ r j h).trans (zeros_read _)

/-- Zeros beside the index key. -/
theorem hi_read (r : Fin 65536) (j : Fin 128) : val_main_v78 (F := Ideal) x0 x1 x2 x4 x5 (ix2 r j)
    = keysOf (rX x0) (rM x1) (rW x2) (fun l => x4 (ix1 l)) (fun l => x5 (ix1 l)) 1 r j := by
  unfold keysOf
  rw [if_neg (by decide)]
  by_cases h : j.val < 64
  · rw [dif_neg (by omega)]
    exact (two_fst _ _ r j h).trans (zeros_read _)
  · rw [dif_pos (by omega)]
    exact (two_snd _ _ r j h).trans (key_read x0 x1 x2 x4 x5 r _)

/-- The index keys. -/
theorem keys_read (a : Fin 2) (r : Fin 65536) (j : Fin 128) : val_main_v81 (F := Ideal) x0 x1 x2 x4 x5 (ix3 a r j)
    = keysOf (rX x0) (rM x1) (rW x2) (fun l => x4 (ix1 l)) (fun l => x5 (ix1 l)) a r j := by
  have e0 := lo_read x0 x1 x2 x4 x5 r j
  have e1 := hi_read x0 x1 x2 x4 x5 r j
  generalize hk : keysOf (rX x0) (rM x1) (rW x2) (fun l => x4 (ix1 l)) (fun l => x5 (ix1 l)) = K at e0 e1 ⊢
  unfold val_main_v81 val_main_v79 val_main_v80
  generalize val_main_v77 (F := Ideal) x0 x1 x2 x4 x5 = y0 at e0 ⊢
  generalize val_main_v78 (F := Ideal) x0 x1 x2 x4 x5 = y1 at e1 ⊢
  pointwise
  by_cases h : a.val < 1
  · have ha : a = 0 := Fin.ext (by omega)
    subst ha
    exact e0
  · have ha : a = 1 := Fin.ext (by omega)
    subst ha
    exact e1

/-- Five arrays side by side. -/
theorem five_read (y0 : Vec Ideal S65536x64 .f32) (y1 : Vec Ideal S65536x8 .f32) (y2 : Vec Ideal S65536x8 .f32) (y3 : Vec Ideal S65536x16 .f32) (y4 : Vec Ideal S65536x32 .f32) (r : Fin 65536) (j : Fin 128) :
    concatenate S65536x128 1 [⟨S65536x64, y0⟩, ⟨S65536x8, y1⟩, ⟨S65536x8, y2⟩, ⟨S65536x16, y3⟩, ⟨S65536x32, y4⟩] concatenates_S65536x64_S65536x8_S65536x8_S65536x16_S65536x32_S65536x128_d1 (ix2 r j)
      = if h : j.val < 64 then y0 (ix2 r ⟨j.val, h⟩)
        else if h1 : j.val < 72 then y1 (ix2 r ⟨j.val - 64, by omega⟩)
        else if h2 : j.val < 80 then y2 (ix2 r ⟨j.val - 72, by omega⟩)
        else if h3 : j.val < 96 then y3 (ix2 r ⟨j.val - 80, by omega⟩)
        else y4 (ix2 r ⟨j.val - 96, by omega⟩) := by
  pointwise
  by_cases h0 : j.val < 64
  · refine (dif_pos h0).trans ?_
    rw [dif_pos h0]
  · refine (dif_neg h0).trans ?_
    rw [dif_neg h0]
    by_cases h1 : j.val < 72
    · refine (dif_pos (by omega)).trans ?_
      rw [dif_pos h1]
    · refine (dif_neg (by omega)).trans ?_
      rw [dif_neg h1]
      by_cases h2 : j.val < 80
      · refine (dif_pos (by omega)).trans ?_
        rw [dif_pos h2]
        exact congrArg y2 (congrArg (ix2 r) (Fin.ext (by show j.val - 64 - 8 = j.val - 72; omega)))
      · refine (dif_neg (by omega)).trans ?_
        rw [dif_neg h2]
        by_cases h3 : j.val < 96
        · refine (dif_pos (by omega)).trans ?_
          rw [dif_pos h3]
          exact congrArg y3 (congrArg (ix2 r) (Fin.ext (by show j.val - 64 - 8 - 8 = j.val - 80; omega)))
        · refine (dif_neg (by omega)).trans ?_
          rw [dif_neg h3]
          exact congrArg y4 (congrArg (ix2 r) (Fin.ext (by show j.val - 64 - 8 - 8 - 16 = j.val - 96; omega)))

/-- The small columns. -/
theorem small_read (r : Fin 65536) (j : Fin 128) : val_main_v88 (F := Ideal) x0 x1 x2 (ix2 r j) = smallOf (rX x0) (rM x1) (rW x2) r j := by
  refine (five_read _ _ _ _ _ r j).trans ?_
  unfold smallOf
  by_cases h0 : j.val < 64
  · rw [dif_pos h0, if_pos (by omega), val_main_v83_apply, val_main_v82_apply]
    exact congrArg (· * _) (ik_col x0 x1 x2 r ⟨j.val, h0⟩)
  · rw [dif_neg h0]
    by_cases h1 : j.val < 72
    · rw [dif_pos h1, if_pos h1, val_main_v85_apply, val_main_v84_apply]
      refine congrArg (· * _) ((iw_col x0 x1 x2 r ⟨j.val - 64, by omega⟩).trans (congrArg (proj (rX x0) (rM x1) (rW x2) r) (Fin.ext ?_)))
      show 1728 + (j.val - 64) = 1664 + j.val
      omega
    · rw [dif_neg h1, if_neg h1]
      by_cases h2 : j.val < 80
      · rw [dif_pos h2, if_pos h2, val_main_v86_apply]
        exact zeros_read _
      · rw [dif_neg h2, if_neg h2]
        by_cases h3 : j.val < 96
        · rw [dif_pos h3, if_pos h3]
          refine (dt_col x0 x1 x2 r ⟨j.val - 80, by omega⟩).trans (congrArg (proj (rX x0) (rM x1) (rW x2) r) (Fin.ext ?_))
          show 4808 + (j.val - 80) = 4728 + j.val
          omega
        · rw [dif_neg h3, if_neg h3, val_main_v87_apply]
          exact zeros_read _

/-- The small columns, transposed within each sequence. -/
theorem small_t_read (b : Fin 32) (j : Fin 128) (s : Fin 2048) : val_main_v90 (F := Ideal) x0 x1 x2 (ix3 b j s)
    = smallOf (rX x0) (rM x1) (rW x2) ⟨2048 * b.val + s.val, by omega⟩ j := by
  rw [val_main_v90_apply, val_main_v89_apply]
  refine (congrArg (val_main_v88 (F := Ideal) x0 x1 x2) (funext fun a => Fin.ext ?_)).trans (small_read x0 x1 x2 _ j)
  match a with
  | ⟨0, _⟩ => show ((b.val * 2048 + s.val) * 128 + j.val) / 128 = 2048 * b.val + s.val; omega
  | ⟨1, _⟩ => show ((b.val * 2048 + s.val) * 128 + j.val) % 128 = j.val; omega

end Cert.ReferenceInprojIdeal.Read
end
-- ==== Proof.InEq.lean ====
/- The input projection's ten results: the reference's are the kernel's, from equal arrays. -/
module

public import proofs.«01_k».proof.Proof.InArr
public import proofs.«01_k».proof.Proof.InRef2

@[expose] public section

set_option maxRecDepth 16384

noncomputable section

namespace Cert.InprojIdeal.Inp

open Cert.InprojIdeal Cert.InprojIdeal.Gen Idealize.ShloMosaic Idealize.ShloMosaic.TcCoe Idealize.SL.Sem Cert.Inp

variable (m : (ℓ : Loc nD τ sig) → Buf (Elt Ideal) ℓ) (c : Dev nD)

/-- A pair of coordinates is its coordinates. -/
theorem pair_eta {A B : ℕ} (i : (⟨2, ![A, B]⟩ : Shape).Idx) : i = ix2 (i 0) (i 1) := funext fun a => by
  match a with
  | ⟨0, _⟩ => rfl
  | ⟨1, _⟩ => rfl

/-- Three coordinates are their coordinates. -/
theorem triple_eta {A B C : ℕ} (i : (⟨3, ![A, B, C]⟩ : Shape).Idx) : i = ix3 (i 0) (i 1) (i 2) := funext fun a => by
  match a with
  | ⟨0, _⟩ => rfl
  | ⟨1, _⟩ => rfl
  | ⟨2, _⟩ => rfl

/-- The queries. -/
theorem q_eq : Cert.ReferenceInprojIdeal.Read.val_main_v91 (F := Ideal) (m (c.tc.loc main_arg0)) (m (c.tc.loc main_arg1)) (m (c.tc.loc main_arg2))
    = (dats m 0 c).arrAt 6 cfg0.N := by
  funext i
  rw [pair_eta i]
  exact (Cert.ReferenceInprojIdeal.Read.q_col _ _ _ (i 0) (i 1)).trans (fin_q m c (i 0) (i 1)).symm

/-- The compressed keys and values. -/
theorem kv_eq : Cert.ReferenceInprojIdeal.Read.val_main_v92 (F := Ideal) (m (c.tc.loc main_arg0)) (m (c.tc.loc main_arg1)) (m (c.tc.loc main_arg2)) (m (c.tc.loc main_arg3))
    = (dats m 0 c).arrAt 7 cfg0.N := by
  funext i
  rw [pair_eta i]
  exact (Cert.ReferenceInprojIdeal.Read.kv_read _ _ _ _ (i 0) (i 1)).trans (fin_kv m c (i 0) (i 1)).symm

/-- The index queries. -/
theorem iq_eq : Cert.ReferenceInprojIdeal.Read.val_main_v93 (F := Ideal) (m (c.tc.loc main_arg0)) (m (c.tc.loc main_arg1)) (m (c.tc.loc main_arg2))
    = (dats m 0 c).arrAt 8 cfg0.N := by
  funext i
  rw [pair_eta i]
  exact (Cert.ReferenceInprojIdeal.Read.iq_col _ _ _ (i 0) (i 1)).trans (fin_iq m c (i 0) (i 1)).symm

/-- The index keys. -/
theorem keys_eq : Cert.ReferenceInprojIdeal.Read.val_main_v94 (F := Ideal) (m (c.tc.loc main_arg0)) (m (c.tc.loc main_arg1)) (m (c.tc.loc main_arg2)) (m (c.tc.loc main_arg4)) (m (c.tc.loc main_arg5))
    = (dats m 0 c).arrAt 9 cfg0.N := by
  funext i
  rw [triple_eta i]
  refine (Cert.ReferenceInprojIdeal.Read.keys_read _ _ _ _ _ (i 0) (i 1) (i 2)).trans ?_
  have h : ∀ a : Fin 2, keysOf (aX m c) (aM m c) (aW m c) (fun l => m (c.tc.loc main_arg4) (ix1 l)) (fun l => m (c.tc.loc main_arg5) (ix1 l)) a (i 1) (i 2)
      = (dats m 0 c).arrAt 9 cfg0.N (ix3 a (i 1) (i 2)) :=
    Fin.forall_fin_two.mpr ⟨(fin_key0 m c (i 1) (i 2)).symm, (fin_key1 m c (i 1) (i 2)).symm⟩
  exact h (i 0)

/-- The small columns. -/
theorem small_eq : Cert.ReferenceInprojIdeal.Read.val_main_v88 (F := Ideal) (m (c.tc.loc main_arg0)) (m (c.tc.loc main_arg1)) (m (c.tc.loc main_arg2))
    = (dats m 0 c).arrAt 10 cfg0.N := by
  funext i
  rw [pair_eta i]
  exact (Cert.ReferenceInprojIdeal.Read.small_read _ _ _ (i 0) (i 1)).trans (fin_small m c (i 0) (i 1)).symm

/-- The small columns, transposed. -/
theorem small_t_eq : Cert.ReferenceInprojIdeal.Read.val_main_v90 (F := Ideal) (m (c.tc.loc main_arg0)) (m (c.tc.loc main_arg1)) (m (c.tc.loc main_arg2))
    = (dats m 0 c).arrAt 11 cfg0.N := by
  funext i
  rw [triple_eta i]
  exact (Cert.ReferenceInprojIdeal.Read.small_t_read _ _ _ (i 0) (i 1) (i 2)).trans (fin_small_t m c (i 0) (i 1) (i 2)).symm

/-- The scan's gate. -/
theorem z_eq : Cert.ReferenceInprojIdeal.Read.val_main_v34 (F := Ideal) (m (c.tc.loc main_arg0)) (m (c.tc.loc main_arg1)) (m (c.tc.loc main_arg2))
    = (dats m 0 c).arrAt 12 cfg0.N := by
  funext i
  rw [pair_eta i]
  exact (Cert.ReferenceInprojIdeal.Read.z_col _ _ _ (i 0) (i 1)).trans (fin_z m c (i 0) (i 1)).symm

/-- The scan's inputs. -/
theorem xbc_eq : Cert.ReferenceInprojIdeal.Read.val_main_v35 (F := Ideal) (m (c.tc.loc main_arg0)) (m (c.tc.loc main_arg1)) (m (c.tc.loc main_arg2))
    = (dats m 0 c).arrAt 13 cfg0.N := by
  funext i
  rw [pair_eta i]
  exact (Cert.ReferenceInprojIdeal.Read.xbc_col _ _ _ (i 0) (i 1)).trans (fin_xbc m c (i 0) (i 1)).symm

/-- The first gate. -/
theorem ga_eq : Cert.ReferenceInprojIdeal.Read.val_main_v37 (F := Ideal) (m (c.tc.loc main_arg0)) (m (c.tc.loc main_arg1)) (m (c.tc.loc main_arg2))
    = (dats m 0 c).arrAt 14 cfg0.N := by
  funext i
  rw [pair_eta i]
  exact (Cert.ReferenceInprojIdeal.Read.ga_col _ _ _ (i 0) (i 1)).trans (fin_ga m c (i 0) (i 1)).symm

/-- The second gate. -/
theorem gb_eq : Cert.ReferenceInprojIdeal.Read.val_main_v38 (F := Ideal) (m (c.tc.loc main_arg0)) (m (c.tc.loc main_arg1)) (m (c.tc.loc main_arg2))
    = (dats m 0 c).arrAt 15 cfg0.N := by
  funext i
  rw [pair_eta i]
  exact (Cert.ReferenceInprojIdeal.Read.gb_col _ _ _ (i 0) (i 1)).trans (fin_gb m c (i 0) (i 1)).symm

end Cert.InprojIdeal.Inp
end
-- ==== Proof.ExSkel.lean ====
/- The body of the expert call, its arithmetic named apart from its loads and stores. -/
module

public import proofs.«01_k».proof.Proof.Gen.ExpertsIdeal.Launch

@[expose] public section

set_option maxRecDepth 65536

noncomputable section

namespace Cert.ExpertsIdeal.Ex

open Cert.ExpertsIdeal Cert.ExpertsIdeal.Gen Idealize.ShloMosaic Idealize.ShloMosaic.TcCoe Idealize.SL.Sem

variable {F : FTy → Type} [FloatOps F]

/-- The first weights of an expert as the kernel keeps them. -/
def wide (v20 : Vec F S1x1024x2048 .f32) : FVec F S1024x2048 .bf16 :=
  have v21 : FVec F S1024x2048 .f32 := shapeCast S1024x2048 v20 shapeCasts_S1x1024x2048_S1024x2048
  have v22 : FVec F S1024x2048 .bf16 := truncf .bf16 v21 bitsLt_bf16_f32
  have v25 : FVec F S1024x2048 .bf16 := shapeCast S1024x2048 v22 shapeCasts_S1024x2048_S1024x2048
  v25

/-- The second weights of an expert as the kernel keeps them. -/
def down (v26 : Vec F S1x1024x1024 .f32) : FVec F S1024x1024 .bf16 :=
  have v27 : FVec F S1024x1024 .f32 := shapeCast S1024x1024 v26 shapeCasts_S1x1024x1024_S1024x1024
  have v28 : FVec F S1024x1024 .bf16 := truncf .bf16 v27 bitsLt_bf16_f32
  have v31 : FVec F S1024x1024 .bf16 := shapeCast S1024x1024 v28 shapeCasts_S1024x1024_S1024x1024
  v31

/-- One block through one expert. -/
def through (v20 : Vec F S512x1024 .f32) (v22 : Vec F S1024x2048 .bf16) (v24 : Vec F S1x1x2048 .f32) (v44 : Vec F S1024x1024 .bf16) (v46 : Vec F S1x1x1024 .f32) : FVec F S512x1024 .f32 :=
  have v21 : FVec F S512x1024 .bf16 := truncf .bf16 v20 bitsLt_bf16_f32
  have cst : FVec F S512x2048 .f32 := constant S512x2048 .f32 0x00000000#32
  have v23 : FVec F S512x2048 .f32 := matmul dot_S512x1024_S1024x2048_S512x2048_1_0_0_1_n_n none v21 v22 cst
  have v25 : FVec F S1x2048 .f32 := shapeCast S1x2048 v24 shapeCasts_S1x1x2048_S1x2048
  have v26 : FVec F S512x2048 .f32 := broadcastTo S512x2048 v25 broadcasts_S1x2048_S512x2048
  have v27 : FVec F S512x2048 .f32 := addf v23 v26
  have v28 : FVec F S512x1024 .f32 := extractStridedSlice S512x1024 ![0, 0] v27 slices_S512x2048_o0_0_S512x1024
  have cst_12 : F .f32 := Scalar.ofBits .f32 0x40E00000#32
  have v29 : FVec F S512x1024 .f32 := broadcast S512x1024 cst_12
  have v30 : FVec F S512x1024 .f32 := minimumf v28 v29
  have v31 : FVec F S512x1024 .f32 := extractStridedSlice S512x1024 ![0, 1024] v27 slices_S512x2048_o0_1024_S512x1024
  have cst_13 : F .f32 := Scalar.ofBits .f32 0xC0E00000#32
  have cst_14 : F .f32 := Scalar.ofBits .f32 0x40E00000#32
  have v32 : FVec F S512x1024 .f32 := broadcast S512x1024 cst_13
  have v33 : FVec F S512x1024 .f32 := maximumf v32 v31
  have v34 : FVec F S512x1024 .f32 := broadcast S512x1024 cst_14
  have v35 : FVec F S512x1024 .f32 := minimumf v34 v33
  have cst_15 : F .f32 := Scalar.ofBits .f32 0x3F800000#32
  have v36 : FVec F S512x1024 .f32 := broadcast S512x1024 cst_15
  have v37 : FVec F S512x1024 .f32 := addf v35 v36
  have v38 : FVec F S512x1024 .f32 := mulf v37 v30
  have cst_16 : F .f32 := Scalar.ofBits .f32 0x3FD9DB23#32
  have v39 : FVec F S512x1024 .f32 := broadcast S512x1024 cst_16
  have v40 : FVec F S512x1024 .f32 := mulf v39 v30
  have v41 : FVec F S512x1024 .f32 := logistic v40
  have v42 : FVec F S512x1024 .f32 := mulf v38 v41
  have v43 : FVec F S512x1024 .bf16 := truncf .bf16 v42 bitsLt_bf16_f32
  have cst_19 : FVec F S512x1024 .f32 := constant S512x1024 .f32 0x00000000#32
  have v45 : FVec F S512x1024 .f32 := matmul dot_S512x1024_S1024x1024_S512x1024_1_0_0_1_n_n none v43 v44 cst_19
  have v47 : FVec F S1x1024 .f32 := shapeCast S1x1024 v46 shapeCasts_S1x1x1024_S1x1024
  have v48 : FVec F S512x1024 .f32 := broadcastTo S512x1024 v47 broadcasts_S1x1024_S512x1024
  have v49 : FVec F S512x1024 .f32 := addf v45 v48
  v49

/-- The block that no expert takes. -/
def blank  : FVec F S512x1024 .f32 :=
  have cst : F .f32 := Scalar.ofBits .f32 0x00000000#32
  have v20 : FVec F S512x1024 .f32 := broadcast S512x1024 cst
  v20

/-- Whether a block in use starts a new expert. -/
def fresh (i : grid0.Coords) (v0 v4 v8 : BitVec 32) : BitVec 1 :=
  let arg0 : BitVec 32 := BitVec.ofNat 32 (i 0).val
  let v1 : BitVec 1 := Scalar.cmpi .slt arg0 v0
  let c0_i32 : BitVec 32 := 0#32
  let v2 : BitVec 1 := Scalar.cmpi .eq arg0 c0_i32
  let c1_i32 : BitVec 32 := 1#32
  let v5 : BitVec 32 := Scalar.subi arg0 c1_i32
  let c0_i32_0 : BitVec 32 := 0#32
  let v6 : BitVec 32 := Scalar.maxsi v5 c0_i32_0
  let v9 : BitVec 1 := Scalar.cmpi .ne v4 v8
  let v10 : BitVec 1 := Scalar.ori v2 v9
  let v11 : BitVec 1 := Scalar.andi v1 v10
  let v12 : BitVec 32 := Scalar.extui v11
  let c0_i32_1 : BitVec 32 := 0#32
  let v13 : BitVec 1 := Scalar.cmpi .ne v12 c0_i32_1
  v13

/-- The body of the call, its arithmetic named. -/
def skel (i : grid0.Coords) (arg1 : Memref sig .tc .smem S544 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole) :
    Prog (TpuEff nD τ sig (Elt F) Λ₀ .tc) PUnit := do
  let v0 : Elt F .i32 ← smemLoad arg2 (Rect.unit (s := S1) ![0] S1.size inb_S1_S1_0) numel1_S1 rfl
  let v4 : Elt F .i32 ← smemLoad arg1 (Rect.unit (s := S544) (k0_off1 i) S1.size (k0_off1_inb i)) numel1_S1 rfl
  let v8 : Elt F .i32 ← smemLoad arg1 (Rect.unit (s := S544) (k0_off2 i) S1.size (k0_off2_inb i)) numel1_S1 rfl
  if fresh i v0 v4 v8 = 1#1 then do
    let v20 : Vec F S1x1024x2048 .f32 ← Prog.lift (.load arg4 (Rect.unit (s := S1x1024x2048) ![0, 0, 0] S1x1024x2048.size inb_S1x1024x2048_S1x1024x2048_0_0_0).toLoadRect (View.loadsAt_vmem h_S1x1024x2048))
    let v23 : Vec F S1024x2048 .bf16 ← Prog.lift (.load arg9 (Rect.unit (s := S1024x2048) ![0, 0] S1024x2048.size inb_S1024x2048_S1024x2048_0_0).toLoadRect (View.loadsAt_vmem h_S1024x2048))
    Prog.lift (.store arg9 (Rect.unit (s := S1024x2048) ![0, 0] S1024x2048.size inb_S1024x2048_S1024x2048_0_0) (wide v20) Finset.univ (View.stores_vmem h_S1024x2048 (harg9.storeExact_slice rfl _ packedbf16_S1024x2048_S1024x2048_0_0) (fun _ => rfl)) (.inl rfl))
    let v26 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    let v29 : Vec F S1024x1024 .bf16 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (down v26) Finset.univ (View.stores_vmem h_S1024x1024 (harg10.storeExact_slice rfl _ packedbf16_S1024x1024_S1024x1024_0_0) (fun _ => rfl)) (.inl rfl))
    pure ⟨⟩
  else do
    pure ⟨⟩
  if k0_h2 : k0_cond2 i v0 = 1#1 then do
    let v20 : Vec F S512x1024 .f32 ← Prog.lift (.load arg3 (Rect.unit (s := S512x1024) ![0, 0] S512x1024.size inb_S512x1024_S512x1024_0_0).toLoadRect (View.loadsAt_vmem h_S512x1024))
    let v22 : Vec F S1024x2048 .bf16 ← Prog.lift (.load arg9 (Rect.unit (s := S1024x2048) ![0, 0] S1024x2048.size inb_S1024x2048_S1024x2048_0_0).toLoadRect (View.loadsAt_vmem h_S1024x2048))
    let v24 : Vec F S1x1x2048 .f32 ← Prog.lift (.load arg5 (Rect.unit (s := S1x1x2048) ![0, 0, 0] S1x1x2048.size inb_S1x1x2048_S1x1x2048_0_0_0).toLoadRect (View.loadsAt_vmem h_S1x1x2048))
    let v44 : Vec F S1024x1024 .bf16 ← Prog.lift (.load arg10 (Rect.unit (s := S1024x1024) ![0, 0] S1024x1024.size inb_S1024x1024_S1024x1024_0_0).toLoadRect (View.loadsAt_vmem h_S1024x1024))
    let v46 : Vec F S1x1x1024 .f32 ← Prog.lift (.load arg7 (Rect.unit (s := S1x1x1024) ![0, 0, 0] S1x1x1024.size inb_S1x1x1024_S1x1x1024_0_0_0).toLoadRect (View.loadsAt_vmem h_S1x1x1024))
    let v50 : Vec F S512x1024 .f32 ← Prog.lift (.load arg8 (Rect.unit (s := S512x1024) ![0, 0] S512x1024.size inb_S512x1024_S512x1024_0_0).toLoadRect (View.loadsAt_vmem h_S512x1024))
    Prog.lift (.store arg8 (Rect.unit (s := S512x1024) ![0, 0] S512x1024.size inb_S512x1024_S512x1024_0_0) (through v20 v22 v24 v44 v46) Finset.univ (View.stores_vmem_bits_univ h_S512x1024 rfl) (.inl rfl))
    pure ⟨⟩
  else do
    pure ⟨⟩
  let v16 : Elt F .i32 ← smemLoad arg2 (Rect.unit (s := S1) ![0] S1.size inb_S1_S1_0) numel1_S1 rfl
  if k0_h3 : k0_cond3 i v16 = 1#1 then do
    let v21 : Vec F S512x1024 .f32 ← Prog.lift (.load arg8 (Rect.unit (s := S512x1024) ![0, 0] S512x1024.size inb_S512x1024_S512x1024_0_0).toLoadRect (View.loadsAt_vmem h_S512x1024))
    Prog.lift (.store arg8 (Rect.unit (s := S512x1024) ![0, 0] S512x1024.size inb_S512x1024_S512x1024_0_0) blank Finset.univ (View.stores_vmem_bits_univ h_S512x1024 rfl) (.inl rfl))
    pure ⟨⟩
  else do
    pure ⟨⟩
  pure ⟨⟩

/-- The printed body is that. -/
theorem body_eq : cc0_experts (F := F) = skel (F := F) := rfl

end Cert.ExpertsIdeal.Ex

end
-- ==== Proof.ExKit.lean ====
/- The launch of the expert call: the host operations before it, its tables, the blocks of its windows and what its body is handed. -/
module

public import proofs.«01_k».proof.Proof.ExSkel
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ExpertsIdeal.Ex

open Cert.ExpertsIdeal Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it follows from the precondition. -/
abbrev Ok : Prop := ok0 (F := F) (tbl m)
/-- The tables' contents as ADMISSIBLE contents, and the pipeline at them: what the launch runs. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S544 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table, and takes back from it. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): where it is not fetched, its index has not moved. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): where it is not fetched, its index has not moved. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): where it is not fetched, its index has not moved. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): where it is not fetched, its index has not moved. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): where it is not fetched, its index has not moved. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every array as the launch's data say ends with the arguments as they were: a staged input
    is never written back, and an array no window stages is left alone. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).2 main_arg4 (by decide : main_arg4 ∈ Pipeline.restRefs sig spec0)).trans (V_main_arg4 m c),
      ((h c).1 3).trans (((dats 0 c).arrAt_in 3 rfl _).trans ((hA c 3).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 5, through which its contents are stated (which one does not matter). -/
abbrev VO0_5 : View sig .tc .vmem S512x1024 .f32 := (Memref.whole cc0_stg5_0 : Memref sig .tc .vmem S512x1024 .f32).view
/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The scratch `arg9` the kernel carries between points, as a view: what it holds is stated through it. -/
abbrev VS0_0 : View sig .tc .vmem S1024x2048 .bf16 := scM0_0.view
/-- The scratch `arg10` the kernel carries between points, as a view: what it holds is stated through it. -/
abbrev VS0_1 : View sig .tc .vmem S1024x1024 .bf16 := scM0_1.view

/-- What the region keeps between points, with the two scratch copies as memrefs held at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ExpertsIdeal.Ex

end
-- ==== Proof.ExRun.lean ====
/- The body of the expert call in each of its three cases. -/
module

public import proofs.«01_k».proof.Proof.ExKit

@[expose] public section

set_option maxRecDepth 16384

noncomputable section

namespace Cert.ExpertsIdeal.Ex

open Cert.ExpertsIdeal Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the table of experts that a rectangle names. -/
abbrev beW (c : Dev nD) (xt0 : TbBuf0 (F := F) c tbM0_0) (r : Rect S544) (h : r.shape.numel = 1) : BitVec 32 :=
  tbM0_0.view.readAt (Elt F) r.toLoadRect xt0 (Shape.Idx.first (h.symm ▸ Nat.one_pos))
/-- The word that says how many blocks are in use. -/
abbrev nuW (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
/-- Whether the body starts a new expert at a point, read off the tables. -/
abbrev freshW (c : Dev nD) (i : grid0.Coords) (xt0 : TbBuf0 (F := F) c tbM0_0) (xt1 : TbBuf0 (F := F) c tbM0_1) : BitVec 1 :=
  fresh i (nuW c xt1) (beW c xt0 (Rect.unit (s := S544) (k0_off1 i) S1.size (k0_off1_inb i)) numel1_S1) (beW c xt0 (Rect.unit (s := S544) (k0_off2 i) S1.size (k0_off2_inb i)) numel1_S1)

set_option maxHeartbeats 2000000 in
/-- A block in use that starts a new expert: the weights are copied, then used. -/
theorem run_fresh (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S512x1024 .f32) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (xs0 : Vec F S1024x2048 .bf16) (xs1 : Vec F S1024x1024 .bf16)
    (E : Set ℕ) (K : PUnit → sProp 𝕄)
    (hc1 : freshW c i xt0 xt1 = 1#1) (hc2 : k0_cond2 i (nuW c xt1) = 1#1) (hc3 : ¬ k0_cond3 i (nuW c xt1) = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (through x0 (wide x1) x2 (down x3) x4) ∗ owns (c : Thread nD τ) arg9 fullShare (wide x1) ∗ owns (c : Thread nD τ) arg10 fullShare (down x3) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  rw [body_eq]; unfold skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (View.read_writes_full _ _ _ _ _).trans ?_
    exact congr (congr (congr (congr (congrArg through ((View.readAt_full _ _ _).trans (harg3.read_unread _))) ((View.readCov_full _ _ _ _ _).trans (congrArg wide ((View.readAt_full _ _ _).trans (harg4.read_unread _))))) ((View.readAt_full _ _ _).trans (harg5.read_unread _))) ((View.readCov_full _ _ _ _ _).trans (congrArg down ((View.readAt_full _ _ _).trans (harg6.read_unread _))))) ((View.readAt_full _ _ _).trans (harg7.read_unread _))
  isplitl [HS0]
  · iexists _; isplitr
    swap; · iexact HS0
    ipureintro
    refine (View.read_writes_full _ _ _ _ _).trans ?_
    exact congrArg wide ((View.readAt_full _ _ _).trans (harg4.read_unread _))
  isplitl [HS1]
  · iexists _; isplitr
    swap; · iexact HS1
    ipureintro
    refine (View.read_writes_full _ _ _ _ _).trans ?_
    exact congrArg down ((View.readAt_full _ _ _).trans (harg6.read_unread _))
  isplitl [HT0]; · iexact HT0
  iexact HT1

set_option maxHeartbeats 2000000 in
/-- A block in use of the same expert as the one before: the copies there are used. -/
theorem run_again (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S512x1024 .f32) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (xs0 : Vec F S1024x2048 .bf16) (xs1 : Vec F S1024x1024 .bf16)
    (E : Set ℕ) (K : PUnit → sProp 𝕄)
    (hc1 : ¬ freshW c i xt0 xt1 = 1#1) (hc2 : k0_cond2 i (nuW c xt1) = 1#1) (hc3 : ¬ k0_cond3 i (nuW c xt1) = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (through x0 xs0 x2 xs1 x4) ∗ owns (c : Thread nD τ) arg9 fullShare (xs0) ∗ owns (c : Thread nD τ) arg10 fullShare (xs1) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  rw [body_eq]; unfold skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (View.read_writes_full _ _ _ _ _).trans ?_
    exact congr (congr (congr (congr (congrArg through ((View.readAt_full _ _ _).trans (harg3.read_unread _))) ((View.readAt_full _ _ _).trans (harg9.read_unread _))) ((View.readAt_full _ _ _).trans (harg5.read_unread _))) ((View.readAt_full _ _ _).trans (harg10.read_unread _))) ((View.readAt_full _ _ _).trans (harg7.read_unread _))
  isplitl [HS0]
  · iexists _; isplitr
    swap; · iexact HS0
    ipureintro
    exact harg9.read_unread _
  isplitl [HS1]
  · iexists _; isplitr
    swap; · iexact HS1
    ipureintro
    exact harg10.read_unread _
  isplitl [HT0]; · iexact HT0
  iexact HT1

set_option maxHeartbeats 2000000 in
/-- A block out of use: zeros. -/
theorem run_blank (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S512x1024 .f32) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (xs0 : Vec F S1024x2048 .bf16) (xs1 : Vec F S1024x1024 .bf16)
    (E : Set ℕ) (K : PUnit → sProp 𝕄)
    (hc1 : ¬ freshW c i xt0 xt1 = 1#1) (hc2 : ¬ k0_cond2 i (nuW c xt1) = 1#1) (hc3 : k0_cond3 i (nuW c xt1) = 1#1) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blank) ∗ owns (c : Thread nD τ) arg9 fullShare (xs0) ∗ owns (c : Thread nD τ) arg10 fullShare (xs1) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  rw [body_eq]; unfold skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (View.read_writes_full _ _ _ _ _).trans ?_
    rfl
  isplitl [HS0]
  · iexists _; isplitr
    swap; · iexact HS0
    ipureintro
    exact harg9.read_unread _
  isplitl [HS1]
  · iexists _; isplitr
    swap; · iexact HS1
    ipureintro
    exact harg10.read_unread _
  isplitl [HT0]; · iexact HT0
  iexact HT1

end Cert.ExpertsIdeal.Ex

end
-- ==== Proof.ExWord.lean ====
/- The conditions the expert call's body reads off its tables, as facts about numbers. -/
module

public import proofs.«01_k».proof.Proof.ExRun

@[expose] public section

set_option maxRecDepth 16384

noncomputable section

namespace Cert.ExpertsIdeal.Ex

open Cert.ExpertsIdeal Cert.ExpertsIdeal.Gen Idealize.ShloMosaic Idealize.ShloMosaic.TcCoe

/-- A bit widened to a word and compared with zero is that bit. -/
theorem bit_word : ∀ b : BitVec 1, Scalar.cmpi .ne (Scalar.extui b) 0#32 = b := by decide

/-- One bit is one or not as the comparison it was made from. -/
theorem ofBool_one (b : Bool) : BitVec.ofBool b = 1#1 ↔ b = true := by cases b <;> decide

/-- A number of a block, read as a signed word. -/
theorem toInt_block (a : ℕ) (h : a < 544) : (BitVec.ofNat 32 a).toInt = (a : ℤ) := by
  rw [BitVec.toInt_eq_toNat_cond, BitVec.toNat_ofNat]; omega

/-- A point's coordinate is its number. -/
theorem coord_val : ∀ t : Fin grid0.N, ((grid0.coords t) 0).val = t.val := by decide +kernel

/-- There are 544 points. -/
theorem val_lt (t : Fin grid0.N) : t.val < 544 := lt_of_lt_of_eq t.isLt (show grid0.N = 544 from N_0)

/-- The first condition on the count of blocks in use. -/
theorem cond2_iff (t : Fin grid0.N) (v : BitVec 32) : k0_cond2 (grid0.coords t) v = 1#1 ↔ (t.val : ℤ) < v.toInt := by
  rw [show k0_cond2 (grid0.coords t) v = Scalar.cmpi .slt (BitVec.ofNat 32 ((grid0.coords t) 0).val) v from bit_word _, coord_val t]
  refine (ofBool_one _).trans ?_
  rw [← toInt_block t.val (val_lt t)]
  simp only [BitVec.slt, decide_eq_true_eq]

/-- The second is its opposite. -/
theorem cond3_iff (t : Fin grid0.N) (v : BitVec 32) : k0_cond3 (grid0.coords t) v = 1#1 ↔ ¬ (t.val : ℤ) < v.toInt := by
  rw [show k0_cond3 (grid0.coords t) v = Scalar.cmpi .sge (BitVec.ofNat 32 ((grid0.coords t) 0).val) v from bit_word _, coord_val t]
  refine (ofBool_one _).trans ?_
  rw [← toInt_block t.val (val_lt t)]
  simp only [BitVec.sle, decide_eq_true_eq, not_lt]

/-- The conjunction and disjunction of two bits. -/
theorem and_one : ∀ a b : BitVec 1, Scalar.andi a b = 1#1 ↔ a = 1#1 ∧ b = 1#1 := by decide
theorem or_one : ∀ a b : BitVec 1, Scalar.ori a b = 1#1 ↔ a = 1#1 ∨ b = 1#1 := by decide

/-- A block starts a new expert when it is in use and is the first or names another expert than the block before. -/
theorem fresh_iff (t : Fin grid0.N) (v p q : BitVec 32) :
    fresh (grid0.coords t) v p q = 1#1 ↔ (t.val : ℤ) < v.toInt ∧ (t.val = 0 ∨ p ≠ q) := by
  rw [show fresh (grid0.coords t) v p q = Scalar.andi (Scalar.cmpi .slt (BitVec.ofNat 32 ((grid0.coords t) 0).val) v)
      (Scalar.ori (Scalar.cmpi .eq (BitVec.ofNat 32 ((grid0.coords t) 0).val) 0#32) (Scalar.cmpi .ne p q)) from bit_word _, coord_val t, and_one, or_one]
  refine and_congr ((ofBool_one _).trans ?_) (or_congr ((ofBool_one _).trans ?_) ((ofBool_one _).trans ?_))
  · rw [← toInt_block t.val (val_lt t)]; simp only [BitVec.slt, decide_eq_true_eq]
  · have h := val_lt t
    simp only [beq_iff_eq]
    constructor
    · intro e
      have e' := congrArg BitVec.toNat e
      rw [BitVec.toNat_ofNat] at e'
      simp at e'; omega
    · intro e; rw [e]
  · simp only [bne_iff_ne]

/-- The table's entry for the block before is the one that block reads for itself. -/
theorem off_prev : ∀ t t' : Fin grid0.N, t'.val + 1 = t.val → k0_off2 (grid0.coords t) = k0_off1 (grid0.coords t') := by
  have h : ∀ t : Fin grid0.N, t.val ≠ 0 → ∀ a, k0_off2 (grid0.coords t) a = t.val - 1 := by decide +kernel
  have h' : ∀ t : Fin grid0.N, ∀ a, k0_off1 (grid0.coords t) a = t.val := by decide +kernel
  intro t t' e
  funext a
  rw [h t (by omega) a, h' t' a]; omega

end Cert.ExpertsIdeal.Ex

end
-- ==== Proof.ExBlk.lean ====
/- The blocks a point of the expert call reads: 512 rows, and the weights and biases of the expert its table names. -/
module

public import proofs.«01_k».proof.Proof.ExWord
public import Idealize.ShloMosaic.Lib.Claim
public import Idealize.ShloMosaic.Lib.Pipeline.ValueKit.Point

@[expose] public section

set_option maxRecDepth 16384

noncomputable section

namespace Cert.ExpertsIdeal.Ex

open Cert.ExpertsIdeal Cert.ExpertsIdeal.Gen Idealize.ShloMosaic Idealize.ShloMosaic.TcCoe Idealize.SL.Sem

variable {F : FTy → Type} [FloatOps F]
variable (m : (ℓ : Loc nD τ sig) → Buf (Elt F) ℓ) (hO : Ok m) (c : Dev nD)

/-- The word of the table of experts that a point reads for itself. -/
def word (t : Fin grid0.N) : BitVec 32 :=
  (tbl m).at 0 (Rect.unit (s := S544) (k0_off1 (grid0.coords t)) S1.size (k0_off1_inb (grid0.coords t))) numel1_S1

/-- Where the windows that follow the table stand. -/
theorem tr1 (t : Fin grid0.N) : cc0_transform_1 k0_off1_inb numel1_S1 (tbl m) (grid0.coords t) = ![(word m t).toNat, 0, 0] := rfl
theorem tr2 (t : Fin grid0.N) : cc0_transform_2 k0_off1_inb numel1_S1 (tbl m) (grid0.coords t) = ![(word m t).toNat, 0, 0] := rfl
theorem tr3 (t : Fin grid0.N) : cc0_transform_3 k0_off1_inb numel1_S1 (tbl m) (grid0.coords t) = ![(word m t).toNat, 0, 0] := rfl
theorem tr4 (t : Fin grid0.N) : cc0_transform_4 k0_off1_inb numel1_S1 (tbl m) (grid0.coords t) = ![(word m t).toNat, 0, 0] := rfl

include hO in
/-- The word names one of the 32 experts. -/
theorem word_lt (t : Fin grid0.N) : (word m t).toNat < 32 := by
  obtain ⟨h, -⟩ := hO.1 (grid0.coords t)
  have h0 := h 0
  rw [tr1] at h0
  change ((word m t).toNat + 1) * 1 ≤ 32 at h0
  omega

/-- The expert a point reads. -/
def ex (t : Fin grid0.N) : Fin 32 := ⟨(word m t).toNat, word_lt m hO t⟩

/-- The rows a point reads. -/
theorem blk0 (t : Fin grid0.N) (i : Fin 512) (j : Fin 1024) :
    (iblk m hO c 0 t : Vec F S512x1024 .f32) (ix2 i j) = V m c main_arg2 (ix2 ⟨512 * t.val + i.val, by have := val_lt t; omega⟩ j) := by
  have e : ((cfgM m hO).win 0).index t = ![t.val, 0] := (by decide +kernel : ∀ t : Fin grid0.N, cc0_transform_0 (grid0.coords t) = ![t.val, 0]) t
  blk_ext [iblk, e]

/-- The first weights. -/
theorem blk1 (t : Fin grid0.N) (i : Fin 1024) (j : Fin 2048) :
    (iblk m hO c 1 t : Vec F S1x1024x2048 .f32) (ix3 0 i j) = V m c main_arg3 (ix3 (ex m hO t) i j) := by
  have e : ((cfgM m hO).win 1).index t = ![(ex m hO t).val, 0, 0] := rfl
  blk_ext [iblk, e]

/-- The first biases. -/
theorem blk2 (t : Fin grid0.N) (j : Fin 2048) :
    (iblk m hO c 2 t : Vec F S1x1x2048 .f32) (ix3 0 0 j) = V m c main_v0 (ix3 (ex m hO t) 0 j) := by
  have e : ((cfgM m hO).win 2).index t = ![(ex m hO t).val, 0, 0] := rfl
  blk_ext [iblk, e]

/-- The second weights. -/
theorem blk3 (t : Fin grid0.N) (i : Fin 1024) (j : Fin 1024) :
    (iblk m hO c 3 t : Vec F S1x1024x1024 .f32) (ix3 0 i j) = V m c main_arg5 (ix3 (ex m hO t) i j) := by
  have e : ((cfgM m hO).win 3).index t = ![(ex m hO t).val, 0, 0] := rfl
  blk_ext [iblk, e]

/-- The second biases. -/
theorem blk4 (t : Fin grid0.N) (j : Fin 1024) :
    (iblk m hO c 4 t : Vec F S1x1x1024 .f32) (ix3 0 0 j) = V m c main_v1 (ix3 (ex m hO t) 0 j) := by
  have e : ((cfgM m hO).win 4).index t = ![(ex m hO t).val, 0, 0] := rfl
  blk_ext [iblk, e]

/-- Two stacks of one matrix are one when their entries are. -/
theorem stack_ext {a b : ℕ} {α : Type} (f g : (⟨3, ![1, a, b]⟩ : Shape).Idx → α) (h : ∀ i j, f (ix3 0 i j) = g (ix3 0 i j)) : f = g := by
  funext y
  have e : y = ix3 0 (y 1) (y 2) := by
    funext k
    match k with
    | 0 => exact Subsingleton.elim (α := Fin 1) _ _
    | 1 => rfl
    | 2 => rfl
  rw [e]; exact h _ _

/-- Points whose words agree read the same weights. -/
theorem ex_congr (t t' : Fin grid0.N) (h : word m t = word m t') : ex m hO t = ex m hO t' := Fin.ext (show (word m t).toNat = (word m t').toNat by rw [h])
theorem same1 (t t' : Fin grid0.N) (h : word m t = word m t') :
    (iblk m hO c 1 t : Vec F S1x1024x2048 .f32) = iblk m hO c 1 t' :=
  stack_ext _ _ fun i j => (blk1 m hO c t i j).trans ((congrArg (fun e => V m c main_arg3 (ix3 e i j)) (ex_congr m hO t t' h)).trans (blk1 m hO c t' i j).symm)
theorem same3 (t t' : Fin grid0.N) (h : word m t = word m t') :
    (iblk m hO c 3 t : Vec F S1x1024x1024 .f32) = iblk m hO c 3 t' :=
  stack_ext _ _ fun i j => (blk3 m hO c t i j).trans ((congrArg (fun e => V m c main_arg5 (ix3 e i j)) (ex_congr m hO t t' h)).trans (blk3 m hO c t' i j).symm)

/-- The biases are set out with an axis between. -/
theorem bias1 (e : Fin 32) (j : Fin 2048) : V m c main_v0 (ix3 e 0 j) = m ((c : Thread nD τ).loc main_arg4) (ix2 e j) := by
  entry_read; pointwise
theorem bias2 (e : Fin 32) (j : Fin 1024) : V m c main_v1 (ix3 e 0 j) = m ((c : Thread nD τ).loc main_arg6) (ix2 e j) := by
  entry_read; pointwise

end Cert.ExpertsIdeal.Ex

end
-- ==== Proof.ExFrame.lean ====
/- The expert call runs from any memory whose table names experts there are, and what it leaves. -/
module

public import proofs.«01_k».proof.Proof.ExBlk

@[expose] public section

set_option maxRecDepth 16384

noncomputable section

namespace Cert.ExpertsIdeal.Ex

open Cert.ExpertsIdeal Cert.ExpertsIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point, on what it is called with there. -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The output is written back at every point. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

variable (m : (ℓ : Loc nD τ sig) → Buf (Elt F) ℓ) (ρ : Dev nD → PrngReg)

/-- Whether a point's block is in use. -/
def used (c : Dev nD) (t : Fin grid0.N) : Prop := (t.val : ℤ) < (nuW (F := F) c (tbl m 1)).toInt

open Classical in
/-- What a point leaves in its output block. -/
def outAt (hO : Ok m) (c : Dev nD) (t : Fin grid0.N) : Vec F S512x1024 .f32 :=
  if used m c t then through (iblk m hO c 0 t) (wide (iblk m hO c 1 t)) (iblk m hO c 2 t) (down (iblk m hO c 3 t)) (iblk m hO c 4 t) else blank

/-- The copies hold the weights of the point before, if its block was in use. -/
def Kept (hO : Ok m) (c : Dev nD) (n : ℕ) (s0 : Vec F S1024x2048 .bf16) (s1 : Vec F S1024x1024 .bf16) : Prop :=
  ∀ t : Fin grid0.N, t.val + 1 = n → used m c t → s0 = wide (iblk m hO c 1 t) ∧ s1 = down (iblk m hO c 3 t)

/-- What the body keeps between points. -/
def PhiS (hO : Ok m) (c : Dev nD) (n : ℕ) : sProp 𝕄 :=
  iprop(iprop((∃ s0, ∃ s1, ⌜Kept m hO c n s0 s1⌝ ∗ owns (c : Thread nD τ) scM0_0 fullShare s0 ∗ owns (c : Thread nD τ) scM0_1 fullShare s1) ∗ (∃ r, prngReg c r)) ∗ Pipeline.ΦT pre0 (tbl m) c)

/-- The proof data of the launch. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- What the body finds in an input's buffer is the block of the point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The word the body reads for a point, and for the point before. -/
theorem beW_at (c : Dev nD) (t : Fin grid0.N) (o : Fin 1 → ℕ) (h : ∀ a, o a + S1.size a ≤ S544.size a) (e : o = k0_off1 (grid0.coords t)) :
    beW (F := F) c (tbl m 0) (Rect.unit (s := S544) o S1.size h) numel1_S1 = word m t := by
  subst e; rfl

/-- When the body makes new copies. -/
theorem freshW_iff (c : Dev nD) (t : Fin grid0.N) :
    freshW (F := F) c (grid0.coords t) (tbl m 0) (tbl m 1) = 1#1 ↔ used m c t ∧ ∀ t' : Fin grid0.N, t'.val + 1 = t.val → word m t ≠ word m t' := by
  refine (fresh_iff t _ _ _).trans (and_congr Iff.rfl ?_)
  rw [beW_at m c t _ _ rfl]
  constructor
  · rintro (h | h) t' e
    · omega
    · rwa [beW_at m c t' _ _ (off_prev t t' e)] at h
  · intro h
    by_cases hz : t.val = 0
    · exact .inl hz
    · have e : (⟨t.val - 1, by have := t.isLt; omega⟩ : Fin grid0.N).val + 1 = t.val := Nat.sub_add_cancel (Nat.pos_of_ne_zero hz)
      refine .inr ?_
      rw [beW_at m c _ _ _ (off_prev t _ e)]
      exact h _ e

/-- Where the copies are not made anew they hold this point's weights. -/
theorem kept_now (hO : Ok m) (c : Dev nD) (t : Fin grid0.N) (s0 : Vec F S1024x2048 .bf16) (s1 : Vec F S1024x1024 .bf16)
    (h : Kept m hO c t.val s0 s1) (hu : used m c t) (hf : ¬ freshW (F := F) c (grid0.coords t) (tbl m 0) (tbl m 1) = 1#1) :
    s0 = wide (iblk m hO c 1 t) ∧ s1 = down (iblk m hO c 3 t) := by
  rw [freshW_iff] at hf
  push Not at hf
  obtain ⟨t', e, hw⟩ := hf hu
  have hu' : used m c t' := by unfold used at hu ⊢; omega
  obtain ⟨h0, h1⟩ := h t' e hu'
  rw [h0, h1]
  exact ⟨congrArg wide (same1 m hO c t t' hw).symm, congrArg down (same3 m hO c t t' hw).symm⟩

/-- The output in the two cases. -/
theorem outAt_used (hO : Ok m) (c : Dev nD) (t : Fin grid0.N) (h : used m c t) : outAt m hO c t
    = through (iblk m hO c 0 t) (wide (iblk m hO c 1 t)) (iblk m hO c 2 t) (down (iblk m hO c 3 t)) (iblk m hO c 4 t) := if_pos h
theorem outAt_not (hO : Ok m) (c : Dev nD) (t : Fin grid0.N) (h : ¬ used m c t) : outAt m hO c t = blank := if_neg h

/-- The copies of a point are what the next one finds. -/
theorem kept_of (hO : Ok m) (c : Dev nD) (t : Fin grid0.N) (s0 : Vec F S1024x2048 .bf16) (s1 : Vec F S1024x1024 .bf16)
    (h : used m c t → s0 = wide (iblk m hO c 1 t) ∧ s1 = down (iblk m hO c 3 t)) : Kept m hO c (t.val + 1) s0 s1 := fun t' e => by
  obtain rfl : t' = t := Fin.ext (by omega)
  exact h

set_option maxHeartbeats 2000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) from rfl, show (dats m hO 0 c).Φ t.castSucc = PhiS m hO c t.val from rfl]
  unfold PhiS
  rw [PhiT0_eq]
  iintro ⟨⟨⟨⟨%s0, %s1, %hk, HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  by_cases hu : used m c t
  · have h2 : k0_cond2 (grid0.coords t) (nuW (F := F) c (tbl m 1)) = 1#1 := (cond2_iff t _).mpr hu
    have h3 : ¬ k0_cond3 (grid0.coords t) (nuW (F := F) c (tbl m 1)) = 1#1 := fun h => (cond3_iff t _).mp h hu
    rw [outAt_used m hO c t hu]
    by_cases hf : freshW (F := F) c (grid0.coords t) (tbl m 0) (tbl m 1) = 1#1
    · iapply (run_fresh c (grid0.coords t) _ _ _ _ _ _ _ _ _ _ _ _ _ _ _ _ (iblk m hO c 0 t) (iblk m hO c 1 t) (iblk m hO c 2 t) (iblk m hO c 3 t) (iblk m hO c 4 t) (tbl m 0) (tbl m 1) s0 s1 Set.univ _ hf h2 h3)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitr [Ho H0 H1 H2 H3 H4 H5]
      swap
      · isplitl [Ho]; · iexact Ho
        isplitl [H0]; · iexact H0
        isplitl [H1]; · iexact H1
        isplitl [H2]; · iexact H2
        isplitl [H3]; · iexact H3
        isplitl [H4]; · iexact H4
        iexact H5
      isplitr [HT0 HT1]
      swap
      · isplitl [HT0]; · iexact HT0
        iexact HT1
      isplitr [Hg]
      swap; · iexact Hg
      iexists _; iexists _
      isplitr [HS0 HS1]
      swap
      · isplitl [HS0]; · iexact HS0
        iexact HS1
      ipureintro; exact kept_of m hO c t _ _ fun _ => ⟨rfl, rfl⟩
    · obtain ⟨e0, e1⟩ := kept_now m hO c t s0 s1 hk hu hf
      subst e0 e1
      iapply (run_again c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ Set.univ _ hf h2 h3)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitr [Ho H0 H1 H2 H3 H4 H5]
      swap
      · isplitl [Ho]; · iexact Ho
        isplitl [H0]; · iexact H0
        isplitl [H1]; · iexact H1
        isplitl [H2]; · iexact H2
        isplitl [H3]; · iexact H3
        isplitl [H4]; · iexact H4
        iexact H5
      isplitr [HT0 HT1]
      swap
      · isplitl [HT0]; · iexact HT0
        iexact HT1
      isplitr [Hg]
      swap; · iexact Hg
      iexists _; iexists _
      isplitr [HS0 HS1]
      swap
      · isplitl [HS0]; · iexact HS0
        iexact HS1
      ipureintro; exact kept_of m hO c t _ _ fun _ => ⟨rfl, rfl⟩
  · have h2 : ¬ k0_cond2 (grid0.coords t) (nuW (F := F) c (tbl m 1)) = 1#1 := fun h => hu ((cond2_iff t _).mp h)
    have h3 : k0_cond3 (grid0.coords t) (nuW (F := F) c (tbl m 1)) = 1#1 := (cond3_iff t _).mpr hu
    have hf : ¬ freshW (F := F) c (grid0.coords t) (tbl m 0) (tbl m 1) = 1#1 := fun h => hu ((freshW_iff m c t).mp h).1
    rw [outAt_not m hO c t hu]
    · iapply (run_blank c (grid0.coords t) _ _ _ _ _ _ _ _ _ _ _ _ _ _ _ _ (iblk m hO c 0 t) (iblk m hO c 1 t) (iblk m hO c 2 t) (iblk m hO c 3 t) (iblk m hO c 4 t) (tbl m 0) (tbl m 1) s0 s1 Set.univ _ hf h2 h3)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitr [Ho H0 H1 H2 H3 H4 H5]
      swap
      · isplitl [Ho]; · iexact Ho
        isplitl [H0]; · iexact H0
        isplitl [H1]; · iexact H1
        isplitl [H2]; · iexact H2
        isplitl [H3]; · iexact H3
        isplitl [H4]; · iexact H4
        iexact H5
      isplitr [HT0 HT1]
      swap
      · isplitl [HT0]; · iexact HT0
        iexact HT1
      isplitr [Hg]
      swap; · iexact Hg
      iexists _; iexists _
      isplitr [HS0 HS1]
      swap
      · isplitl [HS0]; · iexact HS0
        iexact HS1
      ipureintro; exact kept_of m hO c t _ _ fun h => absurd h hu

/-- The row of the body's table is that body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- One of two bits being one. -/
theorem some_one : ∀ x y : BitVec 1, x = 1#1 ∨ y = 1#1 → (!(x == 1#1) && !(y == 1#1)) = false := by decide

/-- The count of blocks in use, as the launch reads it off the tables. -/
theorem count_eq (c : Dev nD) : (tbl m).atD 1 ![0] = nuW (F := F) c (tbl m 1) := by
  have e : ∀ x y : S1.Idx, x = y := fun x y => funext fun a => match a with | 0 => Subsingleton.elim (α := Fin 1) _ _
  have h : ∀ a : Fin 1, (![0] : Fin 1 → ℕ) a + 1 ≤ S1.size a := by decide
  refine (dif_pos h).trans ?_
  exact congrArg (tbl m 1) (e _ _)

/-- The output's block is stored at every point, in one branch or the other. -/
theorem stored_once (c : Dev nD) (t : Fin grid0.N) :
    k0_cond2 (grid0.coords t) ((tbl m).atD 1 ![0]) = 1#1 ∨ k0_cond3 (grid0.coords t) ((tbl m).atD 1 ![0]) = 1#1 := by
  rw [count_eq m c, cond2_iff, cond3_iff]
  exact Classical.em _

theorem idle_eq (pf : pre0.Contents (Elt F)) (i : grid0.Coords) :
    idle0 pf 5 i = (!(k0_cond2 i (pf.atD 1 ![0]) == 1#1) && !(k0_cond3 i (pf.atD 1 ![0]) == 1#1)) := rfl
theorem idle_out (c : Dev nD) (t : Fin grid0.N) : idle0 (tbl m) 5 (grid0.coords t) = false := by
  rw [idle_eq]; exact some_one _ _ (stored_once m c t)
theorem idle_cfg (hO : Ok m) (w : Fin 6) (i : grid0.Coords) : (cfgM m hO).idle w i = idle0 (tbl m) w i := rfl
theorem not_idle (hO : Ok m) (c : Dev nD) (t : Fin (cfgM m hO).N) : (cfgM m hO).idle 5 ((cfgM m hO).grid.coords t) = false :=
  (idle_cfg m hO 5 (grid0.coords t)).trans (idle_out m c t)

/-- What is asked of an output stored at a point. -/
theorem stored (b f : Bool) (P Q R : sProp 𝕄) : b = false →
    (P ⊢ (match b with | true => (match f with | false => Q | true => R) | false => P)) := by
  intro hb; subst hb; exact .rfl

/-- The body does what the launch asks of it, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  have h := stored _ (((cfgM m hO).win 5).flush t) (owns (c : Thread nD τ) (ms0_5 m hO t) fullShare ((dats m hO 0 c).after 5 t))
    iprop(∃ d, owns (c : Thread nD τ) (ms0_5 m hO t) fullShare ((dats m hO 0 c).before 5 t d)) (owns (c : Thread nD τ) (ms0_5 m hO t) fullShare ((dats m hO 0 c).after 5 t)) (not_idle m hO c t)
  exact BIClass.sep_mono (Entails.refl _) (BIClass.sep_mono (Entails.refl _) (BIClass.sep_mono (Entails.refl _) (BIClass.sep_mono (Entails.refl _)
    (BIClass.sep_mono (Entails.refl _) (BIClass.sep_mono (Entails.refl _) (BIClass.sep_mono (Entails.refl _) h))))))

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨⟨%s0, HS0⟩, ⟨%s1, HS1⟩⟩, Hg⟩, HT⟩
  isplitr [HT]
  swap; · iexact HT
  isplitr [Hg]
  swap; · iexact Hg
  iexists s0; iexists s1
  isplitr [HS0 HS1]
  swap
  · isplitl [HS0]; · iexact HS0
    iexact HS1
  ipureintro; exact fun t e => absurd e (Nat.succ_ne_zero _)

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val from rfl, PhiA0_eq]
  unfold PhiS
  iintro ⟨⟨⟨%s0, %s1, -, HS0, HS1⟩, Hg⟩, -⟩
  isplitl [HS0 HS1]
  · isplitl [HS0]
    · iexists _; iexact HS0
    iexists _; iexact HS1
  iexact Hg

set_option backward.isDefEq.respectTransparency.types false in
/-- The launch runs to the end, the arrays as computed and the counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame of the expert call, when its tables name experts there are. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ExpertsIdeal.Ex

end
-- ==== Proof.ExBits.lean ====
/- The expert call as printed, run over machine words: the same program as its idealization, so the same run. -/
module

public import proofs.«01_k».proof.Proof.ExFrame
public import proofs.«01_k».proof.Proof.Gen.Experts.Launch

@[expose] public section

set_option maxRecDepth 65536
set_option maxHeartbeats 2000000

namespace Cert.Experts.Ex

open Idealize.ShloMosaic Idealize.ShloMosaic.TcCoe Idealize.SL.Sem

/-- The calls the printed and the idealized program make are the same program, read over machine words. -/
theorem defs₀_eq : (Cert.Experts.defs₀ (F := Bits)) = Cert.ExpertsIdeal.defs₀ (F := Bits) := by
  unfold Cert.Experts.defs₀ Cert.ExpertsIdeal.defs₀
  refine congrArg _ ?_
  funext l a
  match l, a with
  | 0, (t, s) => rfl

/-- So are their pipelines. -/
theorem defs_eq : (Cert.Experts.defs (F := Bits)) = Cert.ExpertsIdeal.defs (F := Bits) :=
  congrArg (fun d => Pipeline.defs (Cert.Experts.pcfgs (F := Bits)) d) defs₀_eq

/-- The printed program leaves its arguments alone. -/
theorem frame (m : (ℓ : Loc Cert.Experts.nD Cert.Experts.τ Cert.Experts.sig) → Buf (Elt Bits) ℓ) (ρ : Dev Cert.Experts.nD → PrngReg)
    (hO : Cert.ExpertsIdeal.Ex.Ok (F := Bits) m) : θ_run (Cert.Experts.defs (F := Bits)) (onTc (τ := Cert.Experts.τ) (Cert.Experts.main (F := Bits))) ⟨m, fun _ => 0, ρ⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0) := by
  rw [defs_eq]
  exact Cert.ExpertsIdeal.Ex.frame (F := Bits) m ρ hO

end Cert.Experts.Ex

end
-- ==== Proof.ExArr.lean ====
/- The array the expert call leaves, block by block. -/
module

public import proofs.«01_k».proof.Proof.ExFrame

@[expose] public section

set_option maxRecDepth 16384

noncomputable section

namespace Cert.ExpertsIdeal.Ex

open Cert.ExpertsIdeal Cert.ExpertsIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (hO : Ok m) (c : Dev nD)

/-- Where a point's block of the result stands. -/
theorem out_index (t : Fin grid0.N) : ((cfgM m hO).win 5).index t = ![t.val, 0] :=
  (by decide +kernel : ∀ t : Fin grid0.N, cc0_transform_5 (grid0.coords t) = ![t.val, 0]) t

/-- Two points' blocks of the result do not meet. -/
theorem out_disjoint (t t' : Fin (cfgM m hO).N) (h : ((cfgM m hO).win 5).flush t = true) (h' : ((cfgM m hO).win 5).flush t' = true) (hne : t ≠ t') :
    Disjoint (((cfgM m hO).win 5).blk t).view.set (((cfgM m hO).win 5).blk t').view.set :=
  ((cfgM m hO).win 5).disjoint_blk fun e => hne (Fin.ext (by
    have e0 := congrFun ((out_index m hO t).symm.trans (e.trans (out_index m hO t'))) 0
    exact e0))

/-- The array, at a row of a point, is what the point leaves. -/
theorem arr (t : Fin grid0.N) (i : Fin 512) (j : Fin 1024) :
    (dats m hO 0 c).arrAt 5 (cfgM m hO).N (ix2 ⟨512 * t.val + i.val, by have := val_lt t; omega⟩ j) = outAt m hO c t (ix2 i j) := by
  have e := out_index m hO t
  have b : (((cfgM m hO).win 5).blk t).view.read (Elt F) ((dats m hO 0 c).arrAt 5 (cfgM m hO).N) = (dats m hO 0 c).flushed 5 t :=
    (dats m hO 0 c).read_blk_arrAt_eq_flushed 5 (out_disjoint m hO) (cfgM m hO).N t t.isLt (flush0_5 _ t)
  have f : (dats m hO 0 c).flushed 5 t = ((cfgM m hO).win 5).cut (grid0.coords t) (outAt m hO c t) := by
    show ((cfgM m hO).win 5).cut (grid0.coords t) ((dats m hO 0 c).after 5 t) = _
    rw [after0_5]
  have g : ∀ (x : Vec F S278528x1024 .f32), (((cfgM m hO).win 5).blk t).view.read (Elt F) x (ix2 i j)
      = x (ix2 ⟨512 * t.val + i.val, by have := val_lt t; omega⟩ j) := fun x => by
    blk_ext [e]
  exact (g _).symm.trans (congrFun (b.trans f) (ix2 i j))

/-- The call ends with that array, and with its arguments as they began. -/
theorem run (v : (c : Dev nD) → Buf (Elt F) ((c.tc : Thread nD τ).loc main_v2)) (hv : ∀ c, (dats m hO 0 c).arrAt 5 (cfgM m hO).N = v c) :
    θ_run defs (onTc (τ := τ) (main (F := F))) ⟨m, fun _ => 0, ρ⟩ (fun r => ∀ c : Dev nD,
      r.2.mem ((c.tc : Thread nD τ).loc main_v2) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 5).trans (hv c), h.2 c⟩) (θ_run_and (run_main m ρ hO) (unchanged m ρ hO))

end Cert.ExpertsIdeal.Ex

end
-- ==== Proof.ExOk.lean ====
/- A table that names experts there are is one the launch takes. -/
module

public import proofs.«01_k».proof.Proof.ExBlk
public import proofs.«01_k».proof.Proof.Gen.Pre_in_range

@[expose] public section

set_option maxRecDepth 16384

noncomputable section

namespace Cert.ExpertsIdeal.Ex

open Cert.ExpertsIdeal Cert.ExpertsIdeal.Gen Idealize.ShloMosaic Idealize.ShloMosaic.TcCoe Idealize.SL.Sem

variable {F : FTy → Type} [FloatOps F]

/-- A block of one expert's stack is inside the 32 of them. -/
theorem inside (v b d : ℕ) (hv : v < 32) (a : Fin 3) : ((![v, 0, 0] : Fin 3 → ℕ) a + 1) * (![1, b, d] : Fin 3 → ℕ) a ≤ (![32, b, d] : Fin 3 → ℕ) a :=
  match a with
  | 0 => by change (v + 1) * 1 ≤ 32; omega
  | 1 => by change (0 + 1) * b ≤ b; omega
  | 2 => by change (0 + 1) * d ≤ d; omega

/-- The launch takes a table whose words are numbers of experts. -/
theorem ok_of (m : (ℓ : Loc nD τ sig) → Buf (Elt F) ℓ) (h : ∀ x : S544.Idx, (show BitVec 32 from tbl m 0 x).toNat < 32) : Ok m :=
  ⟨fun i => ⟨fun a => inside _ _ _ (h _) a, .inl rfl⟩, fun i => ⟨fun a => inside _ _ _ (h _) a, .inl rfl⟩,
    fun i => ⟨fun a => inside _ _ _ (h _) a, .inl rfl⟩, fun i => ⟨fun a => inside _ _ _ (h _) a, .inl rfl⟩⟩

/-- The precondition says the words are numbers of experts. -/
theorem named (be : IVec Cert.Pre_in_range.S544 32) (nu : IVec Cert.Pre_in_range.S1 32) (xs : FVec F Cert.Pre_in_range.S278528x1024 .f32)
    (w1 : FVec F Cert.Pre_in_range.S32x1024x2048 .f32) (b1 : FVec F Cert.Pre_in_range.S32x2048 .f32)
    (w2 : FVec F Cert.Pre_in_range.S32x1024x1024 .f32) (b2 : FVec F Cert.Pre_in_range.S32x1024 .f32)
    (h : Cert.Pre_in_range.fn (F := F) be nu xs w1 b1 w2 b2 = fun _ => 1#1) (x : Cert.Pre_in_range.S544.Idx) : (be x).toNat < 32 := by
  have hx := congrFun h x
  simp only [Cert.Pre_in_range.fn, constantI, broadcastInDim, cmpi, andi] at hx
  obtain ⟨h0, h1⟩ := (and_one _ _).mp hx
  have e0 := (ofBool_one _).mp h0
  have e1 := (ofBool_one _).mp h1
  simp only [BitVec.sle, decide_eq_true_eq] at e0 e1
  have z : (0#32 : BitVec 32).toInt = 0 := by decide
  have y : (31#32 : BitVec 32).toInt = 31 := by decide
  rw [z] at e0; rw [y] at e1
  rw [BitVec.toInt_eq_toNat_cond] at e0 e1
  have := (be x).isLt
  split at e0 <;> omega

end Cert.ExpertsIdeal.Ex

end
-- ==== Proof.ExSpec.lean ====
/- One row through one expert, entry by entry over exact numbers. -/
module

public import Idealize.ShloMosaic.Lib.Pointwise

@[expose] public section

noncomputable section

namespace Cert.Exq

open Idealize.ShloMosaic

/-- The row after the first weights and biases: 1024 gates, then 1024 others. -/
def hid (x : Fin 1024 → EReal) (w : Fin 1024 → Fin 2048 → EReal) (b : Fin 2048 → EReal) (j : Fin 2048) : EReal := (∑ k : Fin 1024, x k * w k j) + b j

/-- A gate, at most seven. -/
def gate (h : Fin 2048 → EReal) (j : Fin 1024) : EReal := min (h ⟨j.val, by omega⟩) (Ideal.ofBits .f32 0x40E00000#32)

/-- What a gate weighs: between minus seven and seven, and one more. -/
def up (h : Fin 2048 → EReal) (j : Fin 1024) : EReal :=
  min (Ideal.ofBits .f32 0x40E00000#32) (max (Ideal.ofBits .f32 0xC0E00000#32) (h ⟨1024 + j.val, by omega⟩)) + Ideal.ofBits .f32 0x3F800000#32

/-- The activation of the two halves. -/
def act (h : Fin 2048 → EReal) (j : Fin 1024) : EReal := up h j * gate h j * Ideal.logistic (Ideal.ofBits .f32 0x3FD9DB23#32 * gate h j)

/-- The row after the second weights and biases. -/
def out (h : Fin 2048 → EReal) (w : Fin 1024 → Fin 1024 → EReal) (b : Fin 1024 → EReal) (j : Fin 1024) : EReal := (∑ k : Fin 1024, act h k * w k j) + b j

/-- The row an expert makes of a row. -/
def expert (x : Fin 1024 → EReal) (w1 : Fin 1024 → Fin 2048 → EReal) (b1 : Fin 2048 → EReal) (w2 : Fin 1024 → Fin 1024 → EReal) (b2 : Fin 1024 → EReal)
    (j : Fin 1024) : EReal := out (hid x w1 b1) w2 b2 j

end Cert.Exq

end
-- ==== Proof.ExPay.lean ====
/- The arithmetic of the expert call, read at one entry. -/
module

public import proofs.«01_k».proof.Proof.ExSkel
public import proofs.«01_k».proof.Proof.ExSpec
public import Idealize.ShloMosaic.Lib.Pointwise

@[expose] public section

set_option maxRecDepth 16384

noncomputable section

namespace Cert.ExpertsIdeal.Ex

open Cert.ExpertsIdeal Cert.ExpertsIdeal.Gen Idealize.ShloMosaic Idealize.ShloMosaic.TcCoe Idealize.SL.Sem Cert.Exq

/-- The kept first weights, entry by entry. -/
theorem wide_read (w : Vec Ideal S1x1024x2048 .f32) (i : Fin 1024) (j : Fin 2048) : (wide w : FVec Ideal S1024x2048 .bf16) (ix2 i j) = w (ix3 0 i j) := by
  pointwise [wide]

/-- The kept second weights, entry by entry. -/
theorem down_read (w : Vec Ideal S1x1024x1024 .f32) (i j : Fin 1024) : (down w : FVec Ideal S1024x1024 .bf16) (ix2 i j) = w (ix3 0 i j) := by
  pointwise [down]

/-- The block after the first weights and biases. -/
def first (v20 : Vec Ideal S512x1024 .f32) (v22 : FVec Ideal S1024x2048 .bf16) (v24 : Vec Ideal S1x1x2048 .f32) : FVec Ideal S512x2048 .f32 :=
  addf (matmul dot_S512x1024_S1024x2048_S512x2048_1_0_0_1_n_n none (truncf .bf16 v20 bitsLt_bf16_f32 : FVec Ideal S512x1024 .bf16) v22 (constant S512x2048 .f32 0x00000000#32))
    (broadcastTo S512x2048 (shapeCast S1x2048 v24 shapeCasts_S1x1x2048_S1x2048) broadcasts_S1x2048_S512x2048)

/-- The block after the activation. -/
def mid (v27 : FVec Ideal S512x2048 .f32) : FVec Ideal S512x1024 .f32 :=
  have v28 : FVec Ideal S512x1024 .f32 := extractStridedSlice S512x1024 ![0, 0] v27 slices_S512x2048_o0_0_S512x1024
  have v30 : FVec Ideal S512x1024 .f32 := minimumf v28 (broadcast S512x1024 (Scalar.ofBits .f32 0x40E00000#32))
  have v31 : FVec Ideal S512x1024 .f32 := extractStridedSlice S512x1024 ![0, 1024] v27 slices_S512x2048_o0_1024_S512x1024
  have v33 : FVec Ideal S512x1024 .f32 := maximumf (broadcast S512x1024 (Scalar.ofBits .f32 0xC0E00000#32)) v31
  have v35 : FVec Ideal S512x1024 .f32 := minimumf (broadcast S512x1024 (Scalar.ofBits .f32 0x40E00000#32)) v33
  have v37 : FVec Ideal S512x1024 .f32 := addf v35 (broadcast S512x1024 (Scalar.ofBits .f32 0x3F800000#32))
  mulf (mulf v37 v30) (logistic (mulf (broadcast S512x1024 (Scalar.ofBits .f32 0x3FD9DB23#32)) v30))

/-- The block after the second weights and biases. -/
def second (v42 : FVec Ideal S512x1024 .f32) (v44 : FVec Ideal S1024x1024 .bf16) (v46 : Vec Ideal S1x1x1024 .f32) : FVec Ideal S512x1024 .f32 :=
  addf (matmul dot_S512x1024_S1024x1024_S512x1024_1_0_0_1_n_n none (truncf .bf16 v42 bitsLt_bf16_f32 : FVec Ideal S512x1024 .bf16) v44 (constant S512x1024 .f32 0x00000000#32))
    (broadcastTo S512x1024 (shapeCast S1x1024 v46 shapeCasts_S1x1x1024_S1x1024) broadcasts_S1x1024_S512x1024)

theorem through_eq (v20 : Vec Ideal S512x1024 .f32) (v22 : Vec Ideal S1024x2048 .bf16) (v24 : Vec Ideal S1x1x2048 .f32) (v44 : Vec Ideal S1024x1024 .bf16) (v46 : Vec Ideal S1x1x1024 .f32) :
    through v20 v22 v24 v44 v46 = second (mid (first v20 v22 v24)) v44 v46 := rfl

theorem first_read (v20 : Vec Ideal S512x1024 .f32) (v22 : FVec Ideal S1024x2048 .bf16) (v24 : Vec Ideal S1x1x2048 .f32) (i : Fin 512) (j : Fin 2048) :
    first v20 v22 v24 (ix2 i j) = hid (fun k => v20 (ix2 i k)) (fun k j => v22 (ix2 k j)) (fun j => v24 (ix3 0 0 j)) j := by
  unfold hid
  pointwise [first]

theorem mid_read (v27 : FVec Ideal S512x2048 .f32) (i : Fin 512) (j : Fin 1024) : mid v27 (ix2 i j) = act (fun j => v27 (ix2 i j)) j := by
  have e0 : (extractStridedSlice S512x1024 ![0, 0] v27 slices_S512x2048_o0_0_S512x1024 : FVec Ideal S512x1024 .f32) (ix2 i j) = v27 (ix2 i ⟨j.val, by omega⟩) := by
    pointwise []
  have e1 : (extractStridedSlice S512x1024 ![0, 1024] v27 slices_S512x2048_o0_1024_S512x1024 : FVec Ideal S512x1024 .f32) (ix2 i j) = v27 (ix2 i ⟨1024 + j.val, by omega⟩) := by
    pointwise []
  unfold act up gate
  dsimp only
  rw [← e0, ← e1]
  rfl

theorem second_read (v42 : FVec Ideal S512x1024 .f32) (v44 : FVec Ideal S1024x1024 .bf16) (v46 : Vec Ideal S1x1x1024 .f32) (i : Fin 512) (j : Fin 1024) :
    second v42 v44 v46 (ix2 i j) = (∑ k : Fin 1024, v42 (ix2 i k) * v44 (ix2 k j)) + v46 (ix3 0 0 j) := by
  pointwise [second]

/-- One block through one expert, entry by entry. -/
theorem through_read (x : Vec Ideal S512x1024 .f32) (w1 : Vec Ideal S1x1024x2048 .f32) (b1 : Vec Ideal S1x1x2048 .f32) (w2 : Vec Ideal S1x1024x1024 .f32) (b2 : Vec Ideal S1x1x1024 .f32)
    (i : Fin 512) (j : Fin 1024) : through x (wide w1) b1 (down w2) b2 (ix2 i j)
      = expert (fun k => x (ix2 i k)) (fun k j => w1 (ix3 0 k j)) (fun j => b1 (ix3 0 0 j)) (fun k j => w2 (ix3 0 k j)) (fun j => b2 (ix3 0 0 j)) j := by
  rw [through_eq, second_read]
  unfold expert out
  refine congrArg (· + _) (Finset.sum_congr rfl fun k _ => congrArg₂ (· * ·) ?_ (down_read w2 k j))
  rw [mid_read]
  refine congrArg (fun h => act h k) (funext fun j => (first_read _ _ _ i j).trans ?_)
  exact congrArg (fun w => hid _ w _ j) (funext fun k => funext fun j => wide_read w1 k j)

/-- The block no expert takes, entry by entry. -/
theorem blank_read (i : Fin 512) (j : Fin 1024) : (blank : FVec Ideal S512x1024 .f32) (ix2 i j) = Ideal.ofBits .f32 0x00000000#32 := rfl

end Cert.ExpertsIdeal.Ex

end
-- ==== Proof.ExRef.lean ====
/- The reference's experts, stage by stage: its one result, entry by entry. -/
module

public import proofs.«01_k».proof.Proof.ExSpec
public import proofs.«01_k».proof.Proof.ExWord
public import proofs.«01_k».proof.Proof.Gen.ReferenceExpertsIdeal.Read
public import Idealize.ShloMosaic.Lib.Pointwise
public import Idealize.ShloMosaic.Lib.ValueIdxCore
public import Idealize.ShloMosaic.Lib.Routing.Ops

@[expose] public section

set_option maxRecDepth 16384

noncomputable section

namespace Cert.ReferenceExpertsIdeal.Read

open Cert.ReferenceExpertsIdeal Cert.ReferenceExpertsIdeal.Gen Idealize.ShloMosaic Idealize.ShloMosaic.StableHlo Cert.Exq

section Stack
variable {α : Type}

/-- Taking whole matrices out of a stack of them, by number. -/
abbrev stackDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where a number is in range, the matrix taken is the one of that number. -/
theorem gather_stack {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (a : Fin A) (b : Fin B) (e : Fin N)
    (he : idx (ix2 c 0) = BitVec.ofNat 32 e.val) (hN : N < 2 ^ 31) :
    Host.gather (stackDims N A B n wf) x idx (ix3 c a b) = x (ix3 e a b) := by
  unfold Host.gather
  refine congrArg x (funext fun k => Fin.ext ?_)
  show (stackDims N A B n wf).start (ix3 c a b) idx k + (stackDims N A B n wf).batchCoord (ix3 c a b) k
      + (stackDims N A B n wf).offCoord (ix3 c a b) k = _
  have hb : ∀ k, (stackDims N A B n wf).batchCoord (ix3 c a b) k = 0 := fun k => GatherDims.batchCoord_eq_zero _ _ _ (fun h => List.not_mem_nil h)
  rw [hb k, Nat.add_zero]
  match k with
  | ⟨0, _⟩ =>
    have hk : (0 : Fin 3) ∉ (stackDims N A B n wf).sKept := fun h => ((GatherDims.mem_sKept _ _).mp h).1 (List.mem_singleton.mpr rfl)
    show (stackDims N A B n wf).start (ix3 c a b) idx 0 + (stackDims N A B n wf).offCoord (ix3 c a b) 0 = e.val
    rw [GatherDims.offCoord_eq_zero _ _ _ hk, Nat.add_zero]
    unfold GatherDims.start
    rw [dif_pos (show (0 : Fin 3) ∈ (stackDims N A B n wf).startIndexMap from List.mem_singleton.mpr rfl)]
    have hsi : (stackDims N A B n wf).siIdx (ix3 c a b) ⟨List.idxOf (0 : Fin 3) (stackDims N A B n wf).startIndexMap,
        List.idxOf_lt_length_iff.2 (List.mem_singleton.mpr rfl)⟩ = ix2 c 0 := by
      funext b'; refine Fin.ext ?_
      match b' with
      | ⟨0, _⟩ => rfl
      | ⟨1, _⟩ => rfl
    rw [hsi, he, StableHlo.Predicate.toInt_ofNat_small _ (by have := e.isLt; omega)]
    show min ((e.val : ℤ)).toNat (N - 1) = e.val
    have := e.isLt
    omega
  | ⟨1, _⟩ =>
    show (stackDims N A B n wf).start (ix3 c a b) idx 1 + (stackDims N A B n wf).offCoord (ix3 c a b) 1 = a.val
    unfold GatherDims.start
    rw [dif_neg (show (1 : Fin 3) ∉ ([0] : List (Fin 3)) by decide), Nat.zero_add]
    unfold GatherDims.offCoord
    rw [dif_pos (show (1 : Fin 3) ∈ (stackDims N A B n wf).sKept from (GatherDims.mem_sKept _ _).mpr ⟨(show (1 : Fin 3) ∉ ([0] : List (Fin 3)) by decide), List.not_mem_nil⟩)]
    rfl
  | ⟨2, _⟩ =>
    show (stackDims N A B n wf).start (ix3 c a b) idx 2 + (stackDims N A B n wf).offCoord (ix3 c a b) 2 = b.val
    unfold GatherDims.start
    rw [dif_neg (show (2 : Fin 3) ∉ ([0] : List (Fin 3)) by decide), Nat.zero_add]
    unfold GatherDims.offCoord
    rw [dif_pos (show (2 : Fin 3) ∈ (stackDims N A B n wf).sKept from (GatherDims.mem_sKept _ _).mpr ⟨(show (2 : Fin 3) ∉ ([0] : List (Fin 3)) by decide), List.not_mem_nil⟩)]
    rfl

end Stack

variable (x0 : (⟨S544, .i32⟩ : BufTy).Contents (Elt Ideal)) (x1 : (⟨S1, .i32⟩ : BufTy).Contents (Elt Ideal)) (x2 : (⟨S278528x1024, .f32⟩ : BufTy).Contents (Elt Ideal))
  (x3 : (⟨S32x1024x2048, .f32⟩ : BufTy).Contents (Elt Ideal)) (x4 : (⟨S32x2048, .f32⟩ : BufTy).Contents (Elt Ideal))
  (x5 : (⟨S32x1024x1024, .f32⟩ : BufTy).Contents (Elt Ideal)) (x6 : (⟨S32x1024, .f32⟩ : BufTy).Contents (Elt Ideal))
  (hr : ∀ x : S544.Idx, (show BitVec 32 from x0 x).toNat < 32)

/-- The expert of a block. -/
def ex (b : Fin 544) : Fin 32 := ⟨(show BitVec 32 from x0 (ix1 b)).toNat, hr (ix1 b)⟩

/-- A number in range is not below zero, so the reference takes it as it is. -/
theorem kept (v : BitVec 32) (h : v.toNat < 32) : Scalar.select (IntOp.cmpi .slt v 0#32) (IntOp.addi v 32#32) v = BitVec.ofNat 32 v.toNat := by
  have e : IntOp.cmpi .slt v 0#32 = 0#1 := by
    have : v.slt 0#32 = false := by
      simp only [BitVec.slt, decide_eq_false_iff_not, not_lt]
      have z : (0#32 : BitVec 32).toInt = 0 := by decide
      rw [z, BitVec.toInt_eq_toNat_cond]; split <;> omega
    show BitVec.ofBool (v.slt 0#32) = 0#1
    rw [this]; rfl
  rw [e]
  unfold Scalar.select
  rw [if_neg (by decide)]
  simp

theorem at6 (b : Fin 544) : val_main_v6 (F := Ideal) x0 (ix2 b 0) = BitVec.ofNat 32 (ex x0 hr b).val := by
  rw [val_main_v6_apply, show idx_main_v6 (ix2 b 0) = ix1 b from funext fun a => match a with | ⟨0, _⟩ => rfl, val_main_v5_apply, val_main_v2_apply, val_main_v4_apply, val_main_v1_apply, val_main_v3_apply]
  exact kept _ (hr (ix1 b))

theorem at14 (b : Fin 544) : val_main_v14 (F := Ideal) x0 (ix2 b 0) = BitVec.ofNat 32 (ex x0 hr b).val := at6 x0 hr b
theorem at41 (b : Fin 544) : val_main_v41 (F := Ideal) x0 (ix2 b 0) = BitVec.ofNat 32 (ex x0 hr b).val := at6 x0 hr b
theorem at49 (b : Fin 544) : val_main_v49 (F := Ideal) x0 (ix2 b 0) = BitVec.ofNat 32 (ex x0 hr b).val := at6 x0 hr b

/-- The weights and biases of a block's expert. -/
theorem w1_read (b : Fin 544) (k : Fin 1024) (j : Fin 2048) : val_main_v7 (F := Ideal) x0 x3 (ix3 b k j) = x3 (ix3 (ex x0 hr b) k j) :=
  gather_stack _ x3 _ b k j _ (at6 x0 hr b) (by decide)
theorem w2_read (b : Fin 544) (k j : Fin 1024) : val_main_v42 (F := Ideal) x0 x5 (ix3 b k j) = x5 (ix3 (ex x0 hr b) k j) :=
  gather_stack _ x5 _ b k j _ (at41 x0 hr b) (by decide)
theorem b1_read (b : Fin 544) (j : Fin 2048) : val_main_v15 (F := Ideal) x0 x4 (ix2 b j) = x4 (ix2 (ex x0 hr b) j) :=
  Routing.gather_row _ rfl rfl rfl rfl rfl x4 _ b j _ (at14 x0 hr b) (by decide)
theorem b2_read (b : Fin 544) (j : Fin 1024) : val_main_v50 (F := Ideal) x0 x6 (ix2 b j) = x6 (ix2 (ex x0 hr b) j) :=
  Routing.gather_row _ rfl rfl rfl rfl rfl x6 _ b j _ (at49 x0 hr b) (by decide)

/-- A row of a block after the first weights and biases. -/
def rH (b : Fin 544) (i : Fin 512) : Fin 2048 → EReal :=
  hid (fun k => x2 (ix2 ⟨512 * b.val + i.val, by omega⟩ k)) (fun k j => x3 (ix3 (ex x0 hr b) k j)) (fun j => x4 (ix2 (ex x0 hr b) j))

theorem hid_read (b : Fin 544) (i : Fin 512) (j : Fin 2048) : val_main_v18 (F := Ideal) x0 x2 x3 x4 (ix3 b i j) = rH x0 x2 x3 x4 hr b i j := by
  rw [val_main_v18_apply, val_main_v8_apply, val_main_v17_apply, val_main_v16_apply]
  unfold rH hid
  refine congrArg₂ (· + ·) (Finset.sum_congr rfl fun k _ => congrArg₂ (· * ·) ?_ ?_) ?_
  · rw [val_main_v0_apply]
    refine congrArg x2 (funext fun a => Fin.ext ?_)
    match a with
    | ⟨0, _⟩ => show ((b.val * 512 + i.val) * 1024 + k.val) / 1024 = 512 * b.val + i.val; omega
    | ⟨1, _⟩ => show ((b.val * 512 + i.val) * 1024 + k.val) % 1024 = k.val; omega
  · exact (congrArg (val_main_v7 (F := Ideal) x0 x3) (show ridx_main_v8 (ix3 b i j) k = ix3 b k j from funext fun a => match a with | ⟨0, _⟩ => rfl | ⟨1, _⟩ => rfl | ⟨2, _⟩ => rfl)).trans (w1_read x0 x3 hr b k j)
  · exact (congrArg (val_main_v15 (F := Ideal) x0 x4) (show idx_main_v16 (idx_main_v17 (ix3 b i j)) = ix2 b j from funext fun a => match a with | ⟨0, _⟩ => rfl | ⟨1, _⟩ => rfl)).trans (b1_read x0 x4 hr b j)

theorem gate_read (b : Fin 544) (i : Fin 512) (j : Fin 1024) : val_main_v22 (F := Ideal) x0 x2 x3 x4 (ix3 b i j) = gate (rH x0 x2 x3 x4 hr b i) j := by
  rw [val_main_v22_apply, val_main_v19_apply, val_main_v21_apply]
  unfold gate
  exact congrArg (min · _) ((congrArg (val_main_v18 (F := Ideal) x0 x2 x3 x4) (show idx_main_v19 (ix3 b i j) = ix3 b i ⟨j.val, by omega⟩ from funext fun a => match a with | ⟨0, _⟩ => rfl | ⟨1, _⟩ => rfl | ⟨2, _⟩ => rfl)).trans (hid_read x0 x2 x3 x4 hr b i _))

theorem up_read (b : Fin 544) (i : Fin 512) (j : Fin 1024) : val_main_v25 (F := Ideal) x0 x2 x3 x4 (ix3 b i j) = up (rH x0 x2 x3 x4 hr b i) j := by
  rw [val_main_v25_apply, val_main_v23_apply, val_main_call0_v4_apply, val_main_call0_v2_apply, val_main_call0_v1_apply, val_main_v20_apply, val_main_v24_apply]
  unfold up
  exact congrArg (fun x => min _ (max _ x) + _) ((congrArg (val_main_v18 (F := Ideal) x0 x2 x3 x4) (show idx_main_v20 (ix3 b i j) = ix3 b i ⟨1024 + j.val, by omega⟩ from funext fun a => match a with | ⟨0, _⟩ => rfl | ⟨1, _⟩ => rfl | ⟨2, _⟩ => rfl)).trans (hid_read x0 x2 x3 x4 hr b i _))

/-- The reference's reciprocal of one more than an exponential is the logistic function. -/
theorem sigmoid (x : EReal) : Ideal.div (Ideal.ofBits .f32 0x3F800000#32) (Ideal.ofBits .f32 0x3F800000#32 + Ideal.exp (-x)) = Ideal.logistic x := by
  rw [Ideal.ofBits_one_f32]; rfl

theorem act_read (b : Fin 544) (i : Fin 512) (j : Fin 1024) : val_main_v35 (F := Ideal) x0 x2 x3 x4 (ix3 b i j) = act (rH x0 x2 x3 x4 hr b i) j := by
  rw [val_main_v35_apply, val_main_v26_apply, val_main_v34_apply, val_main_v33_apply, val_main_v32_apply, val_main_v31_apply, val_main_v30_apply, val_main_v29_apply,
    val_main_v28_apply, val_main_v27_apply, up_read x0 x2 x3 x4 hr, gate_read x0 x2 x3 x4 hr]
  unfold act
  exact congrArg (_ * ·) (sigmoid _)

theorem out_read (b : Fin 544) (i : Fin 512) (j : Fin 1024) : val_main_v53 (F := Ideal) x0 x2 x3 x4 x5 x6 (ix3 b i j)
    = out (rH x0 x2 x3 x4 hr b i) (fun k j => x5 (ix3 (ex x0 hr b) k j)) (fun j => x6 (ix2 (ex x0 hr b) j)) j := by
  rw [val_main_v53_apply, val_main_v43_apply, val_main_v52_apply, val_main_v51_apply]
  unfold out
  refine congrArg₂ (· + ·) (Finset.sum_congr rfl fun k _ => congrArg₂ (· * ·) ?_ ?_) ?_
  · exact (congrArg (val_main_v35 (F := Ideal) x0 x2 x3 x4) (show lidx_main_v43 (ix3 b i j) k = ix3 b i k from funext fun a => match a with | ⟨0, _⟩ => rfl | ⟨1, _⟩ => rfl | ⟨2, _⟩ => rfl)).trans (act_read x0 x2 x3 x4 hr b i k)
  · exact (congrArg (val_main_v42 (F := Ideal) x0 x5) (show ridx_main_v43 (ix3 b i j) k = ix3 b k j from funext fun a => match a with | ⟨0, _⟩ => rfl | ⟨1, _⟩ => rfl | ⟨2, _⟩ => rfl)).trans (w2_read x0 x5 hr b k j)
  · exact (congrArg (val_main_v50 (F := Ideal) x0 x6) (show idx_main_v51 (idx_main_v52 (ix3 b i j)) = ix2 b j from funext fun a => match a with | ⟨0, _⟩ => rfl | ⟨1, _⟩ => rfl)).trans (b2_read x0 x6 hr b j)

/-- Whether a block is in use. -/
theorem used_iff (b : Fin 544) (i : Fin 512) (j : Fin 1024) : val_main_call1_v1 (F := Ideal) x1 (ix3 b i j) = 1#1 ↔ (b.val : ℤ) < (show BitVec 32 from x1 (ix1 0)).toInt := by
  rw [val_main_call1_v1_apply, val_main_v58_apply, val_main_v57_apply, val_main_v54_apply, val_main_v56_apply]
  have e : val_main_v55 (F := Ideal) x1 (idx_main_v56 (idx_main_v58 (idx_main_call1_v1 (ix3 b i j)))) = x1 (ix1 0) := by
    unfold val_main_v55 shapeCast
    exact congrArg x1 (funext fun a => match a with | ⟨0, _⟩ => Subsingleton.elim (α := Fin 1) _ _)
  rw [e]
  refine (Cert.ExpertsIdeal.Ex.ofBool_one _).trans ?_
  rw [← Cert.ExpertsIdeal.Ex.toInt_block b.val b.isLt]
  simp only [BitVec.slt, decide_eq_true_eq]
  rfl

/-- The result, entry by entry. -/
theorem result (b : Fin 544) (i : Fin 512) (j : Fin 1024) : val_main_v60 (F := Ideal) x0 x1 x2 x3 x4 x5 x6 (ix2 ⟨512 * b.val + i.val, by omega⟩ j)
    = if (b.val : ℤ) < (show BitVec 32 from x1 (ix1 0)).toInt then
        expert (fun k => x2 (ix2 ⟨512 * b.val + i.val, by omega⟩ k)) (fun k j => x3 (ix3 (ex x0 hr b) k j)) (fun j => x4 (ix2 (ex x0 hr b) j))
          (fun k j => x5 (ix3 (ex x0 hr b) k j)) (fun j => x6 (ix2 (ex x0 hr b) j)) j
      else Ideal.ofBits .f32 0x00000000#32 := by
  rw [val_main_v60_apply]
  refine (congrArg (val_main_v59 (F := Ideal) x0 x1 x2 x3 x4 x5 x6) (show _ = ix3 b i j from funext fun a => Fin.ext ?_)).trans ?_
  · match a with
    | ⟨0, _⟩ => show ((512 * b.val + i.val) * 1024 + j.val) / 524288 = b.val; omega
    | ⟨1, _⟩ => show ((512 * b.val + i.val) * 1024 + j.val) / 1024 % 512 = i.val; omega
    | ⟨2, _⟩ => show ((512 * b.val + i.val) * 1024 + j.val) % 1024 = j.val; omega
  · rw [val_main_v59_apply, val_main_call1_v2_apply, out_read x0 x2 x3 x4 x5 x6 hr]
    unfold Scalar.select
    exact if_congr (used_iff x1 b i j) rfl rfl

end Cert.ReferenceExpertsIdeal.Read

end
-- ==== Proof.ExEq.lean ====
/- The expert call's array is the reference's. -/
module

public import proofs.«01_k».proof.Proof.ExArr
public import proofs.«01_k».proof.Proof.ExOk
public import proofs.«01_k».proof.Proof.ExPay
public import proofs.«01_k».proof.Proof.ExRef

@[expose] public section

set_option maxRecDepth 16384

noncomputable section

namespace Cert.ExpertsIdeal.Ex

open Cert.ExpertsIdeal Cert.ExpertsIdeal.Gen Idealize.ShloMosaic Idealize.ShloMosaic.TcCoe Idealize.SL.Sem Cert.Exq

section Words
variable {F : FTy → Type} [FloatOps F]
variable (m : (ℓ : Loc nD τ sig) → Buf (Elt F) ℓ) (hO : Ok m) (c : Dev nD)

/-- The table of experts is the call's first argument, -/
theorem tbl0 : tbl m 0 = m ((c : Thread nD τ).loc main_arg0) := (V_pre m c 0).symm.trans (V_main_arg0 m c)

/-- and the count its second. -/
theorem tbl1 : tbl m 1 = m ((c : Thread nD τ).loc main_arg1) := (V_pre m c 1).symm.trans (V_main_arg1 m c)

/-- The launch takes a table that the precondition holds of. -/
theorem ok_of_pre (h : ∀ c : Dev nD, Cert.Pre_in_range.fn (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) = fun _ => 1#1) : Ok m :=
  ok_of m fun x => by
    rw [tbl0 m 0]
    exact named _ _ _ _ _ _ _ (h 0) x

theorem off1 : ∀ t : Fin grid0.N, k0_off1 (grid0.coords t) = ![t.val] := by decide +kernel

/-- The word a point reads is the argument's at its number. -/
theorem word_eq (t : Fin grid0.N) : word m t = m ((c : Thread nD τ).loc main_arg0) (ix1 ⟨t.val, val_lt t⟩) := by
  rw [← tbl0 m c]
  unfold word
  refine congrArg (tbl m 0) (funext fun a => Fin.ext ?_)
  match a with
  | ⟨0, _⟩ =>
    show k0_off1 (grid0.coords t) 0 + 1 * 0 = t.val
    rw [off1 t]; rfl

/-- The count a point reads is the argument's only word. -/
theorem used_iff (t : Fin grid0.N) : used m c t ↔ (t.val : ℤ) < (show BitVec 32 from m ((c : Thread nD τ).loc main_arg1) (ix1 0)).toInt := by
  unfold used
  have e : nuW (F := F) c (tbl m 1) = m ((c : Thread nD τ).loc main_arg1) (ix1 0) := by
    rw [tbl1 m c]
    exact congrArg (m ((c : Thread nD τ).loc main_arg1)) (funext fun a => match a with | ⟨0, _⟩ => Subsingleton.elim (α := Fin 1) _ _)
  rw [e]
end Words

variable (m : (ℓ : Loc nD τ sig) → Buf (Elt Ideal) ℓ) (hO : Ok m) (c : Dev nD)
  (hr : ∀ x : S544.Idx, (show BitVec 32 from m ((c : Thread nD τ).loc main_arg0) x).toNat < 32)

theorem ex_eq (t : Fin grid0.N) : ex m hO t = Cert.ReferenceExpertsIdeal.Read.ex (m ((c : Thread nD τ).loc main_arg0)) hr ⟨t.val, val_lt t⟩ :=
  Fin.ext (show (word m t).toNat = _ by rw [word_eq m c t]; rfl)

/-- An entry of the block a point leaves. -/
theorem out_read (t : Fin grid0.N) (i : Fin 512) (j : Fin 1024) : outAt m hO c t (ix2 i j)
    = if (t.val : ℤ) < (show BitVec 32 from m ((c : Thread nD τ).loc main_arg1) (ix1 0)).toInt then
        expert (fun k => m ((c : Thread nD τ).loc main_arg2) (ix2 ⟨512 * t.val + i.val, by have := val_lt t; omega⟩ k)) (fun k j => m ((c : Thread nD τ).loc main_arg3) (ix3 (ex m hO t) k j))
          (fun j => m ((c : Thread nD τ).loc main_arg4) (ix2 (ex m hO t) j)) (fun k j => m ((c : Thread nD τ).loc main_arg5) (ix3 (ex m hO t) k j))
          (fun j => m ((c : Thread nD τ).loc main_arg6) (ix2 (ex m hO t) j)) j
      else Ideal.ofBits .f32 0x00000000#32 := by
  by_cases h : used m c t
  · rw [outAt_used m hO c t h, if_pos ((used_iff m c t).mp h)]
    refine (through_read _ _ _ _ _ i j).trans ?_
    refine congr (congr (congr (congr (congr (congrArg expert (funext fun k => ?_)) (funext fun k => funext fun j => ?_)) (funext fun j => ?_)) (funext fun k => funext fun j => ?_)) (funext fun j => ?_)) rfl
    · exact (blk0 m hO c t i k).trans (congrFun (V_main_arg2 m c) _)
    · exact (blk1 m hO c t k j).trans (congrFun (V_main_arg3 m c) _)
    · exact (blk2 m hO c t j).trans (bias1 m c _ j)
    · exact (blk3 m hO c t k j).trans (congrFun (V_main_arg5 m c) _)
    · exact (blk4 m hO c t j).trans (bias2 m c _ j)
  · rw [outAt_not m hO c t h, if_neg fun h' => h ((used_iff m c t).mpr h')]
    exact blank_read i j

include hr in
/-- The array the call ends with is the reference's. -/
theorem arr_eq : Cert.ReferenceExpertsIdeal.Read.val_main_v60 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) = (dats m hO 0 c).arrAt 5 (cfgM m hO).N := by
  refine funext fun (y : (⟨2, ![278528, 1024]⟩ : Shape).Idx) => ?_
  have h0 : (y 0).val < 278528 := (y 0).isLt
  have hN : grid0.N = 544 := N_0
  have e : y = ix2 ⟨512 * ((y 0).val / 512) + (y 0).val % 512, by omega⟩ (y 1) := funext fun a => Fin.ext (by
    match a with
    | ⟨0, _⟩ => show (y 0).val = 512 * ((y 0).val / 512) + (y 0).val % 512; omega
    | ⟨1, _⟩ => rfl)
  rw [e]
  refine (Cert.ReferenceExpertsIdeal.Read.result _ _ _ _ _ _ _ hr ⟨(y 0).val / 512, by omega⟩ ⟨(y 0).val % 512, by omega⟩ (y 1)).trans ?_
  refine Eq.trans ?_ (arr m hO c ⟨(y 0).val / 512, by omega⟩ ⟨(y 0).val % 512, by omega⟩ (y 1)).symm
  refine Eq.trans ?_ (out_read m hO c _ _ _).symm
  rw [ex_eq m hO c hr]

end Cert.ExpertsIdeal.Ex

end
-- ==== Proof.lean ====
/- The claims: the scan's rows and the reference's are both the layer's, over arrays the scan reads finite; the input
   projection's ten results are the reference's, over any arrays; and so is the expert call's array, over a table in range. -/
module

public import proofs.«01_k».proof.Proof.Gen.Experts.Launch
public import proofs.«01_k».proof.Proof.Gen.ExpertsIdeal.Launch
public import proofs.«01_k».proof.Proof.Gen.ReferenceExpertsIdeal.Run
public import proofs.«01_k».proof.Proof.Gen.ReferenceExpertsIdeal.Read
public import proofs.«01_k».proof.Proof.Gen.Pre_in_range
public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Gen.Inproj.Frame
public import proofs.«01_k».proof.Proof.Gen.InprojIdeal.Value
public import proofs.«01_k».proof.Proof.Gen.ReferenceInprojIdeal.Run
public import proofs.«01_k».proof.Proof.Gen.ReferenceInprojIdeal.Read
public import Idealize.ShloMosaic.Adequacy
public import Idealize.ShloMosaic.Init
public import Idealize.ShloMosaic.Lib.Quiescent
public import proofs.«01_k».proof.Proof.Finite
public import proofs.«01_k».proof.Proof.Fold
public import proofs.«01_k».proof.Proof.RefOut
public import proofs.«01_k».proof.Proof.InEq
public import proofs.«01_k».proof.Proof.ExBits
public import proofs.«01_k».proof.Proof.ExEq

@[expose] public section

noncomputable section

namespace Cert.Proof

open Idealize.ShloMosaic Idealize.SL.Sem

/-- The reference runs, keeps its arguments and leaves every counter zero. -/
theorem ref_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's rows are the reference's, from equal arrays. -/
theorem rows_eq (m : (ℓ : Loc Cert.KernelIdeal.nD Cert.KernelIdeal.τ Cert.KernelIdeal.sig) → Buf (Elt Ideal) ℓ) (c : Dev Cert.KernelIdeal.nD)
    (hP : (Cert.KernelIdeal.Ssd.par m c).Finite) :
    Cert.ReferenceIdeal.Read.val_main_v100 (F := Ideal) (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4))
        (m (c.tc.loc Cert.KernelIdeal.main_arg5)) (m (c.tc.loc Cert.KernelIdeal.main_arg6)) (m (c.tc.loc Cert.KernelIdeal.main_arg7))
        (m (c.tc.loc Cert.KernelIdeal.main_arg8))
      = Cert.KernelIdeal.Value.G12 (F := Ideal) m c := by
  funext i
  have hi : i = ix2 (i 0) (i 1) := funext fun a => by
    match a with
    | ⟨0, _⟩ => rfl
    | ⟨1, _⟩ => rfl
  rw [hi]
  exact (Cert.ReferenceIdeal.Read.result _ _ _ _ _ _ _ _ _ hP (i 0) (i 1)).trans (Cert.KernelIdeal.Ssd.result m c hP (i 0) (i 1)).symm

/-- Over finite arrays both programs end with the layer's rows. -/
theorem value : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Read.val_main_v100_eq (StableHlo.launchContents m' c)).trans ?_)
  obtain ⟨e0, e1, e2, e3, e4, e5, e6, e7, e8⟩ := hagree c
  refine Eq.trans ?_ (rows_eq m c (Cert.KernelIdeal.Ssd.par_finite m hpre c))
  rw [← e0, ← e1, ← e2, ← e3, ← e4, ← e5, ← e6, ← e7, ← e8]

/-- The input projection's reference runs, keeps its arguments and leaves every counter zero. -/
theorem inproj_ref_frame : quiescent_ReferenceInprojIdeal := fun m ρ _ =>
  (θ_run Cert.ReferenceInprojIdeal.defs _ _).mono
    (fun r h => ⟨fun c => (h c).2.2.2.2.2.2.2.2.2.2, sem_eq_zero_of_no_sems (by decide) r.2⟩)
    (Cert.ReferenceInprojIdeal.Value.run (F := Ideal) m ρ)

set_option maxHeartbeats 2000000 in
/-- The input projection's kernel and its reference end with the same ten arrays. -/
theorem inproj_value : algebraic_InprojIdeal_ReferenceInprojIdeal := by
  intro m ρ m' ρ' _ hagree
  refine ⟨_, _, _, _, _, _, _, _, _, _, Cert.InprojIdeal.Value.run_blocks (F := Ideal) m ρ, ?_⟩
  refine (θ_run Cert.ReferenceInprojIdeal.defs _ _).mono (fun _ h c => ?_) (Cert.ReferenceInprojIdeal.Value.run (F := Ideal) m' ρ')
  obtain ⟨e0, e1, e2, e3, e4, e5⟩ := hagree c
  obtain ⟨h0, h1, h2, h3, h4, h5, h6, h7, h8, h9, hargs⟩ := h c
  refine ⟨h0.trans ?_, h1.trans ?_, h2.trans ?_, h3.trans ?_, h4.trans ?_, h5.trans ?_, h6.trans ?_, h7.trans ?_, h8.trans ?_, h9.trans ?_, hargs⟩
  · refine (Cert.ReferenceInprojIdeal.Read.val_main_v91_eq (m' (c.tc.loc Cert.ReferenceInprojIdeal.main_arg0)) (m' (c.tc.loc Cert.ReferenceInprojIdeal.main_arg1)) (m' (c.tc.loc Cert.ReferenceInprojIdeal.main_arg2))).trans (Eq.trans ?_ (Cert.InprojIdeal.Inp.q_eq m c))
    rw [← e0, ← e1, ← e2]
  · refine (Cert.ReferenceInprojIdeal.Read.val_main_v92_eq m' c).trans (Eq.trans ?_ (Cert.InprojIdeal.Inp.kv_eq m c))
    rw [← e0, ← e1, ← e2, ← e3]
  · refine (Cert.ReferenceInprojIdeal.Read.val_main_v93_eq (m' (c.tc.loc Cert.ReferenceInprojIdeal.main_arg0)) (m' (c.tc.loc Cert.ReferenceInprojIdeal.main_arg1)) (m' (c.tc.loc Cert.ReferenceInprojIdeal.main_arg2))).trans (Eq.trans ?_ (Cert.InprojIdeal.Inp.iq_eq m c))
    rw [← e0, ← e1, ← e2]
  · refine (Cert.ReferenceInprojIdeal.Read.val_main_v94_eq m' c).trans (Eq.trans ?_ (Cert.InprojIdeal.Inp.keys_eq m c))
    rw [← e0, ← e1, ← e2, ← e4, ← e5]
  · refine (Cert.ReferenceInprojIdeal.Read.val_main_v88_eq m' c).trans (Eq.trans ?_ (Cert.InprojIdeal.Inp.small_eq m c))
    rw [← e0, ← e1, ← e2]
  · refine (Cert.ReferenceInprojIdeal.Read.val_main_v90_eq m' c).trans (Eq.trans ?_ (Cert.InprojIdeal.Inp.small_t_eq m c))
    rw [← e0, ← e1, ← e2]
  · refine (Cert.ReferenceInprojIdeal.Read.val_main_v34_eq (m' (c.tc.loc Cert.ReferenceInprojIdeal.main_arg0)) (m' (c.tc.loc Cert.ReferenceInprojIdeal.main_arg1)) (m' (c.tc.loc Cert.ReferenceInprojIdeal.main_arg2))).trans (Eq.trans ?_ (Cert.InprojIdeal.Inp.z_eq m c))
    rw [← e0, ← e1, ← e2]
  · refine (Cert.ReferenceInprojIdeal.Read.val_main_v35_eq (m' (c.tc.loc Cert.ReferenceInprojIdeal.main_arg0)) (m' (c.tc.loc Cert.ReferenceInprojIdeal.main_arg1)) (m' (c.tc.loc Cert.ReferenceInprojIdeal.main_arg2))).trans (Eq.trans ?_ (Cert.InprojIdeal.Inp.xbc_eq m c))
    rw [← e0, ← e1, ← e2]
  · refine (Cert.ReferenceInprojIdeal.Read.val_main_v37_eq (m' (c.tc.loc Cert.ReferenceInprojIdeal.main_arg0)) (m' (c.tc.loc Cert.ReferenceInprojIdeal.main_arg1)) (m' (c.tc.loc Cert.ReferenceInprojIdeal.main_arg2))).trans (Eq.trans ?_ (Cert.InprojIdeal.Inp.ga_eq m c))
    rw [← e0, ← e1, ← e2]
  · refine (Cert.ReferenceInprojIdeal.Read.val_main_v38_eq (m' (c.tc.loc Cert.ReferenceInprojIdeal.main_arg0)) (m' (c.tc.loc Cert.ReferenceInprojIdeal.main_arg1)) (m' (c.tc.loc Cert.ReferenceInprojIdeal.main_arg2))).trans (Eq.trans ?_ (Cert.InprojIdeal.Inp.gb_eq m c))
    rw [← e0, ← e1, ← e2]

/-- Over a table in range the expert call runs, keeps its arguments and leaves every counter zero. -/
theorem experts_frame : quiescent_Experts := fun m ρ h =>
  Cert.Experts.Ex.frame m ρ (Cert.ExpertsIdeal.Ex.ok_of_pre (F := Bits) m h)

/-- The same over exact numbers. -/
theorem experts_ideal_frame : quiescent_ExpertsIdeal := fun m ρ h =>
  Cert.ExpertsIdeal.Ex.frame m ρ (Cert.ExpertsIdeal.Ex.ok_of_pre m h)

/-- The experts' reference runs, keeps its arguments and leaves every counter zero. -/
theorem experts_ref_frame : quiescent_ReferenceExpertsIdeal := fun m ρ _ =>
  (θ_run Cert.ReferenceExpertsIdeal.defs _ _).mono
    (fun r h => ⟨fun c => (h c).2, sem_eq_zero_of_no_sems (by decide) r.2⟩)
    (Cert.ReferenceExpertsIdeal.Value.run (F := Ideal) m ρ)

/-- Over a table in range the expert call and its reference end with the same array. -/
theorem experts_value : algebraic_ExpertsIdeal_ReferenceExpertsIdeal := by
  intro m ρ m' ρ' hpre hagree
  have hO := Cert.ExpertsIdeal.Ex.ok_of_pre m hpre
  refine ⟨fun c => (Cert.ExpertsIdeal.Ex.dats m hO 0 c).arrAt 5 (Cert.ExpertsIdeal.Ex.cfgM m hO).N, Cert.ExpertsIdeal.Ex.run m ρ hO _ fun _ => rfl, ?_⟩
  refine (θ_run Cert.ReferenceExpertsIdeal.defs _ _).mono (fun _ h c => ⟨?_, (h c).2⟩) (Cert.ReferenceExpertsIdeal.Value.run (F := Ideal) m' ρ')
  refine (h c).1.trans ((Cert.ReferenceExpertsIdeal.Read.val_main_v60_eq m' c).trans ?_)
  obtain ⟨e0, e1, e2, e3, e4, e5, e6⟩ := hagree c
  refine Eq.trans ?_ (Cert.ExpertsIdeal.Ex.arr_eq m hO c (Cert.ExpertsIdeal.Ex.named _ _ _ _ _ _ _ (hpre c)))
  rw [← e0, ← e1, ← e2, ← e3, ← e4, ← e5, ← e6]

theorem claim : Cert.Claim := ⟨Cert.Kernel.Gen.facts, Cert.KernelIdeal.Gen.facts, Cert.ReferenceIdeal.Gen.facts, Cert.Inproj.Gen.facts,
  Cert.InprojIdeal.Gen.facts, Cert.ReferenceInprojIdeal.Gen.facts, Cert.Experts.Gen.facts, Cert.ExpertsIdeal.Gen.facts, Cert.ReferenceExpertsIdeal.Gen.facts,
  Cert.Pre_finite.Gen.facts, Cert.Pre_in_range.Gen.facts,
  fun m ρ _ => Cert.Kernel.Gen.frame m ρ, fun m ρ _ => Cert.KernelIdeal.Gen.frame m ρ, fun m ρ _ => Cert.KernelIdeal.Gen.frame m ρ, ref_frame,
  fun m ρ _ => ref_frame m ρ trivial, fun m ρ _ => Cert.Inproj.Gen.frame m ρ, fun m ρ _ => Cert.InprojIdeal.Gen.frame m ρ, inproj_ref_frame,
  experts_frame, experts_ideal_frame, experts_ref_frame, fun m ρ _ => experts_ref_frame m ρ trivial,
  (trivial : preserves_Kernel_KernelIdeal), value, (trivial : preserves_Inproj_InprojIdeal), inproj_value, (trivial : preserves_Experts_ExpertsIdeal), experts_value⟩

end Cert.Proof

end
